-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v73_4)) (v1 : (c : Dev Cert.Kernel3Ideal.nD) → Buf (Elt Ideal) ((c.tc : Thread Cert.Kernel3Ideal.nD Cert.Kernel3Ideal.τ).loc Cert.Kernel3Ideal.main_v73_5)) (v2 : (c : Dev Cert.Kernel3Ideal.nD) → Buf (Elt Ideal) ((c.tc : Thread Cert.Kernel3Ideal.nD Cert.Kernel3Ideal.τ).loc Cert.Kernel3Ideal.main_v73_6)) (v3 : (c : Dev Cert.Kernel3Ideal.nD) → Buf (Elt Ideal) ((c.tc : Thread Cert.Kernel3Ideal.nD Cert.Kernel3Ideal.τ).loc Cert.Kernel3Ideal.main_v73_9)) (v4 : (c : Dev Cert.Kernel3Ideal.nD) → Buf (Elt Ideal) ((c.tc : Thread Cert.Kernel3Ideal.nD Cert.Kernel3Ideal.τ).loc Cert.Kernel3Ideal.main_v73_10)) (v5 : (c : Dev Cert.Kernel3Ideal.nD) → Buf (Elt Ideal) ((c.tc : Thread Cert.Kernel3Ideal.nD Cert.Kernel3Ideal.τ).loc Cert.Kernel3Ideal.main_v73_11)) (v6 : (c : Dev Cert.Kernel3Ideal.nD) → Buf (Elt Ideal) ((c.tc : Thread Cert.Kernel3Ideal.nD Cert.Kernel3Ideal.τ).loc Cert.Kernel3Ideal.main_v73_12)) (v7 : (c : Dev Cert.Kernel3Ideal.nD) → Buf (Elt Ideal) ((c.tc : Thread Cert.Kernel3Ideal.nD Cert.Kernel3Ideal.τ).loc Cert.Kernel3Ideal.main_v73_13)) (v8 : (c : Dev Cert.Kernel3Ideal.nD) → Buf (Elt Ideal) ((c.tc : Thread Cert.Kernel3Ideal.nD Cert.Kernel3Ideal.τ).loc Cert.Kernel3Ideal.main_v73_14)) (v9 : (c : Dev Cert.Kernel3Ideal.nD) → Buf (Elt Ideal) ((c.tc : Thread Cert.Kernel3Ideal.nD Cert.Kernel3Ideal.τ).loc Cert.Kernel3Ideal.main_v73_15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v73_4) = v0 c
          ∧ r.2.mem ((c.tc : Thread Cert.Kernel3Ideal.nD Cert.Kernel3Ideal.τ).loc Cert.Kernel3Ideal.main_v73_5) = v1 c
          ∧ r.2.mem ((c.tc : Thread Cert.Kernel3Ideal.nD Cert.Kernel3Ideal.τ).loc Cert.Kernel3Ideal.main_v73_6) = v2 c
          ∧ r.2.mem ((c.tc : Thread Cert.Kernel3Ideal.nD Cert.Kernel3Ideal.τ).loc Cert.Kernel3Ideal.main_v73_9) = v3 c
          ∧ r.2.mem ((c.tc : Thread Cert.Kernel3Ideal.nD Cert.Kernel3Ideal.τ).loc Cert.Kernel3Ideal.main_v73_10) = v4 c
          ∧ r.2.mem ((c.tc : Thread Cert.Kernel3Ideal.nD Cert.Kernel3Ideal.τ).loc Cert.Kernel3Ideal.main_v73_11) = v5 c
          ∧ r.2.mem ((c.tc : Thread Cert.Kernel3Ideal.nD Cert.Kernel3Ideal.τ).loc Cert.Kernel3Ideal.main_v73_12) = v6 c
          ∧ r.2.mem ((c.tc : Thread Cert.Kernel3Ideal.nD Cert.Kernel3Ideal.τ).loc Cert.Kernel3Ideal.main_v73_13) = v7 c
          ∧ r.2.mem ((c.tc : Thread Cert.Kernel3Ideal.nD Cert.Kernel3Ideal.τ).loc Cert.Kernel3Ideal.main_v73_14) = v8 c
          ∧ r.2.mem ((c.tc : Thread Cert.Kernel3Ideal.nD Cert.Kernel3Ideal.τ).loc Cert.Kernel3Ideal.main_v73_15) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v151) = v2 c
          ∧ r.2.mem ((c.tc : Thread Cert.Reference3Ideal.nD Cert.Reference3Ideal.τ).loc Cert.Reference3Ideal.main_v152) = v3 c
          ∧ r.2.mem ((c.tc : Thread Cert.Reference3Ideal.nD Cert.Reference3Ideal.τ).loc Cert.Reference3Ideal.main_v153) = v4 c
          ∧ r.2.mem ((c.tc : Thread Cert.Reference3Ideal.nD Cert.Reference3Ideal.τ).loc Cert.Reference3Ideal.main_v155) = v5 c
          ∧ r.2.mem ((c.tc : Thread Cert.Reference3Ideal.nD Cert.Reference3Ideal.τ).loc Cert.Reference3Ideal.main_v156) = v6 c
          ∧ r.2.mem ((c.tc : Thread Cert.Reference3Ideal.nD Cert.Reference3Ideal.τ).loc Cert.Reference3Ideal.main_v157) = v7 c
          ∧ r.2.mem ((c.tc : Thread Cert.Reference3Ideal.nD Cert.Reference3Ideal.τ).loc Cert.Reference3Ideal.main_v158) = v8 c
          ∧ r.2.mem ((c.tc : Thread Cert.Reference3Ideal.nD Cert.Reference3Ideal.τ).loc Cert.Reference3Ideal.main_v159) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_args.lean ====
abbrev S4x4096x8x64 : Shape := ⟨4, ![4, 4096, 8, 64]⟩
abbrev S4x4096x8 : Shape := ⟨3, ![4, 4096, 8]⟩
abbrev S_ : Shape := ⟨0, ![]⟩
abbrev S8388608 : Shape := ⟨1, ![8388608]⟩
abbrev S131072 : Shape := ⟨1, ![131072]⟩
abbrev S25296896 : Shape := ⟨1, ![25296896]⟩

class Facts : Prop where
  bcast_S_S4x4096x8x64 : S_.BroadcastsInDim S4x4096x8x64 (![] : Fin 0 → Fin S4x4096x8x64.rank)
  shapeCasts_S4x4096x8x64_S8388608 : S4x4096x8x64.ShapeCasts S8388608
  bcast_S_S4x4096x8 : S_.BroadcastsInDim S4x4096x8 (![] : Fin 0 → Fin S4x4096x8.rank)
  shapeCasts_S4x4096x8_S131072 : S4x4096x8.ShapeCasts S131072
  concatenates_S8388608_S8388608_S8388608_S131072_S25296896_d0 : Shape.Concatenates [S8388608, S8388608, S8388608, S131072] S25296896 0

variable [Facts]

def fn {F : FTy → Type} [FloatOps F] (main_arg0 : FVec F S4x4096x8x64 .f32) (main_arg1 : FVec F S4x4096x8x64 .f32) (main_arg2 : FVec F S4x4096x8x64 .f32) (main_arg3 : FVec F S4x4096x8 .f32) : IVec S25296896 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : IVec S8388608 1 := shapeCast S8388608 main_v2 shapeCasts_S4x4096x8x64_S8388608
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_v7 : IVec S8388608 1 := shapeCast S8388608 main_v6 shapeCasts_S4x4096x8x64_S8388608
  let main_v8 : FVec F S4x4096x8x64 .f32 := Host.absf main_arg2
  let main_cst_1 : FVec F S_ .f32 := constant S_ .f32 0x7F800000#32
  let main_v9 : FVec F S4x4096x8x64 .f32 := broadcastInDim S4x4096x8x64 ![] bcast_S_S4x4096x8x64 main_cst_1
  let main_v10 : IVec S4x4096x8x64 1 := cmpf .olt main_v8 main_v9
  let main_v11 : IVec S8388608 1 := shapeCast S8388608 main_v10 shapeCasts_S4x4096x8x64_S8388608
  let main_v12 : FVec F S4x4096x8 .f32 := Host.absf main_arg3
  let main_cst_2 : FVec F S_ .f32 := constant S_ .f32 0x7F800000#32
  let main_v13 : FVec F S4x4096x8 .f32 := broadcastInDim S4x4096x8 ![] bcast_S_S4x4096x8 main_cst_2
  let main_v14 : IVec S4x4096x8 1 := cmpf .olt main_v12 main_v13
  let main_v15 : IVec S131072 1 := shapeCast S131072 main_v14 shapeCasts_S4x4096x8_S131072
  let main_v16 : IVec S25296896 1 := concatenate S25296896 0 [⟨S8388608, main_v3⟩, ⟨S8388608, main_v7⟩, ⟨S8388608, main_v11⟩, ⟨S131072, main_v15⟩] concatenates_S8388608_S8388608_S8388608_S131072_S25296896_d0
  main_v16
-- ==== Kernel.lean ====
abbrev S4x4096x8x64 : Shape := ⟨4, ![4, 4096, 8, 64]⟩
abbrev S4x4096x8 : Shape := ⟨3, ![4, 4096, 8]⟩
abbrev S_ : Shape := ⟨0, ![]⟩
abbrev S16384x512 : Shape := ⟨2, ![16384, 512]⟩
abbrev S512x16384 : Shape := ⟨2, ![512, 16384]⟩
abbrev S4x4096x3 : Shape := ⟨3, ![4, 4096, 3]⟩
abbrev S4x4096x101 : Shape := ⟨3, ![4, 4096, 101]⟩
abbrev S4x4096x128 : Shape := ⟨3, ![4, 4096, 128]⟩
abbrev S16384x8x64 : Shape := ⟨3, ![16384, 8, 64]⟩
abbrev S8x64x16384 : Shape := ⟨3, ![8, 64, 16384]⟩
abbrev S8x16x16384 : Shape := ⟨3, ![8, 16, 16384]⟩
abbrev S8x80x16384 : Shape := ⟨3, ![8, 80, 16384]⟩
abbrev S640x16384 : Shape := ⟨2, ![640, 16384]⟩
abbrev S4x8x4096 : Shape := ⟨3, ![4, 8, 4096]⟩
abbrev S4x4096x512 : Shape := ⟨3, ![4, 4096, 512]⟩
abbrev S512x256 : Shape := ⟨2, ![512, 256]⟩
abbrev S1x4096x512 : Shape := ⟨3, ![1, 4096, 512]⟩
abbrev S1x4096x128 : Shape := ⟨3, ![1, 4096, 128]⟩
abbrev S640x4096 : Shape := ⟨2, ![640, 4096]⟩
abbrev S1x8x256 : Shape := ⟨3, ![1, 8, 256]⟩
abbrev S1x256x512 : Shape := ⟨3, ![1, 256, 512]⟩
abbrev S2x8x512x256 : Shape := ⟨4, ![2, 8, 512, 256]⟩
abbrev S8x256 : Shape := ⟨2, ![8, 256]⟩
abbrev S128x256 : Shape := ⟨2, ![128, 256]⟩
abbrev S64x256 : Shape := ⟨2, ![64, 256]⟩
abbrev S1x256 : Shape := ⟨2, ![1, 256]⟩
abbrev S256x256 : Shape := ⟨2, ![256, 256]⟩
abbrev S1x512x128 : Shape := ⟨3, ![1, 512, 128]⟩
abbrev S512x128 : Shape := ⟨2, ![512, 128]⟩
abbrev S1x1x512x256 : Shape := ⟨4, ![1, 1, 512, 256]⟩
abbrev S640x256 : Shape := ⟨2, ![640, 256]⟩
abbrev S256 : Shape := ⟨1, ![256]⟩
abbrev S80x256 : Shape := ⟨2, ![80, 256]⟩
abbrev S80x512 : Shape := ⟨2, ![80, 512]⟩
abbrev S512x1 : Shape := ⟨2, ![512, 1]⟩
abbrev S256x512 : Shape := ⟨2, ![256, 512]⟩

abbrev nBuf : Space → Nat
  | .hbm => 44
  | .vmem => 10
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S_, .f32⟩
  | .hbm, ⟨5, _⟩ => ⟨S_, .f32⟩
  | .hbm, ⟨6, _⟩ => ⟨S16384x512, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S512x16384, .f32⟩
  | .hbm, ⟨13, _⟩ => ⟨S512x16384, .bf16⟩
  | .hbm, ⟨14, _⟩ => ⟨S4x4096x8, .f32⟩
  | .hbm, ⟨15, _⟩ => ⟨S4x4096x8, .f32⟩
  | .hbm, ⟨16, _⟩ => ⟨S4x4096x8, .f32⟩
  | .hbm, ⟨17, _⟩ => ⟨S4x4096x8, .bf16⟩
  | .hbm, ⟨18, _⟩ => ⟨S4x4096x8, .f32⟩
  | .hbm, ⟨19, _⟩ => ⟨S4x4096x8, .f32⟩
  | .hbm, ⟨20, _⟩ => ⟨S4x4096x8, .bf16⟩
  | .hbm, ⟨21, _⟩ => ⟨S4x4096x8, .f32⟩
  | .hbm, ⟨22, _⟩ => ⟨S4x4096x8, .f32⟩
  | .hbm, ⟨23, _⟩ => ⟨S4x4096x8, .bf16⟩
  | .hbm, ⟨24, _⟩ => ⟨S4x4096x8, .f32⟩
  | .hbm, ⟨25, _⟩ => ⟨S4x4096x8, .f32⟩
  | .hbm, ⟨26, _⟩ => ⟨S4x4096x8, .f32⟩
  | .hbm, ⟨27, _⟩ => ⟨S_, .f32⟩
  | .hbm, ⟨28, _⟩ => ⟨S4x4096x3, .f32⟩
  | .hbm, ⟨29, _⟩ => ⟨S_, .f32⟩
  | .hbm, ⟨30, _⟩ => ⟨S4x4096x101, .f32⟩
  | .hbm, ⟨31, _⟩ => ⟨S4x4096x128, .f32⟩
  | .hbm, ⟨32, _⟩ => ⟨S4x4096x128, .bf16⟩
  | .hbm, ⟨33, _⟩ => ⟨S16384x8x64, .f32⟩
  | .hbm, ⟨34, _⟩ => ⟨S8x64x16384, .f32⟩
  | .hbm, ⟨35, _⟩ => ⟨S_, .f32⟩
  | .hbm, ⟨36, _⟩ => ⟨S8x16x16384, .f32⟩
  | .hbm, ⟨37, _⟩ => ⟨S8x80x16384, .f32⟩
  | .hbm, ⟨38, _⟩ => ⟨S640x16384, .f32⟩
  | .hbm, ⟨39, _⟩ => ⟨S640x16384, .bf16⟩
  | .hbm, ⟨40, _⟩ => ⟨S4x8x4096, .f32⟩
  | .hbm, ⟨41, _⟩ => ⟨S4x4096x512, .f32⟩
  | .hbm, ⟨42, _⟩ => ⟨S4x4096x512, .bf16⟩
  | .hbm, ⟨43, _⟩ => ⟨S4x4096x512, .bf16⟩
  | .local _ .vmem, ⟨0, _⟩ => ⟨S512x256, .bf16⟩
  | .local _ .vmem, ⟨1, _⟩ => ⟨S512x256, .bf16⟩
  | .local _ .vmem, ⟨2, _⟩ => ⟨S1x4096x512, .bf16⟩
  | .local _ .vmem, ⟨3, _⟩ => ⟨S1x4096x128, .bf16⟩
  | .local _ .vmem, ⟨4, _⟩ => ⟨S640x4096, .bf16⟩
  | .local _ .vmem, ⟨5, _⟩ => ⟨S1x8x256, .f32⟩
  | .local _ .vmem, ⟨6, _⟩ => ⟨S1x8x256, .f32⟩
  | .local _ .vmem, ⟨7, _⟩ => ⟨S1x256x512, .bf16⟩
  | .local _ .vmem, ⟨8, _⟩ => ⟨S1x256x512, .bf16⟩
  | .local _ .vmem, ⟨9, _⟩ => ⟨S2x8x512x256, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def k0_mult1 : BitVec 32 :=
  let c0_i32_120 : BitVec 32 := 0#32
  c0_i32_120
@[reducible] def k0_t1_loop (i : grid0.Coords) : Scf.Loop 32 :=
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_181 : BitVec 32 := 1#32
  ⟨c0_i32_179, v577, c1_i32_181⟩
def k0_mult2 (i : grid0.Coords) (k0_t1 : Fin (k0_t1_loop i).trips) : BitVec 32 :=
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_195 : BitVec 32 := 1#32
  let v633 : BitVec 32 := Scalar.addi v632 c1_i32_195
  let c512_i32_196 : BitVec 32 := 512#32
  let v634 : BitVec 32 := Scalar.muli v633 c512_i32_196
  v634
def k0_off1 (i : grid0.Coords) (k0_t1 : Fin (k0_t1_loop i).trips) (c1_i32_195 : BitVec 32) : Fin 3 → Nat :=
  let c0_197 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v636 : Index := Scalar.indexCast v635
  let c0_198 : Index := 0#32
  ![0, v636.toNat, 0]
def k0_off2 (i : grid0.Coords) (k0_t1 : Fin (k0_t1_loop i).trips) (c1_i32_195 : BitVec 32) : Fin 3 → Nat :=
  let c0_199 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v639 : Index := Scalar.indexCast v635
  let c0_200 : Index := 0#32
  ![0, v639.toNat, 0]
def k0_off3 (i : grid0.Coords) (k0_t1 : Fin (k0_t1_loop i).trips) (c1_i32_195 : BitVec 32) : Fin 3 → Nat :=
  let c0_205 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v649 : Index := Scalar.indexCast v635
  let c128_206 : Index := 128#32
  ![0, v649.toNat, 128]
def k0_off4 (i : grid0.Coords) (k0_t1 : Fin (k0_t1_loop i).trips) (c1_i32_195 : BitVec 32) : Fin 3 → Nat :=
  let c0_211 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v659 : Index := Scalar.indexCast v635
  let c256_212 : Index := 256#32
  ![0, v659.toNat, 256]
def k0_off5 (i : grid0.Coords) (k0_t1 : Fin (k0_t1_loop i).trips) (c1_i32_195 : BitVec 32) : Fin 3 → Nat :=
  let c0_217 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v669 : Index := Scalar.indexCast v635
  let c384_218 : Index := 384#32
  ![0, v669.toNat, 384]
def k0_mult3 (i : grid0.Coords) (k0_t1 : Fin (k0_t1_loop i).trips) : BitVec 32 :=
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  v719
def k0_off6 (i : grid0.Coords) (k0_t1 : Fin (k0_t1_loop i).trips) : Fin 2 → Nat :=
  let c0_289 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v734 : Index := Scalar.indexCast v720
  ![0, v734.toNat]
def k0_off7 (i : grid0.Coords) (k0_t1 : Fin (k0_t1_loop i).trips) : Fin 2 → Nat :=
  let c80 : Index := 80#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v752 : Index := Scalar.indexCast v720
  ![80, v752.toNat]
def k0_off8 (i : grid0.Coords) (k0_t1 : Fin (k0_t1_loop i).trips) : Fin 2 → Nat :=
  let c160 : Index := 160#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v770 : Index := Scalar.indexCast v720
  ![160, v770.toNat]
def k0_off9 (i : grid0.Coords) (k0_t1 : Fin (k0_t1_loop i).trips) : Fin 2 → Nat :=
  let c240 : Index := 240#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v788 : Index := Scalar.indexCast v720
  ![240, v788.toNat]
def k0_off10 (i : grid0.Coords) (k0_t1 : Fin (k0_t1_loop i).trips) : Fin 2 → Nat :=
  let c320 : Index := 320#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v806 : Index := Scalar.indexCast v720
  ![320, v806.toNat]
def k0_off11 (i : grid0.Coords) (k0_t1 : Fin (k0_t1_loop i).trips) : Fin 2 → Nat :=
  let c400 : Index := 400#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v824 : Index := Scalar.indexCast v720
  ![400, v824.toNat]
def k0_off12 (i : grid0.Coords) (k0_t1 : Fin (k0_t1_loop i).trips) : Fin 2 → Nat :=
  let c480 : Index := 480#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v842 : Index := Scalar.indexCast v720
  ![480, v842.toNat]
def k0_off13 (i : grid0.Coords) (k0_t1 : Fin (k0_t1_loop i).trips) : Fin 2 → Nat :=
  let c560 : Index := 560#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c512_i32_287 : BitVec 32 := 512#32
  let v719 : BitVec 32 := Scalar.muli v632 c512_i32_287
  let v720 : BitVec 32 := v719
  let v860 : Index := Scalar.indexCast v720
  ![560, v860.toNat]
def k0_mult4 (i : grid0.Coords) (k0_t1 : Fin (k0_t1_loop i).trips) : BitVec 32 :=
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c2_i32_305 : BitVec 32 := 2#32
  let v867 : BitVec 32 := Scalar.addi v632 c2_i32_305
  let c512_i32_306 : BitVec 32 := 512#32
  let v868 : BitVec 32 := Scalar.muli v867 c512_i32_306
  v868
def k0_mult5 (i : grid0.Coords) (k0_t1 : Fin (k0_t1_loop i).trips) : BitVec 32 :=
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  v954
def k0_off14 (i : grid0.Coords) (k0_t1 : Fin (k0_t1_loop i).trips) : Fin 2 → Nat :=
  let c0_400 : Index := 0#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v969 : Index := Scalar.indexCast v955
  ![0, v969.toNat]
def k0_off15 (i : grid0.Coords) (k0_t1 : Fin (k0_t1_loop i).trips) : Fin 2 → Nat :=
  let c80_403 : Index := 80#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v987 : Index := Scalar.indexCast v955
  ![80, v987.toNat]
def k0_off16 (i : grid0.Coords) (k0_t1 : Fin (k0_t1_loop i).trips) : Fin 2 → Nat :=
  let c160_406 : Index := 160#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1005 : Index := Scalar.indexCast v955
  ![160, v1005.toNat]
def k0_off17 (i : grid0.Coords) (k0_t1 : Fin (k0_t1_loop i).trips) : Fin 2 → Nat :=
  let c240_409 : Index := 240#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1023 : Index := Scalar.indexCast v955
  ![240, v1023.toNat]
def k0_off18 (i : grid0.Coords) (k0_t1 : Fin (k0_t1_loop i).trips) : Fin 2 → Nat :=
  let c320_412 : Index := 320#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1041 : Index := Scalar.indexCast v955
  ![320, v1041.toNat]
def k0_off19 (i : grid0.Coords) (k0_t1 : Fin (k0_t1_loop i).trips) : Fin 2 → Nat :=
  let c400_415 : Index := 400#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1059 : Index := Scalar.indexCast v955
  ![400, v1059.toNat]
def k0_off20 (i : grid0.Coords) (k0_t1 : Fin (k0_t1_loop i).trips) : Fin 2 → Nat :=
  let c480_418 : Index := 480#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1077 : Index := Scalar.indexCast v955
  ![480, v1077.toNat]
def k0_off21 (i : grid0.Coords) (k0_t1 : Fin (k0_t1_loop i).trips) : Fin 2 → Nat :=
  let c560_421 : Index := 560#32
  let c2_i32_194 : BitVec 32 := 2#32
  let c0_i32_179 : BitVec 32 := 0#32
  let c1_i32_181 : BitVec 32 := 1#32
  let arg9 : BitVec 32 := Scf.iv c0_i32_179 c1_i32_181 k0_t1
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1095 : Index := Scalar.indexCast v955
  ![560, v1095.toNat]
@[reducible] def k0_t2_loop (i : grid0.Coords) : Scf.Loop 32 :=
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let v574 : BitVec 32 := Scalar.addi c0_i32_179 v573
  let c1_i32_182 : BitVec 32 := 1#32
  ⟨v577, v574, c1_i32_182⟩
def k0_mult6 (i : grid0.Coords) (k0_t2 : Fin (k0_t2_loop i).trips) : BitVec 32 :=
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_195 : BitVec 32 := 1#32
  let v633 : BitVec 32 := Scalar.addi v632 c1_i32_195
  let c512_i32_196 : BitVec 32 := 512#32
  let v634 : BitVec 32 := Scalar.muli v633 c512_i32_196
  v634
def k0_off22 (i : grid0.Coords) (k0_t2 : Fin (k0_t2_loop i).trips) (c1_i32_195 : BitVec 32) : Fin 3 → Nat :=
  let c0_197 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v636 : Index := Scalar.indexCast v635
  let c0_198 : Index := 0#32
  ![0, v636.toNat, 0]
def k0_off23 (i : grid0.Coords) (k0_t2 : Fin (k0_t2_loop i).trips) (c1_i32_195 : BitVec 32) : Fin 3 → Nat :=
  let c0_199 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v639 : Index := Scalar.indexCast v635
  let c0_200 : Index := 0#32
  ![0, v639.toNat, 0]
def k0_off24 (i : grid0.Coords) (k0_t2 : Fin (k0_t2_loop i).trips) (c1_i32_195 : BitVec 32) : Fin 3 → Nat :=
  let c0_205 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v649 : Index := Scalar.indexCast v635
  let c128_206 : Index := 128#32
  ![0, v649.toNat, 128]
def k0_off25 (i : grid0.Coords) (k0_t2 : Fin (k0_t2_loop i).trips) (c1_i32_195 : BitVec 32) : Fin 3 → Nat :=
  let c0_211 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v659 : Index := Scalar.indexCast v635
  let c256_212 : Index := 256#32
  ![0, v659.toNat, 256]
def k0_off26 (i : grid0.Coords) (k0_t2 : Fin (k0_t2_loop i).trips) (c1_i32_195 : BitVec 32) : Fin 3 → Nat :=
  let c0_217 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let v633 : BitVec 32 := Scalar.addi v632 c1_i32_195
  let c512_i32_196 : BitVec 32 := 512#32
  let v634 : BitVec 32 := Scalar.muli v633 c512_i32_196
  let v635 : BitVec 32 := v634
  let v669 : Index := Scalar.indexCast v635
  let c384_218 : Index := 384#32
  ![0, v669.toNat, 384]
def k0_mult7 (i : grid0.Coords) (k0_t2 : Fin (k0_t2_loop i).trips) : BitVec 32 :=
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  v719
def k0_off27 (i : grid0.Coords) (k0_t2 : Fin (k0_t2_loop i).trips) : Fin 2 → Nat :=
  let c0_289 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v734 : Index := Scalar.indexCast v720
  ![0, v734.toNat]
def k0_off28 (i : grid0.Coords) (k0_t2 : Fin (k0_t2_loop i).trips) : Fin 2 → Nat :=
  let c80 : Index := 80#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v752 : Index := Scalar.indexCast v720
  ![80, v752.toNat]
def k0_off29 (i : grid0.Coords) (k0_t2 : Fin (k0_t2_loop i).trips) : Fin 2 → Nat :=
  let c160 : Index := 160#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v770 : Index := Scalar.indexCast v720
  ![160, v770.toNat]
def k0_off30 (i : grid0.Coords) (k0_t2 : Fin (k0_t2_loop i).trips) : Fin 2 → Nat :=
  let c240 : Index := 240#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v788 : Index := Scalar.indexCast v720
  ![240, v788.toNat]
def k0_off31 (i : grid0.Coords) (k0_t2 : Fin (k0_t2_loop i).trips) : Fin 2 → Nat :=
  let c320 : Index := 320#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v806 : Index := Scalar.indexCast v720
  ![320, v806.toNat]
def k0_off32 (i : grid0.Coords) (k0_t2 : Fin (k0_t2_loop i).trips) : Fin 2 → Nat :=
  let c400 : Index := 400#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v824 : Index := Scalar.indexCast v720
  ![400, v824.toNat]
def k0_off33 (i : grid0.Coords) (k0_t2 : Fin (k0_t2_loop i).trips) : Fin 2 → Nat :=
  let c480 : Index := 480#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v842 : Index := Scalar.indexCast v720
  ![480, v842.toNat]
def k0_off34 (i : grid0.Coords) (k0_t2 : Fin (k0_t2_loop i).trips) : Fin 2 → Nat :=
  let c560 : Index := 560#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c512_i32_287 : BitVec 32 := 512#32
  let v719 : BitVec 32 := Scalar.muli v632 c512_i32_287
  let v720 : BitVec 32 := v719
  let v860 : Index := Scalar.indexCast v720
  ![560, v860.toNat]
def k0_mult8 (i : grid0.Coords) (k0_t2 : Fin (k0_t2_loop i).trips) : BitVec 32 :=
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c2_i32_305 : BitVec 32 := 2#32
  let v867 : BitVec 32 := Scalar.addi v632 c2_i32_305
  let c512_i32_306 : BitVec 32 := 512#32
  let v868 : BitVec 32 := Scalar.muli v867 c512_i32_306
  v868
def k0_mult9 (i : grid0.Coords) (k0_t2 : Fin (k0_t2_loop i).trips) : BitVec 32 :=
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  v954
def k0_off35 (i : grid0.Coords) (k0_t2 : Fin (k0_t2_loop i).trips) : Fin 2 → Nat :=
  let c0_400 : Index := 0#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v969 : Index := Scalar.indexCast v955
  ![0, v969.toNat]
def k0_off36 (i : grid0.Coords) (k0_t2 : Fin (k0_t2_loop i).trips) : Fin 2 → Nat :=
  let c80_403 : Index := 80#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v987 : Index := Scalar.indexCast v955
  ![80, v987.toNat]
def k0_off37 (i : grid0.Coords) (k0_t2 : Fin (k0_t2_loop i).trips) : Fin 2 → Nat :=
  let c160_406 : Index := 160#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1005 : Index := Scalar.indexCast v955
  ![160, v1005.toNat]
def k0_off38 (i : grid0.Coords) (k0_t2 : Fin (k0_t2_loop i).trips) : Fin 2 → Nat :=
  let c240_409 : Index := 240#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1023 : Index := Scalar.indexCast v955
  ![240, v1023.toNat]
def k0_off39 (i : grid0.Coords) (k0_t2 : Fin (k0_t2_loop i).trips) : Fin 2 → Nat :=
  let c320_412 : Index := 320#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1041 : Index := Scalar.indexCast v955
  ![320, v1041.toNat]
def k0_off40 (i : grid0.Coords) (k0_t2 : Fin (k0_t2_loop i).trips) : Fin 2 → Nat :=
  let c400_415 : Index := 400#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1059 : Index := Scalar.indexCast v955
  ![400, v1059.toNat]
def k0_off41 (i : grid0.Coords) (k0_t2 : Fin (k0_t2_loop i).trips) : Fin 2 → Nat :=
  let c480_418 : Index := 480#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1077 : Index := Scalar.indexCast v955
  ![480, v1077.toNat]
def k0_off42 (i : grid0.Coords) (k0_t2 : Fin (k0_t2_loop i).trips) : Fin 2 → Nat :=
  let c560_421 : Index := 560#32
  let c2_i32_194 : BitVec 32 := 2#32
  let c0_i32_179 : BitVec 32 := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_169 : BitVec 32 := 1#32
  let v553 : BitVec 32 := Scalar.subi v484 c1_i32_169
  let c0_i32_171 : BitVec 32 := 0#32
  let v555 : BitVec 1 := Scalar.cmpi .sgt v553 c0_i32_171
  let v556 : BitVec 32 := Scalar.extui v555
  let c0_i32_172 : BitVec 32 := 0#32
  let v557 : BitVec 1 := Scalar.cmpi .slt v553 c0_i32_172
  let v558 : BitVec 32 := Scalar.extui v557
  let v559 : BitVec 32 := Scalar.subi v556 v558
  let c2_i32_170 : BitVec 32 := 2#32
  let c0_i32_173 : BitVec 32 := 0#32
  let v560 : BitVec 1 := Scalar.cmpi .sgt c2_i32_170 c0_i32_173
  let v561 : BitVec 32 := Scalar.extui v560
  let c0_i32_174 : BitVec 32 := 0#32
  let v562 : BitVec 1 := Scalar.cmpi .slt c2_i32_170 c0_i32_174
  let v563 : BitVec 32 := Scalar.extui v562
  let v564 : BitVec 32 := Scalar.subi v561 v563
  let v565 : BitVec 1 := Scalar.cmpi .ne v559 v564
  let v566 : BitVec 32 := Scalar.remsi v553 c2_i32_170
  let c0_i32_175 : BitVec 32 := 0#32
  let v567 : BitVec 1 := Scalar.cmpi .ne v566 c0_i32_175
  let v568 : BitVec 1 := Scalar.andi v565 v567
  let v554 : BitVec 32 := Scalar.divsi v553 c2_i32_170
  let c1_i32_176 : BitVec 32 := 1#32
  let v569 : BitVec 32 := Scalar.subi v554 c1_i32_176
  let v570 : BitVec 32 := Scalar.select v568 v569 v554
  let v573 : BitVec 32 := Scalar.subi v570 c0_i32_179
  let c1_i32_180 : BitVec 32 := 1#32
  let v575 : BitVec 32 := Scalar.divsi v573 c1_i32_180
  let v576 : BitVec 32 := Scalar.muli v575 c1_i32_180
  let v577 : BitVec 32 := Scalar.addi c0_i32_179 v576
  let c1_i32_182 : BitVec 32 := 1#32
  let arg9 : BitVec 32 := Scf.iv v577 c1_i32_182 k0_t2
  let v632 : BitVec 32 := Scalar.muli c2_i32_194 arg9
  let c1_i32_365 : BitVec 32 := 1#32
  let v937 : BitVec 32 := Scalar.addi v632 c1_i32_365
  let c512_i32_398 : BitVec 32 := 512#32
  let v954 : BitVec 32 := Scalar.muli v937 c512_i32_398
  let v955 : BitVec 32 := v954
  let v1095 : Index := Scalar.indexCast v955
  ![560, v1095.toNat]
def k0_cond1 (i : grid0.Coords) : BitVec 1 :=
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c2_i32_183 : BitVec 32 := 2#32
  let c0_i32_184 : BitVec 32 := 0#32
  let v580 : BitVec 1 := Scalar.cmpi .eq c2_i32_183 c0_i32_184
  let c1_i32_185 : BitVec 32 := 1#32
  let v581 : BitVec 32 := Scalar.select v580 c1_i32_185 c2_i32_183
  let v582 : BitVec 32 := Scalar.remsi v484 v581
  let c0_i32_187 : BitVec 32 := 0#32
  let v584 : BitVec 1 := Scalar.cmpi .slt v582 c0_i32_187
  let c0_i32_188 : BitVec 32 := 0#32
  let v585 : BitVec 1 := Scalar.cmpi .slt v581 c0_i32_188
  let v586 : BitVec 1 := Scalar.xori v584 v585
  let c0_i32_186 : BitVec 32 := 0#32
  let v583 : BitVec 1 := Scalar.cmpi .ne v582 c0_i32_186
  let v587 : BitVec 1 := Scalar.andi v586 v583
  let v588 : BitVec 32 := Scalar.addi v582 v581
  let v589 : BitVec 32 := Scalar.select v587 v588 v582
  let c1_i32_189 : BitVec 32 := 1#32
  let v590 : BitVec 1 := Scalar.cmpi .eq v589 c1_i32_189
  let v591 : BitVec 32 := Scalar.extui v590
  let c0_i32_190 : BitVec 32 := 0#32
  let v592 : BitVec 1 := Scalar.cmpi .ne v591 c0_i32_190
  v592

def k0_mult10 (i : grid0.Coords) : BitVec 32 :=
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  v649
def k0_off43 (i : grid0.Coords) : Fin 2 → Nat :=
  let c0_237 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v686 : Index := Scalar.indexCast v650
  ![0, v686.toNat]
def k0_off44 (i : grid0.Coords) : Fin 2 → Nat :=
  let c80 : Index := 80#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v704 : Index := Scalar.indexCast v650
  ![80, v704.toNat]
def k0_off45 (i : grid0.Coords) : Fin 2 → Nat :=
  let c160 : Index := 160#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v722 : Index := Scalar.indexCast v650
  ![160, v722.toNat]
def k0_off46 (i : grid0.Coords) : Fin 2 → Nat :=
  let c240 : Index := 240#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v740 : Index := Scalar.indexCast v650
  ![240, v740.toNat]
def k0_off47 (i : grid0.Coords) : Fin 2 → Nat :=
  let c320 : Index := 320#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v758 : Index := Scalar.indexCast v650
  ![320, v758.toNat]
def k0_off48 (i : grid0.Coords) : Fin 2 → Nat :=
  let c400 : Index := 400#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v776 : Index := Scalar.indexCast v650
  ![400, v776.toNat]
def k0_off49 (i : grid0.Coords) : Fin 2 → Nat :=
  let c480 : Index := 480#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v794 : Index := Scalar.indexCast v650
  ![480, v794.toNat]
def k0_off50 (i : grid0.Coords) : Fin 2 → Nat :=
  let c560 : Index := 560#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_227 : BitVec 32 := 512#32
  let v649 : BitVec 32 := Scalar.muli v632 c512_i32_227
  let v650 : BitVec 32 := v649
  let v812 : Index := Scalar.indexCast v650
  ![560, v812.toNat]
def k0_mult11 (i : grid0.Coords) : BitVec 32 :=
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  v633
def k0_off51 (i : grid0.Coords) : Fin 3 → Nat :=
  let c0_196 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  let v634 : BitVec 32 := v633
  let v635 : Index := Scalar.indexCast v634
  let c0_197 : Index := 0#32
  ![0, v635.toNat, 0]
def k0_off52 (i : grid0.Coords) : Fin 3 → Nat :=
  let c0_198 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  let v634 : BitVec 32 := v633
  let v638 : Index := Scalar.indexCast v634
  let c0_199 : Index := 0#32
  ![0, v638.toNat, 0]
def k0_off53 (i : grid0.Coords) : Fin 3 → Nat :=
  let c0_204 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  let v634 : BitVec 32 := v633
  let v648 : Index := Scalar.indexCast v634
  let c128_205 : Index := 128#32
  ![0, v648.toNat, 128]
def k0_off54 (i : grid0.Coords) : Fin 3 → Nat :=
  let c0_210 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  let v634 : BitVec 32 := v633
  let v658 : Index := Scalar.indexCast v634
  let c256_211 : Index := 256#32
  ![0, v658.toNat, 256]
def k0_off55 (i : grid0.Coords) : Fin 3 → Nat :=
  let c0_216 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_194 : BitVec 32 := 1#32
  let v632 : BitVec 32 := Scalar.subi v484 c1_i32_194
  let c512_i32_195 : BitVec 32 := 512#32
  let v633 : BitVec 32 := Scalar.muli v632 c512_i32_195
  let v634 : BitVec 32 := v633
  let v668 : Index := Scalar.indexCast v634
  let c384_217 : Index := 384#32
  ![0, v668.toNat, 384]
def k0_mult12 (i : grid0.Coords) : BitVec 32 :=
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c2_i32_254 : BitVec 32 := 2#32
  let v702 : BitVec 32 := Scalar.subi v484 c2_i32_254
  let c512_i32_287 : BitVec 32 := 512#32
  let v719 : BitVec 32 := Scalar.muli v702 c512_i32_287
  v719
def k0_off56 (i : grid0.Coords) (c2_i32_254 : BitVec 32) : Fin 2 → Nat :=
  let c0_289 : Index := 0#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v734 : Index := Scalar.indexCast v720
  ![0, v734.toNat]
def k0_off57 (i : grid0.Coords) (c2_i32_254 : BitVec 32) : Fin 2 → Nat :=
  let c80 : Index := 80#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v752 : Index := Scalar.indexCast v720
  ![80, v752.toNat]
def k0_off58 (i : grid0.Coords) (c2_i32_254 : BitVec 32) : Fin 2 → Nat :=
  let c160 : Index := 160#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v770 : Index := Scalar.indexCast v720
  ![160, v770.toNat]
def k0_off59 (i : grid0.Coords) (c2_i32_254 : BitVec 32) : Fin 2 → Nat :=
  let c240 : Index := 240#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v788 : Index := Scalar.indexCast v720
  ![240, v788.toNat]
def k0_off60 (i : grid0.Coords) (c2_i32_254 : BitVec 32) : Fin 2 → Nat :=
  let c320 : Index := 320#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v806 : Index := Scalar.indexCast v720
  ![320, v806.toNat]
def k0_off61 (i : grid0.Coords) (c2_i32_254 : BitVec 32) : Fin 2 → Nat :=
  let c400 : Index := 400#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v824 : Index := Scalar.indexCast v720
  ![400, v824.toNat]
def k0_off62 (i : grid0.Coords) (c2_i32_254 : BitVec 32) : Fin 2 → Nat :=
  let c480 : Index := 480#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v842 : Index := Scalar.indexCast v720
  ![480, v842.toNat]
def k0_off63 (i : grid0.Coords) (c2_i32_254 : BitVec 32) : Fin 2 → Nat :=
  let c560 : Index := 560#32
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let v702 : BitVec 32 := Scalar.subi v484 c2_i32_254
  let c512_i32_287 : BitVec 32 := 512#32
  let v719 : BitVec 32 := Scalar.muli v702 c512_i32_287
  let v720 : BitVec 32 := v719
  let v860 : Index := Scalar.indexCast v720
  ![560, v860.toNat]
def k0_mult13 (i : grid0.Coords) : BitVec 32 :=
  let arg1 : BitVec 32 := BitVec.ofNat 32 (i 1).val
  let c256_i32_112 : BitVec 32 := 256#32
  let v466 : BitVec 32 := Scalar.muli arg1 c256_i32_112
  let c0_i32_113 : BitVec 32 := 0#32
  let v468 : BitVec 1 := Scalar.cmpi .sgt v466 c0_i32_113
  let v469 : BitVec 32 := Scalar.extui v468
  let c0_i32_114 : BitVec 32 := 0#32
  let v470 : BitVec 1 := Scalar.cmpi .slt v466 c0_i32_114
  let v471 : BitVec 32 := Scalar.extui v470
  let v472 : BitVec 32 := Scalar.subi v469 v471
  let c512_i32 : BitVec 32 := 512#32
  let c0_i32_115 : BitVec 32 := 0#32
  let v473 : BitVec 1 := Scalar.cmpi .sgt c512_i32 c0_i32_115
  let v474 : BitVec 32 := Scalar.extui v473
  let c0_i32_116 : BitVec 32 := 0#32
  let v475 : BitVec 1 := Scalar.cmpi .slt c512_i32 c0_i32_116
  let v476 : BitVec 32 := Scalar.extui v475
  let v477 : BitVec 32 := Scalar.subi v474 v476
  let v478 : BitVec 1 := Scalar.cmpi .ne v472 v477
  let v479 : BitVec 32 := Scalar.remsi v466 c512_i32
  let c0_i32_117 : BitVec 32 := 0#32
  let v480 : BitVec 1 := Scalar.cmpi .ne v479 c0_i32_117
  let v481 : BitVec 1 := Scalar.andi v478 v480
  let v467 : BitVec 32 := Scalar.divsi v466 c512_i32
  let c1_i32_118 : BitVec 32 := 1#32
  let v482 : BitVec 32 := Scalar.subi v467 c1_i32_118
  let v483 : BitVec 32 := Scalar.select v481 v482 v467
  let c1_i32_119 : BitVec 32 := 1#32
  let v484 : BitVec 32 := Scalar.addi v483 c1_i32_119
  let c1_i32_305 : BitVec 32 := 1#32
  let v867 : BitVec 32 := Scalar.subi v484 c1_i32_305
  let c512_i32_338 : BitVec 32 := 512#32
  let v884 : BitVec 32 := Scalar.muli v867 c512_i32_338
  v884
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S640x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x8x64 : Shape := ⟨4, ![4, 4096, 8, 64]⟩
abbrev S4x4096x8 : Shape := ⟨3, ![4, 4096, 8]⟩
abbrev S4096 : Shape := ⟨1, ![4096]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x1x4096 : Shape := ⟨4, ![4, 8, 1, 4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S4x4096x512 : Shape := ⟨3, ![4, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S4096, .i32⟩
  | .hbm, ⟨5, _⟩ => ⟨S4x8x4096x4096, .f32⟩
  | .hbm, ⟨6, _⟩ => ⟨S_, .f32⟩
  | .hbm, ⟨7, _⟩ => ⟨S4x8x4096x4096, .f32⟩
  | .hbm, ⟨8, _⟩ => ⟨S4x8x4096x4096, .f32⟩
  | .hbm, ⟨9, _⟩ => ⟨S4x8x4096, .f32⟩
  | .hbm, ⟨10, _⟩ => ⟨S4x8x4096x1, .f32⟩
  | .hbm, ⟨11, _⟩ => ⟨S4x8x4096, .f32⟩
  | .hbm, ⟨12, _⟩ => ⟨S4x8x1x4096, .f32⟩
  | .hbm, ⟨13, _⟩ => ⟨S4x8x4096x4096, .f32⟩
  | .hbm, ⟨14, _⟩ => ⟨S4x8x4096x4096, .f32⟩
  | .hbm, ⟨15, _⟩ => ⟨S4x8x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4x8x4096x4096, .f32⟩
  | .hbm, ⟨22, _⟩ => ⟨S_, .f32⟩
  | .hbm, ⟨23, _⟩ => ⟨S_, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S_, .f32⟩
  | .hbm, ⟨30, _⟩ => ⟨S4x8x4096, .f32⟩
  | .hbm, ⟨31, _⟩ => ⟨S4x8x4096, .f32⟩
  | .hbm, ⟨32, _⟩ => ⟨S4x8x4096x1, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S4x8x4096x1, .f32⟩
  | .hbm, ⟨39, _⟩ => ⟨S4x8x4096x4096, .f32⟩
  | .hbm, ⟨40, _⟩ => ⟨S4x8x4096x4096, .f32⟩
  | .hbm, ⟨41, _⟩ => ⟨S4x8x64x4096, .f32⟩
  | .hbm, ⟨42, _⟩ => ⟨S4x4096x8x64, .f32⟩
  | .hbm, ⟨43, _⟩ => ⟨S4x4096x512, .f32⟩
  | .hbm, ⟨44, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S16384x1024 : Shape := ⟨2, ![16384, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 29
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S256x1024, .bf16⟩
  | .hbm, ⟨22, _⟩ => ⟨S1024x1024, .bf16⟩
  | .hbm, ⟨23, _⟩ => ⟨S1x1024, .f32⟩
  | .hbm, ⟨24, _⟩ => ⟨S16384x1024, .f32⟩
  | .hbm, ⟨25, _⟩ => ⟨S16384x512, .bf16⟩
  | .hbm, ⟨26, _⟩ => ⟨S16384x512, .bf16⟩
  | .hbm, ⟨27, _⟩ => ⟨S16384x256, .f32⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S4x4096x1024, .bf16⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S_, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S1x1x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S1x1x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S4x4096x1024, .f32⟩
  | .hbm, ⟨104, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x3376 : Shape := ⟨2, ![1024, 3376]⟩
abbrev S8 : Shape := ⟨1, ![8]⟩
abbrev S16384x1024 : Shape := ⟨2, ![16384, 1024]⟩
abbrev S1024x512 : Shape := ⟨2, ![1024, 512]⟩
abbrev S1024x8 : Shape := ⟨2, ![1024, 8]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1x1024x1x32 : Shape := ⟨4, ![1, 1024, 1, 32]⟩
abbrev S1x1024x8x32 : Shape := ⟨4, ![1, 1024, 8, 32]⟩
abbrev S1x1024x1x8 : Shape := ⟨4, ![1, 1024, 1, 8]⟩
abbrev S1x1024x3x8 : Shape := ⟨4, ![1, 1024, 3, 8]⟩
abbrev S1024x24 : Shape := ⟨2, ![1024, 24]⟩
abbrev S1024x3712 : Shape := ⟨2, ![1024, 3712]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16 : Shape := ⟨1, ![16]⟩
abbrev S1x16 : Shape := ⟨2, ![1, 16]⟩
abbrev S4096x16 : Shape := ⟨2, ![4096, 16]⟩
abbrev S1x4096x1x32 : Shape := ⟨4, ![1, 4096, 1, 32]⟩
abbrev S1x4096x4x32 : Shape := ⟨4, ![1, 4096, 4, 32]⟩
abbrev S1x8 : Shape := ⟨2, ![1, 8]⟩
abbrev S1x1x1x8 : Shape := ⟨4, ![1, 1, 1, 8]⟩
abbrev S1x1x3x8 : Shape := ⟨4, ![1, 1, 3, 8]⟩
abbrev S1x24 : Shape := ⟨2, ![1, 24]⟩
abbrev S1x104 : Shape := ⟨2, ![1, 104]⟩
abbrev S1x128 : Shape := ⟨2, ![1, 128]⟩
abbrev S16384x512 : Shape := ⟨2, ![16384, 512]⟩
abbrev S16384x256 : Shape := ⟨2, ![16384, 256]⟩
abbrev S16384x128 : Shape := ⟨2, ![16384, 128]⟩
abbrev S512x16384 : Shape := ⟨2, ![512, 16384]⟩
abbrev S256x16384 : Shape := ⟨2, ![256, 16384]⟩
abbrev S640x16384 : Shape := ⟨2, ![640, 16384]⟩
abbrev S4x512x4096 : Shape := ⟨3, ![4, 512, 4096]⟩
abbrev S4x32x4096 : Shape := ⟨3, ![4, 32, 4096]⟩
abbrev S4x8x4096 : Shape := ⟨3, ![4, 8, 4096]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S256x512 : Shape := ⟨2, ![256, 512]⟩
abbrev S640x512 : Shape := ⟨2, ![640, 512]⟩
abbrev S1x512x512 : Shape := ⟨3, ![1, 512, 512]⟩
abbrev S1x32x512 : Shape := ⟨3, ![1, 32, 512]⟩
abbrev S1x8x512 : Shape := ⟨3, ![1, 8, 512]⟩
abbrev S1024x128 : Shape := ⟨2, ![1024, 128]⟩
abbrev S16x512 : Shape := ⟨2, ![16, 512]⟩
abbrev S64x512 : Shape := ⟨2, ![64, 512]⟩
abbrev S128x512 : Shape := ⟨2, ![128, 512]⟩
abbrev S32x512 : Shape := ⟨2, ![32, 512]⟩
abbrev S8x512 : Shape := ⟨2, ![8, 512]⟩

abbrev nBuf : Space → Nat
  | .hbm => 98
  | .vmem => 44
  | .smem => 0
  | _ => 0

abbrev bufTy : (tb : Table) → Fin (tcTables nBuf tb) → BufTy
  | .hbm, ⟨0, _⟩ => ⟨S4x4096x1024, .f32⟩
  | .hbm, ⟨1, _⟩ => ⟨S1024x3376, .f32⟩
  | .hbm, ⟨2, _⟩ => ⟨S8, .f32⟩
  | .hbm, ⟨3, _⟩ => ⟨S16384x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x256, .f32⟩
  | .hbm, ⟨12, _⟩ => ⟨S1024x32, .f32⟩
  | .hbm, ⟨13, _⟩ => ⟨S1024x8, .f32⟩
  | .hbm, ⟨14, _⟩ => ⟨S_, .f32⟩
  | .hbm, ⟨15, _⟩ => ⟨S1024x96, .f32⟩
  | .hbm, ⟨16, _⟩ => ⟨S1x1024x1x32, .f32⟩
  | .hbm, ⟨17, _⟩ => ⟨S1x1024x8x32, .f32⟩
  | .hbm, ⟨18, _⟩ => ⟨S1024x256, .f32⟩
  | .hbm, ⟨19, _⟩ => ⟨S1x1024x1x8, .f32⟩
  | .hbm, ⟨20, _⟩ => ⟨S1x1024x3x8, .f32⟩
  | .hbm, ⟨21, _⟩ => ⟨S1024x24, .f32⟩
  | .hbm, ⟨22, _⟩ => ⟨S1024x3712, .f32⟩
  | .hbm, ⟨23, _⟩ => ⟨S1024x3712, .bf16⟩
  | .hbm, ⟨24, _⟩ => ⟨S4096, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x64, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S4096x32, .f32⟩
  | .hbm, ⟨46, _⟩ => ⟨S4096x64, .f32⟩
  | .hbm, ⟨47, _⟩ => ⟨S1x4096x1x64, .f32⟩
  | .hbm, ⟨48, _⟩ => ⟨S1x4096x2x64, .f32⟩
  | .hbm, ⟨49, _⟩ => ⟨S4096x128, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S4096, .f32⟩
  | .hbm, ⟨59, _⟩ => ⟨S4096x1, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x32, .f32⟩
  | .hbm, ⟨67, _⟩ => ⟨S1x4096x1x32, .f32⟩
  | .hbm, ⟨68, _⟩ => ⟨S1x4096x4x32, .f32⟩
  | .hbm, ⟨69, _⟩ => ⟨S4096x128, .f32⟩
  | .hbm, ⟨70, _⟩ => ⟨S4096x16, .f32⟩
  | .hbm, ⟨71, _⟩ => ⟨S4096x32, .f32⟩
  | .hbm, ⟨72, _⟩ => ⟨S1x4096x1x32, .f32⟩
  | .hbm, ⟨73, _⟩ => ⟨S1x4096x4x32, .f32⟩
  | .hbm, ⟨74, _⟩ => ⟨S4096x128, .f32⟩
  | .hbm, ⟨75, _⟩ => ⟨S1x8, .f32⟩
  | .hbm, ⟨76, _⟩ => ⟨S1x1x1x8, .f32⟩
  | .hbm, ⟨77, _⟩ => ⟨S1x1x3x8, .f32⟩
  | .hbm, ⟨78, _⟩ => ⟨S1x24, .f32⟩
  | .hbm, ⟨79, _⟩ => ⟨S_, .f32⟩
  | .hbm, ⟨80, _⟩ => ⟨S1x104, .f32⟩
  | .hbm, ⟨81, _⟩ => ⟨S1x128, .f32⟩
  | .hbm, ⟨82, _⟩ => ⟨S16384x512, .bf16⟩
  | .hbm, ⟨83, _⟩ => ⟨S16384x512, .bf16⟩
  | .hbm, ⟨84, _⟩ => ⟨S16384x256, .bf16⟩
  | .hbm, ⟨85, _⟩ => ⟨S16384x128, .f32⟩
  | .hbm, ⟨86, _⟩ => ⟨S512x16384, .bf16⟩
  | .hbm, ⟨87, _⟩ => ⟨S512x16384, .bf16⟩
  | .hbm, ⟨88, _⟩ => ⟨S256x16384, .bf16⟩
  | .hbm, ⟨89, _⟩ => ⟨S640x16384, .bf16⟩
  | .hbm, ⟨90, _⟩ => ⟨S640x16384, .bf16⟩
  | .hbm, ⟨91, _⟩ => ⟨S4x512x4096, .f32⟩
  | .hbm, ⟨92, _⟩ => ⟨S4x512x4096, .f32⟩
  | .hbm, ⟨93, _⟩ => ⟨S4x512x4096, .f32⟩
  | .hbm, ⟨94, _⟩ => ⟨S4x512x4096, .f32⟩
  | .hbm, ⟨95, _⟩ => ⟨S4x32x4096, .f32⟩
  | .hbm, ⟨96, _⟩ => ⟨S4x8x4096, .f32⟩
  | .hbm, ⟨97, _⟩ => ⟨S4x8x4096, .f32⟩
  | .local _ .vmem, ⟨0, _⟩ => ⟨S512x1024, .f32⟩
  | .local _ .vmem, ⟨1, _⟩ => ⟨S512x1024, .f32⟩
  | .local _ .vmem, ⟨2, _⟩ => ⟨S1024x3712, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S256x512, .bf16⟩
  | .local _ .vmem, ⟨25, _⟩ => ⟨S256x512, .bf16⟩
  | .local _ .vmem, ⟨26, _⟩ => ⟨S640x512, .bf16⟩
  | .local _ .vmem, ⟨27, _⟩ => ⟨S640x512, .bf16⟩
  | .local _ .vmem, ⟨28, _⟩ => ⟨S640x512, .bf16⟩
  | .local _ .vmem, ⟨29, _⟩ => ⟨S640x512, .bf16⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x32x512, .f32⟩
  | .local _ .vmem, ⟨39, _⟩ => ⟨S1x32x512, .f32⟩
  | .local _ .vmem, ⟨40, _⟩ => ⟨S1x8x512, .f32⟩
  | .local _ .vmem, ⟨41, _⟩ => ⟨S1x8x512, .f32⟩
  | .local _ .vmem, ⟨42, _⟩ => ⟨S1x8x512, .f32⟩
  | .local _ .vmem, ⟨43, _⟩ => ⟨S1x8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_v73_0 : Ref sig .tc := ⟨.hbm, 82, rfl⟩
abbrev main_v73_1 : Ref sig .tc := ⟨.hbm, 83, rfl⟩
abbrev main_v73_2 : Ref sig .tc := ⟨.hbm, 84, rfl⟩
abbrev main_v73_3 : Ref sig .tc := ⟨.hbm, 85, rfl⟩
abbrev main_v73_4 : Ref sig .tc := ⟨.hbm, 86, rfl⟩
abbrev main_v73_5 : Ref sig .tc := ⟨.hbm, 87, rfl⟩
abbrev main_v73_6 : Ref sig .tc := ⟨.hbm, 88, rfl⟩
abbrev main_v73_7 : Ref sig .tc := ⟨.hbm, 89, rfl⟩
abbrev main_v73_8 : Ref sig .tc := ⟨.hbm, 90, rfl⟩
abbrev main_v73_9 : Ref sig .tc := ⟨.hbm, 91, rfl⟩
abbrev main_v73_10 : Ref sig .tc := ⟨.hbm, 92, rfl⟩
abbrev main_v73_11 : Ref sig .tc := ⟨.hbm, 93, rfl⟩
abbrev main_v73_12 : Ref sig .tc := ⟨.hbm, 94, rfl⟩
abbrev main_v73_13 : Ref sig .tc := ⟨.hbm, 95, rfl⟩
abbrev main_v73_14 : Ref sig .tc := ⟨.hbm, 96, rfl⟩
abbrev main_v73_15 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S640x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S4x4096x1024 : Shape := ⟨3, ![4, 4096, 1024]⟩
abbrev S1024x3376 : Shape := ⟨2, ![1024, 3376]⟩
abbrev S8 : Shape := ⟨1, ![8]⟩
abbrev S4096 : Shape := ⟨1, ![4096]⟩
abbrev S4x4096x3376 : Shape := ⟨3, ![4, 4096, 3376]⟩
abbrev S4x4096x512 : Shape := ⟨3, ![4, 4096, 512]⟩
abbrev S4x4096x8 : Shape := ⟨3, ![4, 4096, 8]⟩
abbrev S4x4096x256 : Shape := ⟨3, ![4, 4096, 256]⟩
abbrev S4x4096x32 : Shape := ⟨3, ![4, 4096, 32]⟩
abbrev S1x1x8 : Shape := ⟨3, ![1, 1, 8]⟩
abbrev S_ : Shape := ⟨0, ![]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S16 : Shape := ⟨1, ![16]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x1x32 : Shape := ⟨4, ![4, 4096, 1, 32]⟩
abbrev S4x4096x1x16 : Shape := ⟨4, ![4, 4096, 1, 16]⟩
abbrev S16384x512 : Shape := ⟨2, ![16384, 512]⟩
abbrev S512x16384 : Shape := ⟨2, ![512, 16384]⟩
abbrev S16384x256 : Shape := ⟨2, ![16384, 256]⟩
abbrev S256x16384 : Shape := ⟨2, ![256, 16384]⟩
abbrev S4x512x4096 : Shape := ⟨3, ![4, 512, 4096]⟩
abbrev S4x32x4096 : Shape := ⟨3, ![4, 32, 4096]⟩
abbrev S4x8x4096 : Shape := ⟨3, ![4, 8, 4096]⟩

abbrev nBuf : Space → Nat
  | .hbm => 189
  | .vmem => 0
  | .smem => 0
  | _ => 0

abbrev hbmTy0_0 (i : Nat) : BufTy := match i % 128 with
  | 0 => ⟨S4x4096x1024, .f32⟩
  | 1 => ⟨S1024x3376, .f32⟩
  | 2 => ⟨S8, .f32⟩
  | 3 => ⟨S4096, .i32⟩
  | 4 => ⟨S4x4096x3376, .f32⟩
  | 5 => ⟨S4x4096x512, .f32⟩
  | 6 => ⟨S4x4096x512, .f32⟩
  | 7 => ⟨S4x4096x512, .f32⟩
  | 8 => ⟨S4x4096x8, .f32⟩
  | 9 => ⟨S4x4096x512, .f32⟩
  | 10 => ⟨S4x4096x512, .f32⟩
  | 11 => ⟨S4x4096x512, .f32⟩
  | 12 => ⟨S4x4096x256, .f32⟩
  | 13 => ⟨S4x4096x32, .f32⟩
  | 14 => ⟨S4x4096x8, .f32⟩
  | 15 => ⟨S1x1x8, .f32⟩
  | 16 => ⟨S4x4096x8, .f32⟩
  | 17 => ⟨S4x4096x8, .f32⟩
  | 18 => ⟨S4x4096x8, .f32⟩
  | 19 => ⟨S_, .f32⟩
  | 20 => ⟨S4x4096x8, .f32⟩
  | 21 => ⟨S4x4096x8, .f32⟩
  | 22 => ⟨S4x4096x8, .f32⟩
  | 23 => ⟨S4x4096x8, .f32⟩
  | 24 => ⟨S4x4096x8, .i1⟩
  | 25 => ⟨S4x4096x8, .f32⟩
  | 26 => ⟨S4x4096x8, .f32⟩
  | 27 => ⟨S4x4096x8, .f32⟩
  | 28 => ⟨S4x4096x8, .f32⟩
  | 29 => ⟨S4x4096x8, .f32⟩
  | 30 => ⟨S4x4096x8, .f32⟩
  | 31 => ⟨S4x4096x8, .f32⟩
  | 32 => ⟨S4x4096x8, .f32⟩
  | 33 => ⟨S4x4096x8, .f32⟩
  | 34 => ⟨S4x4096x8x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4096, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S4096x32, .f32⟩
  | 50 => ⟨S1x4096x1x32, .f32⟩
  | 51 => ⟨S4096x32, .f32⟩
  | 52 => ⟨S1x4096x1x32, .f32⟩
  | 53 => ⟨S4x4096x8x32, .f32⟩
  | 54 => ⟨S4x4096x8x32, .f32⟩
  | 55 => ⟨S4x4096x8x32, .f32⟩
  | 56 => ⟨S4x4096x8x32, .f32⟩
  | 57 => ⟨S4x4096x8x32, .f32⟩
  | 58 => ⟨S4x4096x8x32, .f32⟩
  | 59 => ⟨S4x4096x8x32, .f32⟩
  | 60 => ⟨S4x4096x8x32, .f32⟩
  | 61 => ⟨S4x4096x8x32, .f32⟩
  | 62 => ⟨S4x4096x8x32, .f32⟩
  | 63 => ⟨S4x4096x8x32, .f32⟩
  | 64 => ⟨S4x4096x8x32, .f32⟩
  | 65 => ⟨S4x4096x8x64, .f32⟩
  | 66 => ⟨S4x4096x8x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S4096, .f32⟩
  | 76 => ⟨S4096x1, .f32⟩
  | 77 => ⟨S1x32, .f32⟩
  | 78 => ⟨S4096x32, .f32⟩
  | 79 => ⟨S4096x32, .f32⟩
  | 80 => ⟨S4096x32, .f32⟩
  | 81 => ⟨S4096x32, .f32⟩
  | 82 => ⟨S1x4096x1x32, .f32⟩
  | 83 => ⟨S4096x32, .f32⟩
  | 84 => ⟨S1x4096x1x32, .f32⟩
  | 85 => ⟨S4x4096x8x32, .f32⟩
  | 86 => ⟨S4x4096x8x32, .f32⟩
  | 87 => ⟨S4x4096x8x32, .f32⟩
  | 88 => ⟨S4x4096x8x32, .f32⟩
  | 89 => ⟨S4x4096x8x32, .f32⟩
  | 90 => ⟨S4x4096x8x32, .f32⟩
  | 91 => ⟨S4x4096x8x32, .f32⟩
  | 92 => ⟨S4x4096x8x32, .f32⟩
  | 93 => ⟨S4x4096x8x32, .f32⟩
  | 94 => ⟨S4x4096x8x32, .f32⟩
  | 95 => ⟨S4x4096x8x32, .f32⟩
  | 96 => ⟨S4x4096x8x32, .f32⟩
  | 97 => ⟨S4x4096x8x64, .f32⟩
  | 98 => ⟨S4x4096x8x32, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S4096, .f32⟩
  | 108 => ⟨S4096x1, .f32⟩
  | 109 => ⟨S1x16, .f32⟩
  | 110 => ⟨S4096x16, .f32⟩
  | 111 => ⟨S4096x16, .f32⟩
  | 112 => ⟨S4096x16, .f32⟩
  | 113 => ⟨S4096x16, .f32⟩
  | 114 => ⟨S1x4096x1x16, .f32⟩
  | 115 => ⟨S4096x16, .f32⟩
  | 116 => ⟨S1x4096x1x16, .f32⟩
  | 117 => ⟨S4x4096x8x16, .f32⟩
  | 118 => ⟨S4x4096x8x16, .f32⟩
  | 119 => ⟨S4x4096x8x16, .f32⟩
  | 120 => ⟨S4x4096x8x16, .f32⟩
  | 121 => ⟨S4x4096x8x16, .f32⟩
  | 122 => ⟨S4x4096x8x16, .f32⟩
  | 123 => ⟨S4x4096x8x16, .f32⟩
  | 124 => ⟨S4x4096x8x16, .f32⟩
  | 125 => ⟨S4x4096x8x16, .f32⟩
  | 126 => ⟨S4x4096x8x16, .f32⟩
  | 127 => ⟨S4x4096x8x16, .f32⟩
  | _ => ⟨S4x4096x1024, .f32⟩

abbrev hbmTy0_1 (i : Nat) : BufTy := match i % 128 with
  | 0 => ⟨S4x4096x8x16, .f32⟩
  | 1 => ⟨S4x4096x8x32, .f32⟩
  | 2 => ⟨S4x4096x1x32, .f32⟩
  | 3 => ⟨S16, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S4096, .f32⟩
  | 12 => ⟨S4096x1, .f32⟩
  | 13 => ⟨S1x16, .f32⟩
  | 14 => ⟨S4096x16, .f32⟩
  | 15 => ⟨S4096x16, .f32⟩
  | 16 => ⟨S4096x16, .f32⟩
  | 17 => ⟨S4096x16, .f32⟩
  | 18 => ⟨S1x4096x1x16, .f32⟩
  | 19 => ⟨S4096x16, .f32⟩
  | 20 => ⟨S1x4096x1x16, .f32⟩
  | 21 => ⟨S4x4096x1x16, .f32⟩
  | 22 => ⟨S4x4096x1x16, .f32⟩
  | 23 => ⟨S4x4096x1x16, .f32⟩
  | 24 => ⟨S4x4096x1x16, .f32⟩
  | 25 => ⟨S4x4096x1x16, .f32⟩
  | 26 => ⟨S4x4096x1x16, .f32⟩
  | 27 => ⟨S4x4096x1x16, .f32⟩
  | 28 => ⟨S4x4096x1x16, .f32⟩
  | 29 => ⟨S4x4096x1x16, .f32⟩
  | 30 => ⟨S4x4096x1x16, .f32⟩
  | 31 => ⟨S4x4096x1x16, .f32⟩
  | 32 => ⟨S4x4096x1x16, .f32⟩
  | 33 => ⟨S4x4096x1x32, .f32⟩
  | 34 => ⟨S4x4096x32, .f32⟩
  | 35 => ⟨S_, .f32⟩
  | 36 => ⟨S4x4096x8, .f32⟩
  | 37 => ⟨S4x4096x8, .f32⟩
  | 38 => ⟨S16384x512, .f32⟩
  | 39 => ⟨S_, .f32⟩
  | 40 => ⟨S16384x512, .f32⟩
  | 41 => ⟨S16384x512, .f32⟩
  | 42 => ⟨S512x16384, .f32⟩
  | 43 => ⟨S512x16384, .bf16⟩
  | 44 => ⟨S16384x512, .f32⟩
  | 45 => ⟨S_, .f32⟩
  | 46 => ⟨S16384x512, .f32⟩
  | 47 => ⟨S16384x512, .f32⟩
  | 48 => ⟨S512x16384, .f32⟩
  | 49 => ⟨S512x16384, .bf16⟩
  | 50 => ⟨S16384x256, .f32⟩
  | 51 => ⟨S256x16384, .f32⟩
  | 52 => ⟨S256x16384, .bf16⟩
  | 53 => ⟨S4x512x4096, .f32⟩
  | 54 => ⟨S4x512x4096, .f32⟩
  | 55 => ⟨S4x4096x512, .f32⟩
  | 56 => ⟨S4x512x4096, .f32⟩
  | 57 => ⟨S4x512x4096, .f32⟩
  | 58 => ⟨S4x32x4096, .f32⟩
  | 59 => ⟨S4x8x4096, .f32⟩
  | 60 => ⟨S4x8x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_cst_2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_3 : Ref sig .tc := ⟨.hbm, 101, rfl⟩
abbrev main_v79 : Ref sig .tc := ⟨.hbm, 102, rfl⟩
abbrev main_v80 : Ref sig .tc := ⟨.hbm, 103, rfl⟩
abbrev main_cst_4 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_5 : Ref sig .tc := ⟨.hbm, 133, rfl⟩
abbrev main_v109 : Ref sig .tc := ⟨.hbm, 134, rfl⟩
abbrev main_v110 : Ref sig .tc := ⟨.hbm, 135, rfl⟩
abbrev main_cst_6 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_7 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_8 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_9 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩

abbrev nD : Nat := 1
abbrev τ : Topo := Topo.v7x

variable {F : FTy → Type} [FloatOps F]
-- ==== Proof.Fox.RunKernelIdeal.lean ====
/-
  The run of the attention kernel's body at one grid point, for any float arithmetic: from whole staging memrefs the body
  ends with its inputs as they were and the result's block at the value the run finds.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Exec
public import Idealize.ShloMosaic.Lib.Tactic
public import Idealize.ShloMosaic.Lib.VecWindow

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

abbrev 𝒱₀ : Variants := Variants.none

/-- The body on whole staging memrefs at a grid point where one key block is left after the loop of pairs: the block it
    leaves in the result's memref, as a function of what the scratch held before, and the run's proof. -/
noncomputable def runOne (c : Dev nD) (i : grid0.Coords) (hc : k0_cond1 i = 1#1)
    (M2 : Memref sig .tc .vmem S512x256 .bf16) (h2 : M2.IsWhole) (M3 : Memref sig .tc .vmem S1x4096x512 .bf16) (h3 : M3.IsWhole)
    (M4 : Memref sig .tc .vmem S1x4096x128 .bf16) (h4 : M4.IsWhole) (M5 : Memref sig .tc .vmem S640x4096 .bf16) (h5 : M5.IsWhole)
    (M6 : Memref sig .tc .vmem S1x8x256 .f32) (h6 : M6.IsWhole) (M7 : Memref sig .tc .vmem S1x256x512 .bf16) (h7 : M7.IsWhole)
    (M8 : Memref sig .tc .vmem S2x8x512x256 .f32) (h8 : M8.IsWhole)
    (x2 : Vec F S512x256 .bf16) (x3 : Vec F S1x4096x512 .bf16) (x4 : Vec F S1x4096x128 .bf16) (x5 : Vec F S640x4096 .bf16)
    (x6 : Vec F S1x8x256 .f32) :
    { Y : Vec F S2x8x512x256 .f32 → Vec F S1x256x512 .bf16 //
      ∀ (E : Set ℕ) (x8 : Vec F S2x8x512x256 .f32) (K : PUnit → sProp 𝕄),
        iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ (∃ d, owns (c : Thread nD τ) M7 fullShare d)
            ∗ owns (c : Thread nD τ) M8 fullShare x8
            ∗ (iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ owns (c : Thread nD τ) M7 fullShare (Y x8)
            ∗ (∃ d, owns (c : Thread nD τ) M8 fullShare d)) -∗ K ⟨⟩))
          ⊢ wp frame (wpE (defs₀ (F := F)) 𝒱₀ c none) E (cc0_fox_prompt i M2 h2 M3 h3 M4 h4 M5 h5 M6 h6 M7 h7 M8 h8) K } := by
  refine ⟨?_, fun E x8 K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h2.eq_unread hf2; obtain rfl := h3.eq_unread hf3; obtain rfl := h4.eq_unread hf4; obtain rfl := h5.eq_unread hf5
    obtain rfl := h6.eq_unread hf6; obtain rfl := h8.eq_unread hf8
    sl_unfold [cc0_fox_prompt]
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; swap; · iexact H7
      ipureintro
      exact View.read_writes_full _ _ _ _ _
    iexists _; iexists _; isplitr; swap; · iexact H8
    ipureintro; rfl

/-- The same at a grid point where two key blocks are left after the loop of pairs. -/
noncomputable def runTwo (c : Dev nD) (i : grid0.Coords) (hc : ¬ k0_cond1 i = 1#1)
    (M2 : Memref sig .tc .vmem S512x256 .bf16) (h2 : M2.IsWhole) (M3 : Memref sig .tc .vmem S1x4096x512 .bf16) (h3 : M3.IsWhole)
    (M4 : Memref sig .tc .vmem S1x4096x128 .bf16) (h4 : M4.IsWhole) (M5 : Memref sig .tc .vmem S640x4096 .bf16) (h5 : M5.IsWhole)
    (M6 : Memref sig .tc .vmem S1x8x256 .f32) (h6 : M6.IsWhole) (M7 : Memref sig .tc .vmem S1x256x512 .bf16) (h7 : M7.IsWhole)
    (M8 : Memref sig .tc .vmem S2x8x512x256 .f32) (h8 : M8.IsWhole)
    (x2 : Vec F S512x256 .bf16) (x3 : Vec F S1x4096x512 .bf16) (x4 : Vec F S1x4096x128 .bf16) (x5 : Vec F S640x4096 .bf16)
    (x6 : Vec F S1x8x256 .f32) :
    { Y : Vec F S2x8x512x256 .f32 → Vec F S1x256x512 .bf16 //
      ∀ (E : Set ℕ) (x8 : Vec F S2x8x512x256 .f32) (K : PUnit → sProp 𝕄),
        iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ (∃ d, owns (c : Thread nD τ) M7 fullShare d)
            ∗ owns (c : Thread nD τ) M8 fullShare x8
            ∗ (iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ owns (c : Thread nD τ) M7 fullShare (Y x8)
            ∗ (∃ d, owns (c : Thread nD τ) M8 fullShare d)) -∗ K ⟨⟩))
          ⊢ wp frame (wpE (defs₀ (F := F)) 𝒱₀ c none) E (cc0_fox_prompt i M2 h2 M3 h3 M4 h4 M5 h5 M6 h6 M7 h7 M8 h8) K } := by
  refine ⟨?_, fun E x8 K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h2.eq_unread hf2; obtain rfl := h3.eq_unread hf3; obtain rfl := h4.eq_unread hf4; obtain rfl := h5.eq_unread hf5
    obtain rfl := h6.eq_unread hf6; obtain rfl := h8.eq_unread hf8
    sl_unfold [cc0_fox_prompt]
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; swap; · iexact H7
      ipureintro
      exact View.read_writes_full _ _ _ _ _
    iexists _; iexists _; isplitr; swap; · iexact H8
    ipureintro; rfl

end Cert.KernelIdeal.Fox

end
-- ==== Proof.Fox.FrameKernelIdeal.lean ====
/-
  The attention program's frame, for any float arithmetic: every run ends, with the arguments as they were and every
  counter at zero.
-/
module

public import proofs.«01_k».proof.Proof.Fox.RunKernelIdeal
public import Idealize.ShloMosaic.Lib.Exec
public import Idealize.ShloMosaic.Lib.Tactic
public import Idealize.ShloMosaic.Lib.VecWindow

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms2 (t : Fin cfg0.N) : Memref sig .tc .vmem S512x256 .bf16 := win0_0.stage (cfg0.slots t 0)
abbrev hs2 (t : Fin cfg0.N) : (ms2 t).IsWhole := hstage0_0 ((cfg0.slots t 0).cast nbuf0_0)
abbrev ms3 (t : Fin cfg0.N) : Memref sig .tc .vmem S1x4096x512 .bf16 := win0_1.stage (cfg0.slots t 1)
abbrev hs3 (t : Fin cfg0.N) : (ms3 t).IsWhole := hstage0_1 ((cfg0.slots t 1).cast nbuf0_1)
abbrev ms4 (t : Fin cfg0.N) : Memref sig .tc .vmem S1x4096x128 .bf16 := win0_2.stage (cfg0.slots t 2)
abbrev hs4 (t : Fin cfg0.N) : (ms4 t).IsWhole := hstage0_2 ((cfg0.slots t 2).cast nbuf0_2)
abbrev ms5 (t : Fin cfg0.N) : Memref sig .tc .vmem S640x4096 .bf16 := win0_3.stage (cfg0.slots t 3)
abbrev hs5 (t : Fin cfg0.N) : (ms5 t).IsWhole := hstage0_3 ((cfg0.slots t 3).cast nbuf0_3)
abbrev ms6 (t : Fin cfg0.N) : Memref sig .tc .vmem S1x8x256 .f32 := win0_4.stage (cfg0.slots t 4)
abbrev hs6 (t : Fin cfg0.N) : (ms6 t).IsWhole := hstage0_4 ((cfg0.slots t 4).cast nbuf0_4)
abbrev ms7 (t : Fin cfg0.N) : Memref sig .tc .vmem S1x256x512 .bf16 := win0_5.stage (cfg0.slots t 5)
abbrev hs7 (t : Fin cfg0.N) : (ms7 t).IsWhole := hstage0_5 ((cfg0.slots t 5).cast nbuf0_5)
abbrev ms8 : Memref sig .tc .vmem S2x8x512x256 .f32 := Memref.whole cc0_scratch0
abbrev hs8 : (ms8).IsWhole := Memref.isWhole_whole _

/-- What the body leaves in the result's staging buffer at point `t`, the scratch at `x8` before. -/
def outsAt (c : Dev nD) (t : Fin cfg0.N) (x8 : Vec F S2x8x512x256 .f32) : Vec F S1x256x512 .bf16 :=
  if hc : k0_cond1 (grid0.coords t) = 1#1 then
    (runOne c (grid0.coords t) hc (ms2 t) (hs2 t) (ms3 t) (hs3 t) (ms4 t) (hs4 t) (ms5 t) (hs5 t) (ms6 t) (hs6 t) (ms7 t) (hs7 t) ms8 hs8
      (iblk m c 0 t) (iblk m c 1 t) (iblk m c 2 t) (iblk m c 3 t) (iblk m c 4 t)).1 x8
  else
    (runTwo c (grid0.coords t) hc (ms2 t) (hs2 t) (ms3 t) (hs3 t) (ms4 t) (hs4 t) (ms5 t) (hs5 t) (ms6 t) (hs6 t) (ms7 t) (hs7 t) ms8 hs8
      (iblk m c 0 t) (iblk m c 1 t) (iblk m c 2 t) (iblk m c 3 t) (iblk m c 4 t)).1 x8

/-- The body at point `t`, on the staging memrefs holding the point's blocks and the scratch holding `x8`. -/
theorem body_at (c : Dev nD) (t : Fin cfg0.N) (x8 : Vec F S2x8x512x256 .f32) (K : PUnit → sProp 𝕄) :
    iprop(owns (c : Thread nD τ) (ms2 t) fullShare (iblk m c 0 t) ∗ owns (c : Thread nD τ) (ms3 t) fullShare (iblk m c 1 t)
        ∗ owns (c : Thread nD τ) (ms4 t) fullShare (iblk m c 2 t) ∗ owns (c : Thread nD τ) (ms5 t) fullShare (iblk m c 3 t)
        ∗ owns (c : Thread nD τ) (ms6 t) fullShare (iblk m c 4 t) ∗ (∃ d, owns (c : Thread nD τ) (ms7 t) fullShare d)
        ∗ owns (c : Thread nD τ) ms8 fullShare x8
        ∗ (iprop(owns (c : Thread nD τ) (ms2 t) fullShare (iblk m c 0 t) ∗ owns (c : Thread nD τ) (ms3 t) fullShare (iblk m c 1 t)
        ∗ owns (c : Thread nD τ) (ms4 t) fullShare (iblk m c 2 t) ∗ owns (c : Thread nD τ) (ms5 t) fullShare (iblk m c 3 t)
        ∗ owns (c : Thread nD τ) (ms6 t) fullShare (iblk m c 4 t) ∗ owns (c : Thread nD τ) (ms7 t) fullShare (outsAt m c t x8)
        ∗ (∃ d, owns (c : Thread nD τ) ms8 fullShare d)) -∗ K ⟨⟩))
      ⊢ wp frame (wpE (defs₀ (F := F)) 𝒱₀ c none) Set.univ (bodyAt0 t) K := by
  unfold outsAt
  split
  · next hc => exact (runOne c (grid0.coords t) hc (ms2 t) (hs2 t) (ms3 t) (hs3 t) (ms4 t) (hs4 t) (ms5 t) (hs5 t) (ms6 t) (hs6 t) (ms7 t) (hs7 t) ms8 hs8
      (iblk m c 0 t) (iblk m c 1 t) (iblk m c 2 t) (iblk m c 3 t) (iblk m c 4 t)).2 Set.univ x8 K
  · next hc => exact (runTwo c (grid0.coords t) hc (ms2 t) (hs2 t) (ms3 t) (hs3 t) (ms4 t) (hs4 t) (ms5 t) (hs5 t) (ms6 t) (hs6 t) (ms7 t) (hs7 t) ms8 hs8
      (iblk m c 0 t) (iblk m c 1 t) (iblk m c 2 t) (iblk m c 3 t) (iblk m c 4 t)).2 Set.univ x8 K

/-- The scratch buffer held whole is its memref owned. -/
theorem scratch_owns (c : Dev nD) (f : Vec F S2x8x512x256 .f32) :
    ((((c : Thread nD τ).loc cc0_scratch0) ↦{fullShare} f : sProp 𝕄) ⊢ owns (c : Thread nD τ) ms8 fullShare f)
      ∧ ((owns (c : Thread nD τ) ms8 fullShare f : sProp 𝕄) ⊢ (((c : Thread nD τ).loc cc0_scratch0) ↦{fullShare} f)) := by
  rw [owns_whole]
  exact ⟨.rfl, .rfl⟩

/-- The body table's row at the point is the body. -/
theorem defs₀_row (t : Fin cfg0.N) : defs₀ (F := F) .tc cfg0.body (cfg0.bodyArgs t (cfg0.slots t)) = bodyAt0 t := by
  unfold defs₀; rw [Defs.onTc_tc]

/-! ## The run, for a given description of the result's blocks -/

/-- The proof data: the arrays as the region finds them; after the body each input's buffer at its block and the result's
    at `O c t`; the invariant the scratch at some contents and the generator register. -/
def dats (O : (c : Dev nD) → Fin cfg0.N → Vec F S1x256x512 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => O c t
  Φ _ := Pipeline.ΦA spec0 c
  q _ := fullShare
  owed _ := 0

variable (O : (c : Dev nD) → Fin cfg0.N → Vec F S1x256x512 .bf16)

theorem A_eq (c : Dev nD) (w : Fin cfg0.W) : (dats m O 0 c).A w = V m c (Pipeline.arrRef spec0 w) := by dsimp only [dats]
theorem after_0 (c : Dev nD) (t : Fin cfg0.N) : (dats m O 0 c).after 0 t = iblk m c 0 t := by dsimp only [dats]
theorem after_1 (c : Dev nD) (t : Fin cfg0.N) : (dats m O 0 c).after 1 t = iblk m c 1 t := by dsimp only [dats]
theorem after_2 (c : Dev nD) (t : Fin cfg0.N) : (dats m O 0 c).after 2 t = iblk m c 2 t := by dsimp only [dats]
theorem after_3 (c : Dev nD) (t : Fin cfg0.N) : (dats m O 0 c).after 3 t = iblk m c 3 t := by dsimp only [dats]
theorem after_4 (c : Dev nD) (t : Fin cfg0.N) : (dats m O 0 c).after 4 t = iblk m c 4 t := by dsimp only [dats]
theorem after_5 (c : Dev nD) (t : Fin cfg0.N) : (dats m O 0 c).after 5 t = O c t := by dsimp only [dats]
theorem before_0 (c : Dev nD) (t : Fin cfg0.N) (d) : (dats m O 0 c).before 0 t d = iblk m c 0 t :=
  before0_0_of m (dats m O 0 c) (A_eq m O c 0) (after_0 m O c) t d
theorem before_1 (c : Dev nD) (t : Fin cfg0.N) (d) : (dats m O 0 c).before 1 t d = iblk m c 1 t :=
  before0_1_of m (dats m O 0 c) (A_eq m O c 1) (after_1 m O c) t d
theorem before_2 (c : Dev nD) (t : Fin cfg0.N) (d) : (dats m O 0 c).before 2 t d = iblk m c 2 t :=
  before0_2_of m (dats m O 0 c) (A_eq m O c 2) (after_2 m O c) t d
theorem before_3 (c : Dev nD) (t : Fin cfg0.N) (d) : (dats m O 0 c).before 3 t d = iblk m c 3 t :=
  before0_3_of m (dats m O 0 c) (A_eq m O c 3) (after_3 m O c) t d
theorem before_4 (c : Dev nD) (t : Fin cfg0.N) (d) : (dats m O 0 c).before 4 t d = iblk m c 4 t :=
  before0_4_of m (dats m O 0 c) (A_eq m O c 4) (after_4 m O c) t d

/-! ## The frame: nothing said of the result's blocks -/

/-- The result's window is the forgotten one. -/
def forgets : Fin cfg0.W → Bool := fun w => w == 5

/-- The data with the result unnamed. -/
abbrev datsU := dats m (fun _ t => Pipeline.Dat.unnamed (cfg := cfg0) 5 t)

def bodyPre (c : Dev nD) (t : Fin cfg0.N) : sProp 𝕄 :=
  iprop((datsU m 0 c).Φ t.castSucc ∗ (datsU m 0 c).owesAt () t.castSucc
    ∗ (∃ d, owns (c : Thread nD τ) (ms2 t) fullShare ((datsU m 0 c).before 0 t d))
    ∗ (∃ d, owns (c : Thread nD τ) (ms3 t) fullShare ((datsU m 0 c).before 1 t d))
    ∗ (∃ d, owns (c : Thread nD τ) (ms4 t) fullShare ((datsU m 0 c).before 2 t d))
    ∗ (∃ d, owns (c : Thread nD τ) (ms5 t) fullShare ((datsU m 0 c).before 3 t d))
    ∗ (∃ d, owns (c : Thread nD τ) (ms6 t) fullShare ((datsU m 0 c).before 4 t d))
    ∗ (∃ d, owns (c : Thread nD τ) (ms7 t) fullShare d))
def bodyPost (c : Dev nD) (t : Fin cfg0.N) : sProp 𝕄 :=
  iprop((datsU m 0 c).Φ t.succ ∗ (datsU m 0 c).owesAt () t.succ
    ∗ owns (c : Thread nD τ) (ms2 t) fullShare ((datsU m 0 c).after 0 t)
    ∗ owns (c : Thread nD τ) (ms3 t) fullShare ((datsU m 0 c).after 1 t)
    ∗ owns (c : Thread nD τ) (ms4 t) fullShare ((datsU m 0 c).after 2 t)
    ∗ owns (c : Thread nD τ) (ms5 t) fullShare ((datsU m 0 c).after 3 t)
    ∗ owns (c : Thread nD τ) (ms6 t) fullShare ((datsU m 0 c).after 4 t)
    ∗ (∃ d, owns (c : Thread nD τ) (ms7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost datsU
  simp only [before_0, before_1, before_2, before_3, before_4]
  rw [show (dats m _ 0 c).Φ t.succ = (Pipeline.ΦA spec0 c : sProp 𝕄) from rfl, show (dats m _ 0 c).Φ t.castSucc = (Pipeline.ΦA spec0 c : sProp 𝕄) from rfl,
    show (dats m _ 0 c).owesAt () t.succ = (dats m _ 0 c).owesAt () t.castSucc from rfl, after_0, after_1, after_2, after_3, after_4]
  unfold Pipeline.ΦA
  rw [scopedRest0_eq]
  iintro ⟨⟨⟨%f8, H8⟩, Hg⟩, Ho, ⟨%d2, H2⟩, ⟨%d3, H3⟩, ⟨%d4, H4⟩, ⟨%d5, H5⟩, ⟨%d6, H6⟩, ⟨%d7, H7⟩⟩
  iapply (body_at m c t f8 _)
  isplitl [H2]; · iexact H2
  isplitl [H3]; · iexact H3
  isplitl [H4]; · iexact H4
  isplitl [H5]; · iexact H5
  isplitl [H6]; · iexact H6
  isplitl [H7]; · iexists _; iexact H7
  isplitl [H8]; · iapply (scratch_owns c f8).1; iexact H8
  iintro ⟨H2, H3, H4, H5, H6, H7, ⟨%d8, H8⟩⟩
  isplitl [H8 Hg]
  · isplitl [H8]; · iexists d8; iapply (scratch_owns c d8).2; iexact H8
    iexact Hg
  isplitl [Ho]; · iexact Ho
  isplitl [H2]; · iexact H2
  isplitl [H3]; · iexact H3
  isplitl [H4]; · iexact H4
  isplitl [H5]; · iexact H5
  isplitl [H6]; · iexact H6
  iexists _; iexact H7

theorem body_obligation (c : Dev nD) :
    BodyObligation (datsU (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every run ends, every buffer no window stages as it was and every counter at zero. -/
theorem run_forget :
    θ_run defs (onTc (τ := τ) (main (F := F))) (s₀ m ρ)
      (fun r => Pipeline.RDat.FramePost (cfgs 0) (fun c => (datsU m 0 c).toRForget forgets) (V m) r ∧ r.2.sem = fun _ => 0) :=
  Pipeline.θ_run_frame_forget (Q' := _) cfgs (datsU m) (0 : Fin 1) launch0 defs₀ Variants.none forgets m ρ main
    (hbody := fun c => (body_obligation m c).loose) (hshare := fun c => (datsU m 0 c).share_full fun _ => rfl)
    (howed := fun _ _ => rfl) (V := V m) (hmain := hmain m Variants.none) (hA := fun _ _ => rfl) (hΦ := fun _ _ => rfl)

/-- The frame: every run ends with the arguments as they were and every counter at zero. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_forget m ρ)

end Cert.KernelIdeal.Fox

end
-- ==== Proof.Fox.Pre.lean ====
/-
  The precondition: every entry of the four arguments is a real number.
-/
module

public import proofs.«01_k».proof.Pre_finite_args
public import Idealize.ShloMosaic.Lib.Pointwise
public import Idealize.ShloMosaic.Lib.Pipeline.Value

@[expose] public section

set_option maxRecDepth 16384
set_option maxHeartbeats 1000000

noncomputable section

namespace Cert.KernelIdeal.Fox

open Cert.Pre_finite_args
open Idealize.ShloMosaic Idealize.ShloMosaic.TcCoe Idealize.ShloMosaic.Tactic Idealize.ShloMosaic.Pointwise

/-- The side conditions of the precondition's operations. -/
instance preFacts : Facts := ⟨by decide, by decide, by decide, by decide, by decide⟩

/-- A number whose absolute value is less than infinity is a real. -/
theorem real_of_lt (x : EReal) (h : BitVec.ofBool (decide (max x (-x) < Ideal.ofBits .f32 0x7F800000#32)) = 1#1) : ∃ r : ℝ, x = r := by
  have e : Ideal.ofBits .f32 0x7F800000#32 = ⊤ := by simp [Ideal.ofBits, Ideal.ieee]
  rw [e] at h
  have hlt : max x (-x) < ⊤ := by
    by_contra hn
    rw [decide_eq_false hn] at h
    exact absurd h (by decide)
  induction x with
  | bot => simp at hlt
  | top => simp at hlt
  | coe r => exact ⟨r, rfl⟩

/-- Four arrays laid end to end, read at a place. -/
theorem cat4_apply (y0 y1 y2 : IVec S8388608 1) (y3 : IVec S131072 1) (l : Fin 25296896) :
    concatenate S25296896 0 [⟨S8388608, y0⟩, ⟨S8388608, y1⟩, ⟨S8388608, y2⟩, ⟨S131072, y3⟩]
        Facts.concatenates_S8388608_S8388608_S8388608_S131072_S25296896_d0 (ix1 l)
      = if h : l.val < 8388608 then y0 (ix1 ⟨l.val, h⟩) else if h : l.val - 8388608 < 8388608 then y1 (ix1 ⟨l.val - 8388608, h⟩)
        else if h : l.val - 8388608 - 8388608 < 8388608 then y2 (ix1 ⟨l.val - 8388608 - 8388608, h⟩)
        else y3 (ix1 ⟨l.val - 8388608 - 8388608 - 8388608, by omega⟩) := by
  pointwise []

theorem flat4_apply (y : IVec S4x4096x8x64 1) (b : Fin 4) (i : Fin 4096) (h : Fin 8) (d : Fin 64) (l : Fin 8388608)
    (hl : l.val = ((b.val * 4096 + i.val) * 8 + h.val) * 64 + d.val) :
    shapeCast S8388608 y Facts.shapeCasts_S4x4096x8x64_S8388608 (ix1 l) = y (ix4 b i h d) :=
  shapeCast_apply y _ _ (ix4 b i h d) (by
    rw [Shape.rowMajor_val_four, Shape.rowMajor_val_one]
    show ((b.val * 4096 + i.val) * 8 + h.val) * 64 + d.val = l.val
    omega)

theorem flat3_apply (y : IVec S4x4096x8 1) (b : Fin 4) (i : Fin 4096) (h : Fin 8) (l : Fin 131072)
    (hl : l.val = (b.val * 4096 + i.val) * 8 + h.val) :
    shapeCast S131072 y Facts.shapeCasts_S4x4096x8_S131072 (ix1 l) = y (ix3 b i h) :=
  shapeCast_apply y _ _ (ix3 b i h) (by
    rw [Shape.rowMajor_val_three, Shape.rowMajor_val_one]
    show (b.val * 4096 + i.val) * 8 + h.val = l.val
    omega)

/-- The precondition says that every entry of the arguments is a real. -/
theorem pre_real (x0 x1 x2 : FVec Ideal S4x4096x8x64 .f32) (x3 : FVec Ideal S4x4096x8 .f32)
    (h : fn (F := Ideal) x0 x1 x2 x3 = fun _ => 1#1) :
    (∀ b i h d, ∃ r : ℝ, x0 (ix4 b i h d) = r) ∧ (∀ b i h d, ∃ r : ℝ, x1 (ix4 b i h d) = r) ∧ (∀ b i h d, ∃ r : ℝ, x2 (ix4 b i h d) = r)
      ∧ (∀ b i h, ∃ r : ℝ, x3 (ix3 b i h) = r) := by
  unfold fn at h
  dsimp only at h
  have key := fun l : Fin 25296896 => (cat4_apply _ _ _ _ l).symm.trans (congrFun h (ix1 l))
  refine ⟨fun b i g d => ?_, fun b i g d => ?_, fun b i g d => ?_, fun b i g => ?_⟩
  · have hk := key ⟨((b.val * 4096 + i.val) * 8 + g.val) * 64 + d.val, by omega⟩
    dsimp only at hk
    rw [dif_pos (by omega), flat4_apply _ b i g d _ rfl] at hk
    exact real_of_lt _ hk
  · have hk := key ⟨((b.val * 4096 + i.val) * 8 + g.val) * 64 + d.val + 8388608, by omega⟩
    dsimp only at hk
    rw [dif_neg (by omega), dif_pos (by omega), flat4_apply _ b i g d _ (by dsimp only; omega)] at hk
    exact real_of_lt _ hk
  · have hk := key ⟨((b.val * 4096 + i.val) * 8 + g.val) * 64 + d.val + 8388608 + 8388608, by omega⟩
    dsimp only at hk
    rw [dif_neg (by omega), dif_neg (by omega), dif_pos (by omega), flat4_apply _ b i g d _ (by dsimp only; omega)] at hk
    exact real_of_lt _ hk
  · have hk := key ⟨(b.val * 4096 + i.val) * 8 + g.val + 8388608 + 8388608 + 8388608, by omega⟩
    dsimp only at hk
    rw [dif_neg (by omega), dif_neg (by omega), dif_neg (by omega), flat3_apply _ b i g _ (by dsimp only; omega)] at hk
    exact real_of_lt _ hk

end Cert.KernelIdeal.Fox

end
-- ==== Proof.Fox.Spec.lean ====
/-
  The attention's arithmetic as operations on whole blocks, for any float values: the logits of a block of keys, one
  head's step of the running maximum and of the running sums, and the step of all eight heads.
-/
module

public import proofs.«01_k».proof.Proof.Fox.RunKernelIdeal
public import Idealize.ShloMosaic.Lib.Exec
public import Idealize.ShloMosaic.Lib.Tactic
public import Idealize.ShloMosaic.Lib.VecWindow

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The logits of a block of keys against one head's columns: the keys' pair of heads beside the pieces of the sums. -/
def scoreT (kb ab : Vec F S1x512x128 .bf16) (rh : FVec F S256x256 .bf16) : FVec F S512x256 .f32 :=
  matmul dot_S512x256_S256x256_S512x256_1_0_0_1_n_n none
    (concatenate S512x256 1 [⟨S512x128, shapeCast S512x128 kb shapeCasts_S1x512x128_S512x128⟩,
      ⟨S512x128, shapeCast S512x128 ab shapeCasts_S1x512x128_S512x128⟩] concatenates_S512x128_S512x128_S512x256_d1)
    rh (constant S512x256 .f32 0x00000000#32)

/-- The running maximum after a block of logits. -/
def newM (m : FVec F S1x256 .f32) (s : FVec F S512x256 .f32) : FVec F S1x256 .f32 :=
  maximumf m (shapeCast S1x256 (multiReduction .maximumf [0] S256 s 0xFF800000#32 reduces_S512x256_S256 (.inl rfl) rfl)
    shapeCasts_S256_S1x256)

/-- The running sums after a block of logits: the old ones rescaled, and the block's. -/
def newA (m : FVec F S1x256 .f32) (a : FVec F S80x256 .f32) (s : FVec F S512x256 .f32) (v : Vec F S80x512 .bf16) :
    FVec F S80x256 .f32 :=
  addf (mulf (broadcastTo S80x256 (exp2 (subf m (newM m s))) broadcasts_S1x256_S80x256) a)
    (matmul dot_S80x512_S512x256_S80x256_1_0_0_1_n_n none (shapeCast S80x512 v rfl)
      (truncf .bf16 (exp2 (subf s (broadcastTo S512x256 (newM m s) broadcasts_S1x256_S512x256))) bitsLt_bf16_f32)
      (constant S80x256 .f32 0x00000000#32))

/-- One head's row of the running maxima. -/
def mRow (h : Fin 8) (x : FVec F S8x256 .f32) : FVec F S1x256 .f32 :=
  match h with
  | 0 => extractStridedSlice S1x256 ![0, 0] x slices_S8x256_o0_0_S1x256
  | 1 => extractStridedSlice S1x256 ![1, 0] x slices_S8x256_o1_0_S1x256
  | 2 => extractStridedSlice S1x256 ![2, 0] x slices_S8x256_o2_0_S1x256
  | 3 => extractStridedSlice S1x256 ![3, 0] x slices_S8x256_o3_0_S1x256
  | 4 => extractStridedSlice S1x256 ![4, 0] x slices_S8x256_o4_0_S1x256
  | 5 => extractStridedSlice S1x256 ![5, 0] x slices_S8x256_o5_0_S1x256
  | 6 => extractStridedSlice S1x256 ![6, 0] x slices_S8x256_o6_0_S1x256
  | 7 => extractStridedSlice S1x256 ![7, 0] x slices_S8x256_o7_0_S1x256

/-- One head's eighty rows of the running sums. -/
def aRows (h : Fin 8) (x : FVec F S640x256 .f32) : FVec F S80x256 .f32 :=
  match h with
  | 0 => extractStridedSlice S80x256 ![0, 0] x slices_S640x256_o0_0_S80x256
  | 1 => extractStridedSlice S80x256 ![80, 0] x slices_S640x256_o80_0_S80x256
  | 2 => extractStridedSlice S80x256 ![160, 0] x slices_S640x256_o160_0_S80x256
  | 3 => extractStridedSlice S80x256 ![240, 0] x slices_S640x256_o240_0_S80x256
  | 4 => extractStridedSlice S80x256 ![320, 0] x slices_S640x256_o320_0_S80x256
  | 5 => extractStridedSlice S80x256 ![400, 0] x slices_S640x256_o400_0_S80x256
  | 6 => extractStridedSlice S80x256 ![480, 0] x slices_S640x256_o480_0_S80x256
  | 7 => extractStridedSlice S80x256 ![560, 0] x slices_S640x256_o560_0_S80x256

/-- All heads' maxima in one array. -/
def catM (f : Fin 8 → FVec F S1x256 .f32) : FVec F S8x256 .f32 :=
  concatenate S8x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩]
    concatenates_S1x256_S1x256_S1x256_S1x256_S1x256_S1x256_S1x256_S1x256_S8x256_d0

/-- All heads' sums in one array. -/
def catA (f : Fin 8 → FVec F S80x256 .f32) : FVec F S640x256 .f32 :=
  concatenate S640x256 0 [⟨S80x256, f 0⟩, ⟨S80x256, f 1⟩, ⟨S80x256, f 2⟩, ⟨S80x256, f 3⟩, ⟨S80x256, f 4⟩, ⟨S80x256, f 5⟩, ⟨S80x256, f 6⟩, ⟨S80x256, f 7⟩]
    concatenates_S80x256_S80x256_S80x256_S80x256_S80x256_S80x256_S80x256_S80x256_S640x256_d0

/-- The step of all heads by a block: logits `s`, values `v`. -/
def stepT (acc : FVec F S8x256 .f32 × FVec F S640x256 .f32) (s : Fin 8 → FVec F S512x256 .f32)
    (v : Fin 8 → Vec F S80x512 .bf16) : FVec F S8x256 .f32 × FVec F S640x256 .f32 :=
  (catM fun h => newM (mRow h acc.1) (s h), catA fun h => newA (mRow h acc.1) (aRows h acc.2) (s h) (v h))

/-- Eight logits written to slot `z`, newest first, over `L`. -/
def wr0 (s : Fin 8 → FVec F S512x256 .f32) (L : List (View.Piece (Elt F) S2x8x512x256 .f32)) : List (View.Piece (Elt F) S2x8x512x256 .f32) :=
  ⟨Rect.unit ![0, 7, 0, 0] S1x1x512x256.size inb_S2x8x512x256_S1x1x512x256_0_7_0_0, shapeCast S1x1x512x256 (s 7) shapeCasts_S512x256_S1x1x512x256⟩ :: ⟨Rect.unit ![0, 6, 0, 0] S1x1x512x256.size inb_S2x8x512x256_S1x1x512x256_0_6_0_0, shapeCast S1x1x512x256 (s 6) shapeCasts_S512x256_S1x1x512x256⟩ :: ⟨Rect.unit ![0, 5, 0, 0] S1x1x512x256.size inb_S2x8x512x256_S1x1x512x256_0_5_0_0, shapeCast S1x1x512x256 (s 5) shapeCasts_S512x256_S1x1x512x256⟩ :: ⟨Rect.unit ![0, 4, 0, 0] S1x1x512x256.size inb_S2x8x512x256_S1x1x512x256_0_4_0_0, shapeCast S1x1x512x256 (s 4) shapeCasts_S512x256_S1x1x512x256⟩ :: ⟨Rect.unit ![0, 3, 0, 0] S1x1x512x256.size inb_S2x8x512x256_S1x1x512x256_0_3_0_0, shapeCast S1x1x512x256 (s 3) shapeCasts_S512x256_S1x1x512x256⟩ :: ⟨Rect.unit ![0, 2, 0, 0] S1x1x512x256.size inb_S2x8x512x256_S1x1x512x256_0_2_0_0, shapeCast S1x1x512x256 (s 2) shapeCasts_S512x256_S1x1x512x256⟩ :: ⟨Rect.unit ![0, 1, 0, 0] S1x1x512x256.size inb_S2x8x512x256_S1x1x512x256_0_1_0_0, shapeCast S1x1x512x256 (s 1) shapeCasts_S512x256_S1x1x512x256⟩ :: ⟨Rect.unit ![0, 0, 0, 0] S1x1x512x256.size inb_S2x8x512x256_S1x1x512x256_0_0_0_0, shapeCast S1x1x512x256 (s 0) shapeCasts_S512x256_S1x1x512x256⟩ :: L

/-- The same for the other slot. -/
def wr1 (s : Fin 8 → FVec F S512x256 .f32) (L : List (View.Piece (Elt F) S2x8x512x256 .f32)) : List (View.Piece (Elt F) S2x8x512x256 .f32) :=
  ⟨Rect.unit ![1, 7, 0, 0] S1x1x512x256.size inb_S2x8x512x256_S1x1x512x256_1_7_0_0, shapeCast S1x1x512x256 (s 7) shapeCasts_S512x256_S1x1x512x256⟩ :: ⟨Rect.unit ![1, 6, 0, 0] S1x1x512x256.size inb_S2x8x512x256_S1x1x512x256_1_6_0_0, shapeCast S1x1x512x256 (s 6) shapeCasts_S512x256_S1x1x512x256⟩ :: ⟨Rect.unit ![1, 5, 0, 0] S1x1x512x256.size inb_S2x8x512x256_S1x1x512x256_1_5_0_0, shapeCast S1x1x512x256 (s 5) shapeCasts_S512x256_S1x1x512x256⟩ :: ⟨Rect.unit ![1, 4, 0, 0] S1x1x512x256.size inb_S2x8x512x256_S1x1x512x256_1_4_0_0, shapeCast S1x1x512x256 (s 4) shapeCasts_S512x256_S1x1x512x256⟩ :: ⟨Rect.unit ![1, 3, 0, 0] S1x1x512x256.size inb_S2x8x512x256_S1x1x512x256_1_3_0_0, shapeCast S1x1x512x256 (s 3) shapeCasts_S512x256_S1x1x512x256⟩ :: ⟨Rect.unit ![1, 2, 0, 0] S1x1x512x256.size inb_S2x8x512x256_S1x1x512x256_1_2_0_0, shapeCast S1x1x512x256 (s 2) shapeCasts_S512x256_S1x1x512x256⟩ :: ⟨Rect.unit ![1, 1, 0, 0] S1x1x512x256.size inb_S2x8x512x256_S1x1x512x256_1_1_0_0, shapeCast S1x1x512x256 (s 1) shapeCasts_S512x256_S1x1x512x256⟩ :: ⟨Rect.unit ![1, 0, 0, 0] S1x1x512x256.size inb_S2x8x512x256_S1x1x512x256_1_0_0_0, shapeCast S1x1x512x256 (s 0) shapeCasts_S512x256_S1x1x512x256⟩ :: L

/-- One head's logits in slot 0 of the scratch. -/
def rd0 (M8 : Memref sig .tc .vmem S2x8x512x256 .f32) (f : BufTy.Contents (Elt F) M8.view.ty) (h : Fin 8) : FVec F S512x256 .f32 :=
  match h with
  | 0 => shapeCast S512x256 (View.readAt (Elt F) M8.view (Rect.unit (s := S2x8x512x256) ![0, 0, 0, 0] S1x1x512x256.size inb_S2x8x512x256_S1x1x512x256_0_0_0_0).toLoadRect f) shapeCasts_S1x1x512x256_S512x256
  | 1 => shapeCast S512x256 (View.readAt (Elt F) M8.view (Rect.unit (s := S2x8x512x256) ![0, 1, 0, 0] S1x1x512x256.size inb_S2x8x512x256_S1x1x512x256_0_1_0_0).toLoadRect f) shapeCasts_S1x1x512x256_S512x256
  | 2 => shapeCast S512x256 (View.readAt (Elt F) M8.view (Rect.unit (s := S2x8x512x256) ![0, 2, 0, 0] S1x1x512x256.size inb_S2x8x512x256_S1x1x512x256_0_2_0_0).toLoadRect f) shapeCasts_S1x1x512x256_S512x256
  | 3 => shapeCast S512x256 (View.readAt (Elt F) M8.view (Rect.unit (s := S2x8x512x256) ![0, 3, 0, 0] S1x1x512x256.size inb_S2x8x512x256_S1x1x512x256_0_3_0_0).toLoadRect f) shapeCasts_S1x1x512x256_S512x256
  | 4 => shapeCast S512x256 (View.readAt (Elt F) M8.view (Rect.unit (s := S2x8x512x256) ![0, 4, 0, 0] S1x1x512x256.size inb_S2x8x512x256_S1x1x512x256_0_4_0_0).toLoadRect f) shapeCasts_S1x1x512x256_S512x256
  | 5 => shapeCast S512x256 (View.readAt (Elt F) M8.view (Rect.unit (s := S2x8x512x256) ![0, 5, 0, 0] S1x1x512x256.size inb_S2x8x512x256_S1x1x512x256_0_5_0_0).toLoadRect f) shapeCasts_S1x1x512x256_S512x256
  | 6 => shapeCast S512x256 (View.readAt (Elt F) M8.view (Rect.unit (s := S2x8x512x256) ![0, 6, 0, 0] S1x1x512x256.size inb_S2x8x512x256_S1x1x512x256_0_6_0_0).toLoadRect f) shapeCasts_S1x1x512x256_S512x256
  | 7 => shapeCast S512x256 (View.readAt (Elt F) M8.view (Rect.unit (s := S2x8x512x256) ![0, 7, 0, 0] S1x1x512x256.size inb_S2x8x512x256_S1x1x512x256_0_7_0_0).toLoadRect f) shapeCasts_S1x1x512x256_S512x256

/-- One head's logits in slot 1 of the scratch. -/
def rd1 (M8 : Memref sig .tc .vmem S2x8x512x256 .f32) (f : BufTy.Contents (Elt F) M8.view.ty) (h : Fin 8) : FVec F S512x256 .f32 :=
  match h with
  | 0 => shapeCast S512x256 (View.readAt (Elt F) M8.view (Rect.unit (s := S2x8x512x256) ![1, 0, 0, 0] S1x1x512x256.size inb_S2x8x512x256_S1x1x512x256_1_0_0_0).toLoadRect f) shapeCasts_S1x1x512x256_S512x256
  | 1 => shapeCast S512x256 (View.readAt (Elt F) M8.view (Rect.unit (s := S2x8x512x256) ![1, 1, 0, 0] S1x1x512x256.size inb_S2x8x512x256_S1x1x512x256_1_1_0_0).toLoadRect f) shapeCasts_S1x1x512x256_S512x256
  | 2 => shapeCast S512x256 (View.readAt (Elt F) M8.view (Rect.unit (s := S2x8x512x256) ![1, 2, 0, 0] S1x1x512x256.size inb_S2x8x512x256_S1x1x512x256_1_2_0_0).toLoadRect f) shapeCasts_S1x1x512x256_S512x256
  | 3 => shapeCast S512x256 (View.readAt (Elt F) M8.view (Rect.unit (s := S2x8x512x256) ![1, 3, 0, 0] S1x1x512x256.size inb_S2x8x512x256_S1x1x512x256_1_3_0_0).toLoadRect f) shapeCasts_S1x1x512x256_S512x256
  | 4 => shapeCast S512x256 (View.readAt (Elt F) M8.view (Rect.unit (s := S2x8x512x256) ![1, 4, 0, 0] S1x1x512x256.size inb_S2x8x512x256_S1x1x512x256_1_4_0_0).toLoadRect f) shapeCasts_S1x1x512x256_S512x256
  | 5 => shapeCast S512x256 (View.readAt (Elt F) M8.view (Rect.unit (s := S2x8x512x256) ![1, 5, 0, 0] S1x1x512x256.size inb_S2x8x512x256_S1x1x512x256_1_5_0_0).toLoadRect f) shapeCasts_S1x1x512x256_S512x256
  | 6 => shapeCast S512x256 (View.readAt (Elt F) M8.view (Rect.unit (s := S2x8x512x256) ![1, 6, 0, 0] S1x1x512x256.size inb_S2x8x512x256_S1x1x512x256_1_6_0_0).toLoadRect f) shapeCasts_S1x1x512x256_S512x256
  | 7 => shapeCast S512x256 (View.readAt (Elt F) M8.view (Rect.unit (s := S2x8x512x256) ![1, 7, 0, 0] S1x1x512x256.size inb_S2x8x512x256_S1x1x512x256_1_7_0_0).toLoadRect f) shapeCasts_S1x1x512x256_S512x256

end Cert.KernelIdeal.Fox

end
-- ==== Proof.Fox.Trip.lean ====
/-
  One trip of the kernel's loop over pairs of key blocks, as two steps of all heads.
-/
module

public import proofs.«01_k».proof.Proof.Fox.Spec
public import Idealize.ShloMosaic.Lib.Exec
public import Idealize.ShloMosaic.Lib.Tactic
public import Idealize.ShloMosaic.Lib.VecWindow

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (𝒱 : Variants) (c : Dev nD) (bd : Option 𝒱.V) (i : grid0.Coords) (M2 : Memref sig .tc .vmem S512x256 .bf16) (h2 : M2.IsWhole) (M3 : Memref sig .tc .vmem S1x4096x512 .bf16) (h3 : M3.IsWhole) (M4 : Memref sig .tc .vmem S1x4096x128 .bf16) (h4 : M4.IsWhole) (M5 : Memref sig .tc .vmem S640x4096 .bf16) (h5 : M5.IsWhole) (M6 : Memref sig .tc .vmem S1x8x256 .f32) (h6 : M6.IsWhole) (M7 : Memref sig .tc .vmem S1x256x512 .bf16) (h7 : M7.IsWhole) (M8 : Memref sig .tc .vmem S2x8x512x256 .f32) (h8 : M8.IsWhole)
  (rh : Fin 8 → FVec F S256x256 .bf16) (v465 : IVec S1x256 32) (v484 : BitVec 32) (v554 : BitVec 32) (v565 : BitVec 1) (v567 : BitVec 1)
  (X3 : BufTy.Contents (Elt F) M3.view.ty) (X4 : BufTy.Contents (Elt F) M4.view.ty) (X5 : BufTy.Contents (Elt F) M5.view.ty)

/-- The logits that a trip computes: of the block `2 k + 1` (`r = 0`) or `2 k + 2` (`r = 1`). -/
def lgT (k : Fin (k0_t1_loop i).trips) (r : Fin 2) (h : Fin 8) : FVec F S512x256 .f32 :=
  scoreT (match h with
    | 0 => View.readAt (Elt F) M3.view (Rect.unit (s := S1x4096x512) (k0_off2 i k (BitVec.ofNat 32 (1 + r.val))) S1x512x128.size (k0_off2_inb i k r)).toLoadRect X3
    | 1 => View.readAt (Elt F) M3.view (Rect.unit (s := S1x4096x512) (k0_off2 i k (BitVec.ofNat 32 (1 + r.val))) S1x512x128.size (k0_off2_inb i k r)).toLoadRect X3
    | 2 => View.readAt (Elt F) M3.view (Rect.unit (s := S1x4096x512) (k0_off3 i k (BitVec.ofNat 32 (1 + r.val))) S1x512x128.size (k0_off3_inb i k r)).toLoadRect X3
    | 3 => View.readAt (Elt F) M3.view (Rect.unit (s := S1x4096x512) (k0_off3 i k (BitVec.ofNat 32 (1 + r.val))) S1x512x128.size (k0_off3_inb i k r)).toLoadRect X3
    | 4 => View.readAt (Elt F) M3.view (Rect.unit (s := S1x4096x512) (k0_off4 i k (BitVec.ofNat 32 (1 + r.val))) S1x512x128.size (k0_off4_inb i k r)).toLoadRect X3
    | 5 => View.readAt (Elt F) M3.view (Rect.unit (s := S1x4096x512) (k0_off4 i k (BitVec.ofNat 32 (1 + r.val))) S1x512x128.size (k0_off4_inb i k r)).toLoadRect X3
    | 6 => View.readAt (Elt F) M3.view (Rect.unit (s := S1x4096x512) (k0_off5 i k (BitVec.ofNat 32 (1 + r.val))) S1x512x128.size (k0_off5_inb i k r)).toLoadRect X3
    | 7 => View.readAt (Elt F) M3.view (Rect.unit (s := S1x4096x512) (k0_off5 i k (BitVec.ofNat 32 (1 + r.val))) S1x512x128.size (k0_off5_inb i k r)).toLoadRect X3
    ) (View.readAt (Elt F) M4.view (Rect.unit (s := S1x4096x128) (k0_off1 i k (BitVec.ofNat 32 (1 + r.val))) S1x512x128.size (k0_off1_inb i k r)).toLoadRect X4) (rh h)

/-- The values of the block `2 k`. -/
def vT0 (k : Fin (k0_t1_loop i).trips) (h : Fin 8) : Vec F S80x512 .bf16 :=
  match h with
  | 0 => View.readAt (Elt F) M5.view (Rect.unit (s := S640x4096) (k0_off6 i k) S80x512.size (k0_off6_inb i k)).toLoadRect X5
  | 1 => View.readAt (Elt F) M5.view (Rect.unit (s := S640x4096) (k0_off7 i k) S80x512.size (k0_off7_inb i k)).toLoadRect X5
  | 2 => View.readAt (Elt F) M5.view (Rect.unit (s := S640x4096) (k0_off8 i k) S80x512.size (k0_off8_inb i k)).toLoadRect X5
  | 3 => View.readAt (Elt F) M5.view (Rect.unit (s := S640x4096) (k0_off9 i k) S80x512.size (k0_off9_inb i k)).toLoadRect X5
  | 4 => View.readAt (Elt F) M5.view (Rect.unit (s := S640x4096) (k0_off10 i k) S80x512.size (k0_off10_inb i k)).toLoadRect X5
  | 5 => View.readAt (Elt F) M5.view (Rect.unit (s := S640x4096) (k0_off11 i k) S80x512.size (k0_off11_inb i k)).toLoadRect X5
  | 6 => View.readAt (Elt F) M5.view (Rect.unit (s := S640x4096) (k0_off12 i k) S80x512.size (k0_off12_inb i k)).toLoadRect X5
  | 7 => View.readAt (Elt F) M5.view (Rect.unit (s := S640x4096) (k0_off13 i k) S80x512.size (k0_off13_inb i k)).toLoadRect X5

/-- The values of the block `2 k + 1`. -/
def vT1 (k : Fin (k0_t1_loop i).trips) (h : Fin 8) : Vec F S80x512 .bf16 :=
  match h with
  | 0 => View.readAt (Elt F) M5.view (Rect.unit (s := S640x4096) (k0_off14 i k) S80x512.size (k0_off14_inb i k)).toLoadRect X5
  | 1 => View.readAt (Elt F) M5.view (Rect.unit (s := S640x4096) (k0_off15 i k) S80x512.size (k0_off15_inb i k)).toLoadRect X5
  | 2 => View.readAt (Elt F) M5.view (Rect.unit (s := S640x4096) (k0_off16 i k) S80x512.size (k0_off16_inb i k)).toLoadRect X5
  | 3 => View.readAt (Elt F) M5.view (Rect.unit (s := S640x4096) (k0_off17 i k) S80x512.size (k0_off17_inb i k)).toLoadRect X5
  | 4 => View.readAt (Elt F) M5.view (Rect.unit (s := S640x4096) (k0_off18 i k) S80x512.size (k0_off18_inb i k)).toLoadRect X5
  | 5 => View.readAt (Elt F) M5.view (Rect.unit (s := S640x4096) (k0_off19 i k) S80x512.size (k0_off19_inb i k)).toLoadRect X5
  | 6 => View.readAt (Elt F) M5.view (Rect.unit (s := S640x4096) (k0_off20 i k) S80x512.size (k0_off20_inb i k)).toLoadRect X5
  | 7 => View.readAt (Elt F) M5.view (Rect.unit (s := S640x4096) (k0_off21 i k) S80x512.size (k0_off21_inb i k)).toLoadRect X5

/-- What a trip writes: the logits of two blocks, the later in slot 0. -/
theorem tripL_eq (k : Fin (k0_t1_loop i).trips) (acc : FVec F S8x256 .f32 × FVec F S640x256 .f32) (f : BufTy.Contents (Elt F) M8.view.ty) :
    tripL_k0_t1 (F := F) 𝒱 c bd i M2 h2 M3 h3 M4 h4 M5 h5 M6 h6 M7 h7 M8 h8 (rh 0) (rh 1) (rh 2) (rh 3) (rh 4) (rh 5) (rh 6) (rh 7) v465 v484 v554 v565 v567 X3 X4 X5 k acc f
      = wr0 (lgT i M3 M4 rh X3 X4 k 1) (wr1 (lgT i M3 M4 rh X3 X4 k 0) []) := by
  unfold tripL_k0_t1 trip_k0_t1
  rfl

/-- What a trip yields: the steps by the logits found in slot 0, then by those it wrote to slot 1. -/
theorem tripR_eq (k : Fin (k0_t1_loop i).trips) (acc : FVec F S8x256 .f32 × FVec F S640x256 .f32) (f : BufTy.Contents (Elt F) M8.view.ty) :
    tripR_k0_t1 (F := F) 𝒱 c bd i M2 h2 M3 h3 M4 h4 M5 h5 M6 h6 M7 h7 M8 h8 (rh 0) (rh 1) (rh 2) (rh 3) (rh 4) (rh 5) (rh 6) (rh 7) v465 v484 v554 v565 v567 X3 X4 X5 k acc f
      = stepT (stepT acc (rd0 M8 f) (vT0 i M5 X5 k))
          (rd1 M8 (M8.view.writes (Elt F) M8.view.junk (wr0 (lgT i M3 M4 rh X3 X4 k 1) (wr1 (lgT i M3 M4 rh X3 X4 k 0) [])))) (vT1 i M5 X5 k) := by
  unfold tripR_k0_t1 trip_k0_t1
  rfl

end Cert.KernelIdeal.Fox

end
-- ==== Proof.Fox.Body.lean ====
/-
  The kernel's body at one grid point, as operations on whole blocks: the heads' columns, the walk over the pairs of key
  blocks, the last one or two blocks, and the quotient.
-/
module

public import proofs.«01_k».proof.Proof.Fox.Trip
public import Idealize.ShloMosaic.Lib.Exec
public import Idealize.ShloMosaic.Lib.Tactic
public import Idealize.ShloMosaic.Lib.VecWindow

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- One head's queries in their half of the pair of heads, zeros in the other half. -/
def qpadT (x2 : Vec F S512x256 .bf16) (h : Fin 8) : FVec F S128x256 .bf16 :=
  match h with
  | 0 => concatenate S128x256 0 [⟨S64x256, extractStridedSlice S64x256 ![0, 0] (shapeCast S512x256 x2 shapeCasts_S512x256_S512x256) slices_S512x256_o0_0_S64x256⟩, ⟨S64x256, broadcast S64x256 (Scalar.ofBits .bf16 0x0000#16)⟩] concatenates_S64x256_S64x256_S128x256_d0
  | 1 => concatenate S128x256 0 [⟨S64x256, broadcast S64x256 (Scalar.ofBits .bf16 0x0000#16)⟩, ⟨S64x256, extractStridedSlice S64x256 ![64, 0] (shapeCast S512x256 x2 shapeCasts_S512x256_S512x256) slices_S512x256_o64_0_S64x256⟩] concatenates_S64x256_S64x256_S128x256_d0
  | 2 => concatenate S128x256 0 [⟨S64x256, extractStridedSlice S64x256 ![128, 0] (shapeCast S512x256 x2 shapeCasts_S512x256_S512x256) slices_S512x256_o128_0_S64x256⟩, ⟨S64x256, broadcast S64x256 (Scalar.ofBits .bf16 0x0000#16)⟩] concatenates_S64x256_S64x256_S128x256_d0
  | 3 => concatenate S128x256 0 [⟨S64x256, broadcast S64x256 (Scalar.ofBits .bf16 0x0000#16)⟩, ⟨S64x256, extractStridedSlice S64x256 ![192, 0] (shapeCast S512x256 x2 shapeCasts_S512x256_S512x256) slices_S512x256_o192_0_S64x256⟩] concatenates_S64x256_S64x256_S128x256_d0
  | 4 => concatenate S128x256 0 [⟨S64x256, extractStridedSlice S64x256 ![256, 0] (shapeCast S512x256 x2 shapeCasts_S512x256_S512x256) slices_S512x256_o256_0_S64x256⟩, ⟨S64x256, broadcast S64x256 (Scalar.ofBits .bf16 0x0000#16)⟩] concatenates_S64x256_S64x256_S128x256_d0
  | 5 => concatenate S128x256 0 [⟨S64x256, broadcast S64x256 (Scalar.ofBits .bf16 0x0000#16)⟩, ⟨S64x256, extractStridedSlice S64x256 ![320, 0] (shapeCast S512x256 x2 shapeCasts_S512x256_S512x256) slices_S512x256_o320_0_S64x256⟩] concatenates_S64x256_S64x256_S128x256_d0
  | 6 => concatenate S128x256 0 [⟨S64x256, extractStridedSlice S64x256 ![384, 0] (shapeCast S512x256 x2 shapeCasts_S512x256_S512x256) slices_S512x256_o384_0_S64x256⟩, ⟨S64x256, broadcast S64x256 (Scalar.ofBits .bf16 0x0000#16)⟩] concatenates_S64x256_S64x256_S128x256_d0
  | 7 => concatenate S128x256 0 [⟨S64x256, broadcast S64x256 (Scalar.ofBits .bf16 0x0000#16)⟩, ⟨S64x256, extractStridedSlice S64x256 ![448, 0] (shapeCast S512x256 x2 shapeCasts_S512x256_S512x256) slices_S512x256_o448_0_S64x256⟩] concatenates_S64x256_S64x256_S128x256_d0

/-- One head's prefix sums at the tile's queries. -/
def cumT (x6 : Vec F S1x8x256 .f32) (h : Fin 8) : FVec F S1x256 .f32 :=
  mRow h (shapeCast S8x256 x6 shapeCasts_S1x8x256_S8x256)

/-- The prefix sums in units of log 2, and their first two remainders. -/
def c0T (r : FVec F S1x256 .f32) : FVec F S1x256 .f32 := mulf r (broadcast S1x256 (Named.named κ "log2e" 0x3FB8AA3B#32))
def c1T (r : FVec F S1x256 .f32) : FVec F S1x256 .f32 := subf (c0T r) (extf .f32 (truncf .bf16 (c0T r) bitsLt_bf16_f32) bitsLt_bf16_f32)
def c2T (r : FVec F S1x256 .f32) : FVec F S1x256 .f32 := subf (c1T r) (extf .f32 (truncf .bf16 (c1T r) bitsLt_bf16_f32) bitsLt_bf16_f32)

/-- A row over all rows. -/
def rowsT (r : FVec F S1x256 .f32) : FVec F S128x256 .f32 :=
  broadcastTo S128x256 (shapeCast S1x256 (extf .f32 (truncf .bf16 r bitsLt_bf16_f32) bitsLt_bf16_f32) shapeCasts_S1x256_S1x256) broadcasts_S1x256_S128x256

/-- The row number of each entry, and its remainder by eight. -/
def rowT : IVec S128x256 32 := iota .tc S128x256 32 [0] iota_S128x256_d0_w32
def remT : IVec S128x256 32 := remsi rowT (broadcast S128x256 8#32)
def modT : IVec S128x256 32 :=
  select (andi (xori (cmpi .slt remT (broadcast S128x256 0#32)) (broadcastTo S128x256 (broadcast S128x256 0#1) broadcasts_S128x256_S128x256))
    (cmpi .ne remT (broadcast S128x256 0#32))) (addi remT (broadcast S128x256 8#32)) remT

/-- The rows that meet the pieces of the keys' sums: ones where the piece is the head's own, and the queries' pieces. -/
def selT (r : FVec F S1x256 .f32) (h : Fin 8) : FVec F S128x256 .f32 :=
  select (cmpi .eq rowT (broadcast S128x256 24#32)) (rowsT (c0T r))
    (select (cmpi .eq rowT (broadcast S128x256 25#32)) (rowsT (c1T r))
      (select (cmpi .eq rowT (broadcast S128x256 26#32)) (rowsT (c2T r))
        (select (cmpi .slt rowT (broadcast S128x256 24#32))
          (select (cmpi .eq modT (broadcast S128x256 (BitVec.ofNat 32 h.val))) (broadcast S128x256 (Scalar.ofBits .f32 0x3F800000#32))
            (broadcast S128x256 (Scalar.ofBits .f32 0x00000000#32)))
          (broadcast S128x256 (Scalar.ofBits .f32 0x00000000#32)))))

/-- One head's columns: what the products with the keys run over. -/
def rhsT (x2 : Vec F S512x256 .bf16) (x6 : Vec F S1x8x256 .f32) (h : Fin 8) : FVec F S256x256 .bf16 :=
  concatenate S256x256 0 [⟨S128x256, qpadT x2 h⟩, ⟨S128x256, truncf .bf16 (selT (cumT x6 h) h) bitsLt_bf16_f32⟩]
    concatenates_S128x256_S128x256_S256x256_d0

/-- The positions of the tile's queries. -/
def posT (i : grid0.Coords) : IVec S1x256 32 :=
  addi (broadcast S1x256 (Scalar.muli (BitVec.ofNat 32 (i 1).val) 256#32)) (iota .tc S1x256 32 [1] iota_S1x256_d1_w32)

/-- The number of key blocks, as the kernel computes it. -/
def nblkT (i : grid0.Coords) : BitVec 32 :=
  let v462 : BitVec 32 := Scalar.muli (BitVec.ofNat 32 (i 1).val) 256#32
  let v472 : BitVec 32 := Scalar.subi (Scalar.extui (Scalar.cmpi .sgt v462 0#32)) (Scalar.extui (Scalar.cmpi .slt v462 0#32))
  let v467 : BitVec 32 := Scalar.divsi v462 512#32
  Scalar.addi (Scalar.select (Scalar.andi (Scalar.cmpi .ne v472 1#32) (Scalar.cmpi .ne (Scalar.remsi v462 512#32) 0#32)) (Scalar.subi v467 1#32) v467) 1#32

/-- Half the number of blocks before the last, and the words of its rounding, as the kernel computes them. -/
def halfT (i : grid0.Coords) : BitVec 32 := Scalar.divsi (Scalar.subi (nblkT i) 1#32) 2#32
def oddT (i : grid0.Coords) : BitVec 1 × BitVec 1 :=
  (Scalar.cmpi .ne (Scalar.subi (Scalar.extui (Scalar.cmpi .sgt (Scalar.subi (nblkT i) 1#32) 0#32)) (Scalar.extui (Scalar.cmpi .slt (Scalar.subi (nblkT i) 1#32) 0#32))) 1#32,
    Scalar.cmpi .ne (Scalar.remsi (Scalar.subi (nblkT i) 1#32) 2#32) 0#32)
def trT (i : grid0.Coords) : BitVec 32 :=
  Scalar.addi 0#32 (Scalar.muli (Scalar.divsi (Scalar.subi (Scalar.select (Scalar.andi (oddT i).1 (oddT i).2) (Scalar.subi (halfT i) 1#32) (halfT i)) 0#32) 1#32) 1#32)

/-- Where a key of the last block is no later than the query. -/
def keepT (i : grid0.Coords) : IVec S512x256 1 :=
  cmpi .sle (broadcastTo S512x256 (addi (broadcast S512x1 (Scalar.muli (Scalar.subi (nblkT i) 1#32) 512#32)) (iota .tc S512x1 32 [0] iota_S512x1_d0_w32)) broadcasts_S512x1_S512x256)
    (broadcastTo S512x256 (posT i) broadcasts_S1x256_S512x256)

/-- Logits with the later keys masked. -/
def maskT (i : grid0.Coords) (s : FVec F S512x256 .f32) : FVec F S512x256 .f32 :=
  select (keepT i) s (broadcast S512x256 (Named.named κ "mask" 0xF149F2CA#32))

/-- Every head's sums over its sum of weights, transposed. -/
def finT (a : FVec F S640x256 .f32) : FVec F S1x256x512 .bf16 :=
  shapeCast S1x256x512 (truncf .bf16 (transpose S256x512 [1, 0] (concatenate S512x256 0 [⟨S64x256, divf (extractStridedSlice S64x256 ![0, 0] a slices_S640x256_o0_0_S64x256) (broadcastTo S64x256 (extractStridedSlice S1x256 ![64, 0] a slices_S640x256_o64_0_S1x256) broadcasts_S1x256_S64x256)⟩, ⟨S64x256, divf (extractStridedSlice S64x256 ![80, 0] a slices_S640x256_o80_0_S64x256) (broadcastTo S64x256 (extractStridedSlice S1x256 ![144, 0] a slices_S640x256_o144_0_S1x256) broadcasts_S1x256_S64x256)⟩, ⟨S64x256, divf (extractStridedSlice S64x256 ![160, 0] a slices_S640x256_o160_0_S64x256) (broadcastTo S64x256 (extractStridedSlice S1x256 ![224, 0] a slices_S640x256_o224_0_S1x256) broadcasts_S1x256_S64x256)⟩, ⟨S64x256, divf (extractStridedSlice S64x256 ![240, 0] a slices_S640x256_o240_0_S64x256) (broadcastTo S64x256 (extractStridedSlice S1x256 ![304, 0] a slices_S640x256_o304_0_S1x256) broadcasts_S1x256_S64x256)⟩, ⟨S64x256, divf (extractStridedSlice S64x256 ![320, 0] a slices_S640x256_o320_0_S64x256) (broadcastTo S64x256 (extractStridedSlice S1x256 ![384, 0] a slices_S640x256_o384_0_S1x256) broadcasts_S1x256_S64x256)⟩, ⟨S64x256, divf (extractStridedSlice S64x256 ![400, 0] a slices_S640x256_o400_0_S64x256) (broadcastTo S64x256 (extractStridedSlice S1x256 ![464, 0] a slices_S640x256_o464_0_S1x256) broadcasts_S1x256_S64x256)⟩, ⟨S64x256, divf (extractStridedSlice S64x256 ![480, 0] a slices_S640x256_o480_0_S64x256) (broadcastTo S64x256 (extractStridedSlice S1x256 ![544, 0] a slices_S640x256_o544_0_S1x256) broadcasts_S1x256_S64x256)⟩, ⟨S64x256, divf (extractStridedSlice S64x256 ![560, 0] a slices_S640x256_o560_0_S64x256) (broadcastTo S64x256 (extractStridedSlice S1x256 ![624, 0] a slices_S640x256_o624_0_S1x256) broadcasts_S1x256_S64x256)⟩]
    concatenates_S64x256_S64x256_S64x256_S64x256_S64x256_S64x256_S64x256_S64x256_S512x256_d0) transposes_S512x256_p1_0_S256x512) bitsLt_bf16_f32)
    shapeCasts_S256x512_S1x256x512

/-- The maxima and sums before the first block. -/
def ini : FVec F S8x256 .f32 × FVec F S640x256 .f32 :=
  (broadcast S8x256 (Named.named κ "mask" 0xF149F2CA#32), broadcast S640x256 (Scalar.ofBits .f32 0x00000000#32))

variable (c : Dev nD) (i : grid0.Coords) (M2 : Memref sig .tc .vmem S512x256 .bf16) (h2 : M2.IsWhole) (M3 : Memref sig .tc .vmem S1x4096x512 .bf16) (h3 : M3.IsWhole) (M4 : Memref sig .tc .vmem S1x4096x128 .bf16) (h4 : M4.IsWhole) (M5 : Memref sig .tc .vmem S640x4096 .bf16) (h5 : M5.IsWhole) (M6 : Memref sig .tc .vmem S1x8x256 .f32) (h6 : M6.IsWhole) (M7 : Memref sig .tc .vmem S1x256x512 .bf16) (h7 : M7.IsWhole) (M8 : Memref sig .tc .vmem S2x8x512x256 .f32) (h8 : M8.IsWhole)

/-- The tile's queries and sums, as loaded. -/
def ld2 (x2 : Vec F S512x256 .bf16) : Vec F S512x256 .bf16 :=
  View.readAt (Elt F) M2.view (Rect.unit (s := S512x256) ![0, 0] S512x256.size inb_S512x256_S512x256_0_0).toLoadRect (h2.unread x2)
def ld6 (x6 : Vec F S1x8x256 .f32) : Vec F S1x8x256 .f32 :=
  View.readAt (Elt F) M6.view (Rect.unit (s := S1x8x256) ![0, 0, 0] S1x8x256.size inb_S1x8x256_S1x8x256_0_0_0).toLoadRect (h6.unread x6)

/-- The logits of block 0. -/
def lg0 (rh : Fin 8 → FVec F S256x256 .bf16) (X3 : BufTy.Contents (Elt F) M3.view.ty) (X4 : BufTy.Contents (Elt F) M4.view.ty) (h : Fin 8) : FVec F S512x256 .f32 :=
  scoreT (match h with
    | 0 => View.readAt (Elt F) M3.view (Rect.unit (s := S1x4096x512) ![0, 0, 0] S1x512x128.size inb_S1x4096x512_S1x512x128_0_0_0).toLoadRect X3
    | 1 => View.readAt (Elt F) M3.view (Rect.unit (s := S1x4096x512) ![0, 0, 0] S1x512x128.size inb_S1x4096x512_S1x512x128_0_0_0).toLoadRect X3
    | 2 => View.readAt (Elt F) M3.view (Rect.unit (s := S1x4096x512) ![0, 0, 128] S1x512x128.size inb_S1x4096x512_S1x512x128_0_0_128).toLoadRect X3
    | 3 => View.readAt (Elt F) M3.view (Rect.unit (s := S1x4096x512) ![0, 0, 128] S1x512x128.size inb_S1x4096x512_S1x512x128_0_0_128).toLoadRect X3
    | 4 => View.readAt (Elt F) M3.view (Rect.unit (s := S1x4096x512) ![0, 0, 256] S1x512x128.size inb_S1x4096x512_S1x512x128_0_0_256).toLoadRect X3
    | 5 => View.readAt (Elt F) M3.view (Rect.unit (s := S1x4096x512) ![0, 0, 256] S1x512x128.size inb_S1x4096x512_S1x512x128_0_0_256).toLoadRect X3
    | 6 => View.readAt (Elt F) M3.view (Rect.unit (s := S1x4096x512) ![0, 0, 384] S1x512x128.size inb_S1x4096x512_S1x512x128_0_0_384).toLoadRect X3
    | 7 => View.readAt (Elt F) M3.view (Rect.unit (s := S1x4096x512) ![0, 0, 384] S1x512x128.size inb_S1x4096x512_S1x512x128_0_0_384).toLoadRect X3
    ) (View.readAt (Elt F) M4.view (Rect.unit (s := S1x4096x128) ![0, 0, 0] S1x512x128.size inb_S1x4096x128_S1x512x128_0_0_0).toLoadRect X4) (rh h)

/-- The logits of the last block, where two blocks are left. -/
def lgL (rh : Fin 8 → FVec F S256x256 .bf16) (hc : ¬ k0_cond1 i = 1#1) (X3 : BufTy.Contents (Elt F) M3.view.ty) (X4 : BufTy.Contents (Elt F) M4.view.ty) (h : Fin 8) : FVec F S512x256 .f32 :=
  scoreT (match h with
    | 0 => View.readAt (Elt F) M3.view (Rect.unit (s := S1x4096x512) (k0_off52 i) S1x512x128.size (k0_off52_inb i hc)).toLoadRect X3
    | 1 => View.readAt (Elt F) M3.view (Rect.unit (s := S1x4096x512) (k0_off52 i) S1x512x128.size (k0_off52_inb i hc)).toLoadRect X3
    | 2 => View.readAt (Elt F) M3.view (Rect.unit (s := S1x4096x512) (k0_off53 i) S1x512x128.size (k0_off53_inb i hc)).toLoadRect X3
    | 3 => View.readAt (Elt F) M3.view (Rect.unit (s := S1x4096x512) (k0_off53 i) S1x512x128.size (k0_off53_inb i hc)).toLoadRect X3
    | 4 => View.readAt (Elt F) M3.view (Rect.unit (s := S1x4096x512) (k0_off54 i) S1x512x128.size (k0_off54_inb i hc)).toLoadRect X3
    | 5 => View.readAt (Elt F) M3.view (Rect.unit (s := S1x4096x512) (k0_off54 i) S1x512x128.size (k0_off54_inb i hc)).toLoadRect X3
    | 6 => View.readAt (Elt F) M3.view (Rect.unit (s := S1x4096x512) (k0_off55 i) S1x512x128.size (k0_off55_inb i hc)).toLoadRect X3
    | 7 => View.readAt (Elt F) M3.view (Rect.unit (s := S1x4096x512) (k0_off55 i) S1x512x128.size (k0_off55_inb i hc)).toLoadRect X3
    ) (View.readAt (Elt F) M4.view (Rect.unit (s := S1x4096x128) (k0_off51 i) S1x512x128.size (k0_off51_inb i hc)).toLoadRect X4) (rh h)

/-- The values of the last block, where one block is left. -/
def vL1 (hc : k0_cond1 i = 1#1) (X5 : BufTy.Contents (Elt F) M5.view.ty) (h : Fin 8) : Vec F S80x512 .bf16 :=
  match h with
  | 0 => View.readAt (Elt F) M5.view (Rect.unit (s := S640x4096) (k0_off43 i) S80x512.size (k0_off43_inb i hc)).toLoadRect X5
  | 1 => View.readAt (Elt F) M5.view (Rect.unit (s := S640x4096) (k0_off44 i) S80x512.size (k0_off44_inb i hc)).toLoadRect X5
  | 2 => View.readAt (Elt F) M5.view (Rect.unit (s := S640x4096) (k0_off45 i) S80x512.size (k0_off45_inb i hc)).toLoadRect X5
  | 3 => View.readAt (Elt F) M5.view (Rect.unit (s := S640x4096) (k0_off46 i) S80x512.size (k0_off46_inb i hc)).toLoadRect X5
  | 4 => View.readAt (Elt F) M5.view (Rect.unit (s := S640x4096) (k0_off47 i) S80x512.size (k0_off47_inb i hc)).toLoadRect X5
  | 5 => View.readAt (Elt F) M5.view (Rect.unit (s := S640x4096) (k0_off48 i) S80x512.size (k0_off48_inb i hc)).toLoadRect X5
  | 6 => View.readAt (Elt F) M5.view (Rect.unit (s := S640x4096) (k0_off49 i) S80x512.size (k0_off49_inb i hc)).toLoadRect X5
  | 7 => View.readAt (Elt F) M5.view (Rect.unit (s := S640x4096) (k0_off50 i) S80x512.size (k0_off50_inb i hc)).toLoadRect X5

/-- The values of the last two blocks (`r = 1`: the last but one), where two are left. -/
def vL2 (hc : ¬ k0_cond1 i = 1#1) (X5 : BufTy.Contents (Elt F) M5.view.ty) (r : Fin 2) (h : Fin 8) : Vec F S80x512 .bf16 :=
  match h with
  | 0 => View.readAt (Elt F) M5.view (Rect.unit (s := S640x4096) (k0_off56 i (BitVec.ofNat 32 (1 + r.val))) S80x512.size (k0_off56_inb i hc r)).toLoadRect X5
  | 1 => View.readAt (Elt F) M5.view (Rect.unit (s := S640x4096) (k0_off57 i (BitVec.ofNat 32 (1 + r.val))) S80x512.size (k0_off57_inb i hc r)).toLoadRect X5
  | 2 => View.readAt (Elt F) M5.view (Rect.unit (s := S640x4096) (k0_off58 i (BitVec.ofNat 32 (1 + r.val))) S80x512.size (k0_off58_inb i hc r)).toLoadRect X5
  | 3 => View.readAt (Elt F) M5.view (Rect.unit (s := S640x4096) (k0_off59 i (BitVec.ofNat 32 (1 + r.val))) S80x512.size (k0_off59_inb i hc r)).toLoadRect X5
  | 4 => View.readAt (Elt F) M5.view (Rect.unit (s := S640x4096) (k0_off60 i (BitVec.ofNat 32 (1 + r.val))) S80x512.size (k0_off60_inb i hc r)).toLoadRect X5
  | 5 => View.readAt (Elt F) M5.view (Rect.unit (s := S640x4096) (k0_off61 i (BitVec.ofNat 32 (1 + r.val))) S80x512.size (k0_off61_inb i hc r)).toLoadRect X5
  | 6 => View.readAt (Elt F) M5.view (Rect.unit (s := S640x4096) (k0_off62 i (BitVec.ofNat 32 (1 + r.val))) S80x512.size (k0_off62_inb i hc r)).toLoadRect X5
  | 7 => View.readAt (Elt F) M5.view (Rect.unit (s := S640x4096) (k0_off63 i (BitVec.ofNat 32 (1 + r.val))) S80x512.size (k0_off63_inb i hc r)).toLoadRect X5

/-- The state after the pairs of key blocks: the maxima and sums, and the writes to the scratch, newest first. -/
def walk (rh : Fin 8 → FVec F S256x256 .bf16)
    (X3 : BufTy.Contents (Elt F) M3.view.ty) (X4 : BufTy.Contents (Elt F) M4.view.ty) (X5 : BufTy.Contents (Elt F) M5.view.ty)
    (X8 : BufTy.Contents (Elt F) M8.view.ty) :
    (FVec F S8x256 .f32 × FVec F S640x256 .f32) × List (View.Piece (Elt F) S2x8x512x256 .f32) :=
  let w0 := wr0 (lg0 M3 M4 rh X3 X4) []
  let s1 := st_k0_t1 𝒱₀ c none i M2 h2 M3 h3 M4 h4 M5 h5 M6 h6 M7 h7 M8 h8 (rh 0) (rh 1) (rh 2) (rh 3) (rh 4) (rh 5) (rh 6) (rh 7) (posT i) (nblkT i) (halfT i) (oddT i).1 (oddT i).2 X3 X4 X5 (M8.view.writes (Elt F) X8 w0) ini (k0_t1_loop i).trips
  let s2 := st_k0_t2 𝒱₀ c none i M2 h2 M3 h3 M4 h4 M5 h5 M6 h6 M7 h7 M8 h8 (rh 0) (rh 1) (rh 2) (rh 3) (rh 4) (rh 5) (rh 6) (rh 7) (posT i) (nblkT i) (halfT i) (oddT i).1 (oddT i).2 (trT i) X3 X4 X5 (M8.view.writes (Elt F) X8 (s1.2 ++ w0)) (s1.1.1, s1.1.2) (k0_t2_loop i).trips
  (s2.1, s2.2 ++ (s1.2 ++ w0))

variable (x2 : Vec F S512x256 .bf16) (x3 : Vec F S1x4096x512 .bf16) (x4 : Vec F S1x4096x128 .bf16) (x5 : Vec F S640x4096 .bf16) (x6 : Vec F S1x8x256 .f32)

theorem runOne_eq (hc : k0_cond1 i = 1#1) (x8 : Vec F S2x8x512x256 .f32) :
    (runOne c i hc M2 h2 M3 h3 M4 h4 M5 h5 M6 h6 M7 h7 M8 h8 x2 x3 x4 x5 x6).1 x8
      = finT (stepT (walk c i M2 h2 M3 h3 M4 h4 M5 h5 M6 h6 M7 h7 M8 h8 (rhsT (ld2 M2 h2 x2) (ld6 M6 h6 x6)) (h3.unread x3) (h4.unread x4) (h5.unread x5) (h8.unread x8)).1
          (fun h => maskT i (rd0 M8 (M8.view.writes (Elt F) M8.view.junk (walk c i M2 h2 M3 h3 M4 h4 M5 h5 M6 h6 M7 h7 M8 h8 (rhsT (ld2 M2 h2 x2) (ld6 M6 h6 x6)) (h3.unread x3) (h4.unread x4) (h5.unread x5) (h8.unread x8)).2) h))
          (vL1 i M5 hc (h5.unread x5))).2 := by
  unfold runOne
  rfl

/-- The loads of slot 0, and of slot 1, where two blocks are left. -/
def two0 (hc : ¬ k0_cond1 i = 1#1) (x8 : Vec F S2x8x512x256 .f32) (h : Fin 8) : FVec F S512x256 .f32 :=
  match h with
    | 0 => runTwo.sl.v704 c i hc M2 h2 M3 h3 M4 h4 M5 h5 M6 h6 M7 h7 M8 h8 x2 x3 x4 x5 x6 x8
    | 1 => runTwo.sl.v706 c i hc M2 h2 M3 h3 M4 h4 M5 h5 M6 h6 M7 h7 M8 h8 x2 x3 x4 x5 x6 x8
    | 2 => runTwo.sl.v708 c i hc M2 h2 M3 h3 M4 h4 M5 h5 M6 h6 M7 h7 M8 h8 x2 x3 x4 x5 x6 x8
    | 3 => runTwo.sl.v710 c i hc M2 h2 M3 h3 M4 h4 M5 h5 M6 h6 M7 h7 M8 h8 x2 x3 x4 x5 x6 x8
    | 4 => runTwo.sl.v712 c i hc M2 h2 M3 h3 M4 h4 M5 h5 M6 h6 M7 h7 M8 h8 x2 x3 x4 x5 x6 x8
    | 5 => runTwo.sl.v714 c i hc M2 h2 M3 h3 M4 h4 M5 h5 M6 h6 M7 h7 M8 h8 x2 x3 x4 x5 x6 x8
    | 6 => runTwo.sl.v716 c i hc M2 h2 M3 h3 M4 h4 M5 h5 M6 h6 M7 h7 M8 h8 x2 x3 x4 x5 x6 x8
    | 7 => runTwo.sl.v718 c i hc M2 h2 M3 h3 M4 h4 M5 h5 M6 h6 M7 h7 M8 h8 x2 x3 x4 x5 x6 x8

def two1 (hc : ¬ k0_cond1 i = 1#1) (x8 : Vec F S2x8x512x256 .f32) (h : Fin 8) : FVec F S512x256 .f32 :=
  match h with
    | 0 => runTwo.sl.v869 c i hc M2 h2 M3 h3 M4 h4 M5 h5 M6 h6 M7 h7 M8 h8 x2 x3 x4 x5 x6 x8
    | 1 => runTwo.sl.v871 c i hc M2 h2 M3 h3 M4 h4 M5 h5 M6 h6 M7 h7 M8 h8 x2 x3 x4 x5 x6 x8
    | 2 => runTwo.sl.v873 c i hc M2 h2 M3 h3 M4 h4 M5 h5 M6 h6 M7 h7 M8 h8 x2 x3 x4 x5 x6 x8
    | 3 => runTwo.sl.v875 c i hc M2 h2 M3 h3 M4 h4 M5 h5 M6 h6 M7 h7 M8 h8 x2 x3 x4 x5 x6 x8
    | 4 => runTwo.sl.v877 c i hc M2 h2 M3 h3 M4 h4 M5 h5 M6 h6 M7 h7 M8 h8 x2 x3 x4 x5 x6 x8
    | 5 => runTwo.sl.v879 c i hc M2 h2 M3 h3 M4 h4 M5 h5 M6 h6 M7 h7 M8 h8 x2 x3 x4 x5 x6 x8
    | 6 => runTwo.sl.v881 c i hc M2 h2 M3 h3 M4 h4 M5 h5 M6 h6 M7 h7 M8 h8 x2 x3 x4 x5 x6 x8
    | 7 => runTwo.sl.v883 c i hc M2 h2 M3 h3 M4 h4 M5 h5 M6 h6 M7 h7 M8 h8 x2 x3 x4 x5 x6 x8

theorem two_last (hc : ¬ k0_cond1 i = 1#1) (x8 : Vec F S2x8x512x256 .f32) :
    runTwo.sl.r_48 c i hc M2 h2 M3 h3 M4 h4 M5 h5 M6 h6 M7 h7 M8 h8 x2 x3 x4 x5 x6 x8 = (stepT (runTwo.sl.v865 c i hc M2 h2 M3 h3 M4 h4 M5 h5 M6 h6 M7 h7 M8 h8 x2 x3 x4 x5 x6 x8, runTwo.sl.v866 c i hc M2 h2 M3 h3 M4 h4 M5 h5 M6 h6 M7 h7 M8 h8 x2 x3 x4 x5 x6 x8)
      (fun h => maskT i (two1 c i M2 h2 M3 h3 M4 h4 M5 h5 M6 h6 M7 h7 M8 h8 x2 x3 x4 x5 x6 hc x8 h)) (vL2 i M5 hc (h5.unread x5) 0)).2 := by
  unfold runTwo.sl.r_48
  rfl

theorem two_prev (hc : ¬ k0_cond1 i = 1#1) (x8 : Vec F S2x8x512x256 .f32) :
    (runTwo.sl.v865 c i hc M2 h2 M3 h3 M4 h4 M5 h5 M6 h6 M7 h7 M8 h8 x2 x3 x4 x5 x6 x8, runTwo.sl.v866 c i hc M2 h2 M3 h3 M4 h4 M5 h5 M6 h6 M7 h7 M8 h8 x2 x3 x4 x5 x6 x8) = stepT (walk c i M2 h2 M3 h3 M4 h4 M5 h5 M6 h6 M7 h7 M8 h8 (rhsT (ld2 M2 h2 x2) (ld6 M6 h6 x6)) (h3.unread x3) (h4.unread x4) (h5.unread x5) (h8.unread x8)).1
      (two0 c i M2 h2 M3 h3 M4 h4 M5 h5 M6 h6 M7 h7 M8 h8 x2 x3 x4 x5 x6 hc x8) (vL2 i M5 hc (h5.unread x5) 1) := by
  rfl

theorem two_fin (hc : ¬ k0_cond1 i = 1#1) (x8 : Vec F S2x8x512x256 .f32) :
    (runTwo c i hc M2 h2 M3 h3 M4 h4 M5 h5 M6 h6 M7 h7 M8 h8 x2 x3 x4 x5 x6).1 x8 = finT (runTwo.sl.r_48 c i hc M2 h2 M3 h3 M4 h4 M5 h5 M6 h6 M7 h7 M8 h8 x2 x3 x4 x5 x6 x8) := by
  unfold runTwo
  rfl

theorem two0_eq (hc : ¬ k0_cond1 i = 1#1) (x8 : Vec F S2x8x512x256 .f32) :
    two0 c i M2 h2 M3 h3 M4 h4 M5 h5 M6 h6 M7 h7 M8 h8 x2 x3 x4 x5 x6 hc x8 = rd0 M8 (M8.view.writes (Elt F) M8.view.junk (wr1 (lgL i M3 M4 (rhsT (ld2 M2 h2 x2) (ld6 M6 h6 x6)) hc (h3.unread x3) (h4.unread x4)) (walk c i M2 h2 M3 h3 M4 h4 M5 h5 M6 h6 M7 h7 M8 h8 (rhsT (ld2 M2 h2 x2) (ld6 M6 h6 x6)) (h3.unread x3) (h4.unread x4) (h5.unread x5) (h8.unread x8)).2)) := by
  rfl

theorem two1_eq (hc : ¬ k0_cond1 i = 1#1) (x8 : Vec F S2x8x512x256 .f32) :
    two1 c i M2 h2 M3 h3 M4 h4 M5 h5 M6 h6 M7 h7 M8 h8 x2 x3 x4 x5 x6 hc x8 = rd1 M8 (M8.view.writes (Elt F) M8.view.junk (wr1 (lgL i M3 M4 (rhsT (ld2 M2 h2 x2) (ld6 M6 h6 x6)) hc (h3.unread x3) (h4.unread x4)) (walk c i M2 h2 M3 h3 M4 h4 M5 h5 M6 h6 M7 h7 M8 h8 (rhsT (ld2 M2 h2 x2) (ld6 M6 h6 x6)) (h3.unread x3) (h4.unread x4) (h5.unread x5) (h8.unread x8)).2)) := by
  rfl

theorem runTwo_eq (hc : ¬ k0_cond1 i = 1#1) (x8 : Vec F S2x8x512x256 .f32) :
    (runTwo c i hc M2 h2 M3 h3 M4 h4 M5 h5 M6 h6 M7 h7 M8 h8 x2 x3 x4 x5 x6).1 x8
      = finT (stepT (stepT (walk c i M2 h2 M3 h3 M4 h4 M5 h5 M6 h6 M7 h7 M8 h8 (rhsT (ld2 M2 h2 x2) (ld6 M6 h6 x6)) (h3.unread x3) (h4.unread x4) (h5.unread x5) (h8.unread x8)).1
          (rd0 M8 (M8.view.writes (Elt F) M8.view.junk (wr1 (lgL i M3 M4 (rhsT (ld2 M2 h2 x2) (ld6 M6 h6 x6)) hc (h3.unread x3) (h4.unread x4)) (walk c i M2 h2 M3 h3 M4 h4 M5 h5 M6 h6 M7 h7 M8 h8 (rhsT (ld2 M2 h2 x2) (ld6 M6 h6 x6)) (h3.unread x3) (h4.unread x4) (h5.unread x5) (h8.unread x8)).2)))
          (vL2 i M5 hc (h5.unread x5) 1))
          (fun h => maskT i (rd1 M8 (M8.view.writes (Elt F) M8.view.junk (wr1 (lgL i M3 M4 (rhsT (ld2 M2 h2 x2) (ld6 M6 h6 x6)) hc (h3.unread x3) (h4.unread x4)) (walk c i M2 h2 M3 h3 M4 h4 M5 h5 M6 h6 M7 h7 M8 h8 (rhsT (ld2 M2 h2 x2) (ld6 M6 h6 x6)) (h3.unread x3) (h4.unread x4) (h5.unread x5) (h8.unread x8)).2)) h))
          (vL2 i M5 hc (h5.unread x5) 0)).2 := by
  rw [two_fin, two_last, two_prev, two0_eq, two1_eq]

end Cert.KernelIdeal.Fox

end
-- ==== Proof.Fox.Blocks.lean ====
/-
  The blocks of keys and values that the kernel's loads bring in, the two slots of its scratch, and the walk over the
  blocks as a fold: block `b` of the sequence is rows `512 b …` of the keys and columns `512 b …` of the values.
-/
module

public import proofs.«01_k».proof.Proof.Fox.Body
public import Idealize.ShloMosaic.Lib.Pointwise
public import Idealize.ShloMosaic.Lib.WholeRead
public import Idealize.ShloMosaic.Lib.WritesUnit
public import Idealize.ShloMosaic.Lib.Pipeline.Value
public import Idealize.ShloMosaic.Lib.Pipeline.FrameBody

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

/-! ### Where the loads are -/

theorem trips_eq : ∀ i : grid0.Coords, (k0_t1_loop i).trips = (i 1).val / 4 := by decide +kernel
theorem trips2_eq : ∀ i : grid0.Coords, (k0_t2_loop i).trips = 0 := by decide +kernel
theorem cond1_iff : ∀ i : grid0.Coords, k0_cond1 i = 1#1 ↔ (i 1).val / 2 % 2 = 0 := by decide +kernel
theorem nblk_eq : ∀ i : grid0.Coords, Scalar.subi (nblkT i) 1#32 = BitVec.ofNat 32 ((i 1).val / 2) := by decide +kernel
theorem off1_eq : ∀ (i : grid0.Coords) (k : Fin (k0_t1_loop i).trips) (r : Fin 2), k0_off1 i k (BitVec.ofNat 32 (1 + r.val)) = ![0, 512 * (2 * k.val + 1 + r.val), 0] := by decide +kernel
theorem off51_eq : ∀ i : grid0.Coords, k0_off51 i = ![0, 512 * ((i 1).val / 2), 0] := by decide +kernel
theorem off2_eq : ∀ (i : grid0.Coords) (k : Fin (k0_t1_loop i).trips) (r : Fin 2), k0_off2 i k (BitVec.ofNat 32 (1 + r.val)) = ![0, 512 * (2 * k.val + 1 + r.val), 128 * 0] := by decide +kernel
theorem off52_eq : ∀ i : grid0.Coords, k0_off52 i = ![0, 512 * ((i 1).val / 2), 128 * 0] := by decide +kernel
theorem off3_eq : ∀ (i : grid0.Coords) (k : Fin (k0_t1_loop i).trips) (r : Fin 2), k0_off3 i k (BitVec.ofNat 32 (1 + r.val)) = ![0, 512 * (2 * k.val + 1 + r.val), 128 * 1] := by decide +kernel
theorem off53_eq : ∀ i : grid0.Coords, k0_off53 i = ![0, 512 * ((i 1).val / 2), 128 * 1] := by decide +kernel
theorem off4_eq : ∀ (i : grid0.Coords) (k : Fin (k0_t1_loop i).trips) (r : Fin 2), k0_off4 i k (BitVec.ofNat 32 (1 + r.val)) = ![0, 512 * (2 * k.val + 1 + r.val), 128 * 2] := by decide +kernel
theorem off54_eq : ∀ i : grid0.Coords, k0_off54 i = ![0, 512 * ((i 1).val / 2), 128 * 2] := by decide +kernel
theorem off5_eq : ∀ (i : grid0.Coords) (k : Fin (k0_t1_loop i).trips) (r : Fin 2), k0_off5 i k (BitVec.ofNat 32 (1 + r.val)) = ![0, 512 * (2 * k.val + 1 + r.val), 128 * 3] := by decide +kernel
theorem off55_eq : ∀ i : grid0.Coords, k0_off55 i = ![0, 512 * ((i 1).val / 2), 128 * 3] := by decide +kernel
theorem off6_eq : ∀ (i : grid0.Coords) (k : Fin (k0_t1_loop i).trips), k0_off6 i k = ![80 * 0, 512 * (2 * k.val)] := by decide +kernel
theorem off14_eq : ∀ (i : grid0.Coords) (k : Fin (k0_t1_loop i).trips), k0_off14 i k = ![80 * 0, 512 * (2 * k.val + 1)] := by decide +kernel
theorem off43_eq : ∀ i : grid0.Coords, k0_off43 i = ![80 * 0, 512 * ((i 1).val / 2)] := by decide +kernel
theorem off56_eq : ∀ (i : grid0.Coords) (r : Fin 2), ¬ k0_cond1 i = 1#1 → k0_off56 i (BitVec.ofNat 32 (1 + r.val)) = ![80 * 0, 512 * ((i 1).val / 2 - r.val)] := by decide +kernel
theorem off7_eq : ∀ (i : grid0.Coords) (k : Fin (k0_t1_loop i).trips), k0_off7 i k = ![80 * 1, 512 * (2 * k.val)] := by decide +kernel
theorem off15_eq : ∀ (i : grid0.Coords) (k : Fin (k0_t1_loop i).trips), k0_off15 i k = ![80 * 1, 512 * (2 * k.val + 1)] := by decide +kernel
theorem off44_eq : ∀ i : grid0.Coords, k0_off44 i = ![80 * 1, 512 * ((i 1).val / 2)] := by decide +kernel
theorem off57_eq : ∀ (i : grid0.Coords) (r : Fin 2), ¬ k0_cond1 i = 1#1 → k0_off57 i (BitVec.ofNat 32 (1 + r.val)) = ![80 * 1, 512 * ((i 1).val / 2 - r.val)] := by decide +kernel
theorem off8_eq : ∀ (i : grid0.Coords) (k : Fin (k0_t1_loop i).trips), k0_off8 i k = ![80 * 2, 512 * (2 * k.val)] := by decide +kernel
theorem off16_eq : ∀ (i : grid0.Coords) (k : Fin (k0_t1_loop i).trips), k0_off16 i k = ![80 * 2, 512 * (2 * k.val + 1)] := by decide +kernel
theorem off45_eq : ∀ i : grid0.Coords, k0_off45 i = ![80 * 2, 512 * ((i 1).val / 2)] := by decide +kernel
theorem off58_eq : ∀ (i : grid0.Coords) (r : Fin 2), ¬ k0_cond1 i = 1#1 → k0_off58 i (BitVec.ofNat 32 (1 + r.val)) = ![80 * 2, 512 * ((i 1).val / 2 - r.val)] := by decide +kernel
theorem off9_eq : ∀ (i : grid0.Coords) (k : Fin (k0_t1_loop i).trips), k0_off9 i k = ![80 * 3, 512 * (2 * k.val)] := by decide +kernel
theorem off17_eq : ∀ (i : grid0.Coords) (k : Fin (k0_t1_loop i).trips), k0_off17 i k = ![80 * 3, 512 * (2 * k.val + 1)] := by decide +kernel
theorem off46_eq : ∀ i : grid0.Coords, k0_off46 i = ![80 * 3, 512 * ((i 1).val / 2)] := by decide +kernel
theorem off59_eq : ∀ (i : grid0.Coords) (r : Fin 2), ¬ k0_cond1 i = 1#1 → k0_off59 i (BitVec.ofNat 32 (1 + r.val)) = ![80 * 3, 512 * ((i 1).val / 2 - r.val)] := by decide +kernel
theorem off10_eq : ∀ (i : grid0.Coords) (k : Fin (k0_t1_loop i).trips), k0_off10 i k = ![80 * 4, 512 * (2 * k.val)] := by decide +kernel
theorem off18_eq : ∀ (i : grid0.Coords) (k : Fin (k0_t1_loop i).trips), k0_off18 i k = ![80 * 4, 512 * (2 * k.val + 1)] := by decide +kernel
theorem off47_eq : ∀ i : grid0.Coords, k0_off47 i = ![80 * 4, 512 * ((i 1).val / 2)] := by decide +kernel
theorem off60_eq : ∀ (i : grid0.Coords) (r : Fin 2), ¬ k0_cond1 i = 1#1 → k0_off60 i (BitVec.ofNat 32 (1 + r.val)) = ![80 * 4, 512 * ((i 1).val / 2 - r.val)] := by decide +kernel
theorem off11_eq : ∀ (i : grid0.Coords) (k : Fin (k0_t1_loop i).trips), k0_off11 i k = ![80 * 5, 512 * (2 * k.val)] := by decide +kernel
theorem off19_eq : ∀ (i : grid0.Coords) (k : Fin (k0_t1_loop i).trips), k0_off19 i k = ![80 * 5, 512 * (2 * k.val + 1)] := by decide +kernel
theorem off48_eq : ∀ i : grid0.Coords, k0_off48 i = ![80 * 5, 512 * ((i 1).val / 2)] := by decide +kernel
theorem off61_eq : ∀ (i : grid0.Coords) (r : Fin 2), ¬ k0_cond1 i = 1#1 → k0_off61 i (BitVec.ofNat 32 (1 + r.val)) = ![80 * 5, 512 * ((i 1).val / 2 - r.val)] := by decide +kernel
theorem off12_eq : ∀ (i : grid0.Coords) (k : Fin (k0_t1_loop i).trips), k0_off12 i k = ![80 * 6, 512 * (2 * k.val)] := by decide +kernel
theorem off20_eq : ∀ (i : grid0.Coords) (k : Fin (k0_t1_loop i).trips), k0_off20 i k = ![80 * 6, 512 * (2 * k.val + 1)] := by decide +kernel
theorem off49_eq : ∀ i : grid0.Coords, k0_off49 i = ![80 * 6, 512 * ((i 1).val / 2)] := by decide +kernel
theorem off62_eq : ∀ (i : grid0.Coords) (r : Fin 2), ¬ k0_cond1 i = 1#1 → k0_off62 i (BitVec.ofNat 32 (1 + r.val)) = ![80 * 6, 512 * ((i 1).val / 2 - r.val)] := by decide +kernel
theorem off13_eq : ∀ (i : grid0.Coords) (k : Fin (k0_t1_loop i).trips), k0_off13 i k = ![80 * 7, 512 * (2 * k.val)] := by decide +kernel
theorem off21_eq : ∀ (i : grid0.Coords) (k : Fin (k0_t1_loop i).trips), k0_off21 i k = ![80 * 7, 512 * (2 * k.val + 1)] := by decide +kernel
theorem off50_eq : ∀ i : grid0.Coords, k0_off50 i = ![80 * 7, 512 * ((i 1).val / 2)] := by decide +kernel
theorem off63_eq : ∀ (i : grid0.Coords) (r : Fin 2), ¬ k0_cond1 i = 1#1 → k0_off63 i (BitVec.ofNat 32 (1 + r.val)) = ![80 * 7, 512 * ((i 1).val / 2 - r.val)] := by decide +kernel

variable {F : FTy → Type} [FloatOps F] [Named F]

/-! ### The blocks -/

/-- Block `b` of the keys of the pair of heads `p`. -/
def kS (x3 : Vec F S1x4096x512 .bf16) (b p : ℕ) : Vec F S1x512x128 .bf16 :=
  fun j => x3 (ix3 0 (Fin.ofNat 4096 (512 * b + (j 1).val)) (Fin.ofNat 512 (128 * p + (j 2).val)))

/-- Block `b` of the pieces of the keys' sums. -/
def aS (x4 : Vec F S1x4096x128 .bf16) (b : ℕ) : Vec F S1x512x128 .bf16 :=
  fun j => x4 (ix3 0 (Fin.ofNat 4096 (512 * b + (j 1).val)) (Fin.ofNat 128 (j 2).val))

/-- Block `b` of head `h`'s values. -/
def vB (x5 : Vec F S640x4096 .bf16) (b : ℕ) (h : Fin 8) : Vec F S80x512 .bf16 :=
  fun j => x5 (ix2 (Fin.ofNat 640 (80 * h.val + (j 0).val)) (Fin.ofNat 4096 (512 * b + (j 1).val)))

/-- Head `h`'s logits of block `b`. -/
def lgB (rh : Fin 8 → FVec F S256x256 .bf16) (x3 : Vec F S1x4096x512 .bf16) (x4 : Vec F S1x4096x128 .bf16) (b : ℕ) (h : Fin 8) :
    FVec F S512x256 .f32 :=
  scoreT (kS x3 b (h.val / 2)) (aS x4 b) (rh h)

/-- The maxima and sums after the blocks before `b`. -/
def accB (rh : Fin 8 → FVec F S256x256 .bf16) (x3 : Vec F S1x4096x512 .bf16) (x4 : Vec F S1x4096x128 .bf16)
    (x5 : Vec F S640x4096 .bf16) : ℕ → FVec F S8x256 .f32 × FVec F S640x256 .f32
  | 0 => ini
  | b + 1 => stepT (accB rh x3 x4 x5 b) (lgB rh x3 x4 b) (vB x5 b)

/-- What the kernel writes at a grid point. -/
def outB (i : grid0.Coords) (rh : Fin 8 → FVec F S256x256 .bf16) (x3 : Vec F S1x4096x512 .bf16) (x4 : Vec F S1x4096x128 .bf16)
    (x5 : Vec F S640x4096 .bf16) : FVec F S1x256x512 .bf16 :=
  finT (stepT (accB rh x3 x4 x5 ((i 1).val / 2)) (fun h => maskT i (lgB rh x3 x4 ((i 1).val / 2) h)) (vB x5 ((i 1).val / 2))).2

section Reads

theorem read3 (M3 : Memref sig .tc .vmem S1x4096x512 .bf16) (h3 : M3.IsWhole) (x3 : Vec F S1x4096x512 .bf16)
    {off : Fin 3 → ℕ} (inb : ∀ a, off a + S1x512x128.size a ≤ S1x4096x512.size a) (b p : ℕ) (ho : off = ![0, 512 * b, 128 * p]) :
    View.readAt (Elt F) M3.view (Rect.unit (s := S1x4096x512) off S1x512x128.size inb).toLoadRect (h3.unread x3) = kS x3 b p := by
  subst ho
  funext j
  rw [Memref.IsWhole.readAt_unread]
  have i1 : 512 * b + 512 ≤ 4096 := inb 1
  have i2 : 128 * p + 128 ≤ 512 := inb 2
  have j0 : (j 0).val < 1 := (j 0).isLt
  have j1 : (j 1).val < 512 := (j 1).isLt
  have j2 : (j 2).val < 128 := (j 2).isLt
  refine congrArg x3 (funext fun a => Fin.ext ?_)
  fin_cases a
  · show 0 + 1 * (j 0).val = 0; omega
  · show 512 * b + 1 * (j 1).val = (512 * b + (j 1).val) % 4096; omega
  · show 128 * p + 1 * (j 2).val = (128 * p + (j 2).val) % 512; omega

theorem read4 (M4 : Memref sig .tc .vmem S1x4096x128 .bf16) (h4 : M4.IsWhole) (x4 : Vec F S1x4096x128 .bf16)
    {off : Fin 3 → ℕ} (inb : ∀ a, off a + S1x512x128.size a ≤ S1x4096x128.size a) (b : ℕ) (ho : off = ![0, 512 * b, 0]) :
    View.readAt (Elt F) M4.view (Rect.unit (s := S1x4096x128) off S1x512x128.size inb).toLoadRect (h4.unread x4) = aS x4 b := by
  subst ho
  funext j
  rw [Memref.IsWhole.readAt_unread]
  have i1 : 512 * b + 512 ≤ 4096 := inb 1
  have j0 : (j 0).val < 1 := (j 0).isLt
  have j1 : (j 1).val < 512 := (j 1).isLt
  have j2 : (j 2).val < 128 := (j 2).isLt
  refine congrArg x4 (funext fun a => Fin.ext ?_)
  fin_cases a
  · show 0 + 1 * (j 0).val = 0; omega
  · show 512 * b + 1 * (j 1).val = (512 * b + (j 1).val) % 4096; omega
  · show 0 + 1 * (j 2).val = (j 2).val % 128; omega

theorem read5 (M5 : Memref sig .tc .vmem S640x4096 .bf16) (h5 : M5.IsWhole) (x5 : Vec F S640x4096 .bf16)
    {off : Fin 2 → ℕ} (inb : ∀ a, off a + S80x512.size a ≤ S640x4096.size a) (b : ℕ) (h : Fin 8) (ho : off = ![80 * h.val, 512 * b]) :
    View.readAt (Elt F) M5.view (Rect.unit (s := S640x4096) off S80x512.size inb).toLoadRect (h5.unread x5) = vB x5 b h := by
  subst ho
  funext j
  rw [Memref.IsWhole.readAt_unread]
  have i0 : 80 * h.val + 80 ≤ 640 := inb 0
  have i1 : 512 * b + 512 ≤ 4096 := inb 1
  have j0 : (j 0).val < 80 := (j 0).isLt
  have j1 : (j 1).val < 512 := (j 1).isLt
  refine congrArg x5 (funext fun a => Fin.ext ?_)
  fin_cases a
  · show 80 * h.val + 1 * (j 0).val = (80 * h.val + (j 0).val) % 640; omega
  · show 512 * b + 1 * (j 1).val = (512 * b + (j 1).val) % 4096; omega

theorem score_congr {a a' b b' : Vec F S1x512x128 .bf16} (rh : FVec F S256x256 .bf16) (ha : a = a') (hb : b = b') :
    scoreT a b rh = scoreT a' b' rh := by rw [ha, hb]

end Reads

variable (c : Dev nD) (i : grid0.Coords) (M2 : Memref sig .tc .vmem S512x256 .bf16) (h2 : M2.IsWhole) (M3 : Memref sig .tc .vmem S1x4096x512 .bf16) (h3 : M3.IsWhole) (M4 : Memref sig .tc .vmem S1x4096x128 .bf16) (h4 : M4.IsWhole) (M5 : Memref sig .tc .vmem S640x4096 .bf16) (h5 : M5.IsWhole) (M6 : Memref sig .tc .vmem S1x8x256 .f32) (h6 : M6.IsWhole) (M7 : Memref sig .tc .vmem S1x256x512 .bf16) (h7 : M7.IsWhole) (M8 : Memref sig .tc .vmem S2x8x512x256 .f32) (h8 : M8.IsWhole)
  (rh : Fin 8 → FVec F S256x256 .bf16)
  (x2 : Vec F S512x256 .bf16) (x3 : Vec F S1x4096x512 .bf16) (x4 : Vec F S1x4096x128 .bf16) (x5 : Vec F S640x4096 .bf16) (x6 : Vec F S1x8x256 .f32)

theorem ld2_eq : ld2 M2 h2 x2 = x2 := by
  unfold ld2
  refine (View.readAt_full M2.view (h2.unread x2) _).trans (h2.read_unread x2)

theorem ld6_eq : ld6 M6 h6 x6 = x6 := by
  unfold ld6
  refine (View.readAt_full M6.view (h6.unread x6) _).trans (h6.read_unread x6)

theorem lg0_eq : lg0 M3 M4 rh (h3.unread x3) (h4.unread x4) = lgB rh x3 x4 (0) := by
  funext h
  match h with
  | 0 => exact score_congr (rh 0) (read3 M3 h3 x3 _ (0) 0 (rfl)) (read4 M4 h4 x4 _ (0) (rfl))
  | 1 => exact score_congr (rh 1) (read3 M3 h3 x3 _ (0) 0 (rfl)) (read4 M4 h4 x4 _ (0) (rfl))
  | 2 => exact score_congr (rh 2) (read3 M3 h3 x3 _ (0) 1 (rfl)) (read4 M4 h4 x4 _ (0) (rfl))
  | 3 => exact score_congr (rh 3) (read3 M3 h3 x3 _ (0) 1 (rfl)) (read4 M4 h4 x4 _ (0) (rfl))
  | 4 => exact score_congr (rh 4) (read3 M3 h3 x3 _ (0) 2 (rfl)) (read4 M4 h4 x4 _ (0) (rfl))
  | 5 => exact score_congr (rh 5) (read3 M3 h3 x3 _ (0) 2 (rfl)) (read4 M4 h4 x4 _ (0) (rfl))
  | 6 => exact score_congr (rh 6) (read3 M3 h3 x3 _ (0) 3 (rfl)) (read4 M4 h4 x4 _ (0) (rfl))
  | 7 => exact score_congr (rh 7) (read3 M3 h3 x3 _ (0) 3 (rfl)) (read4 M4 h4 x4 _ (0) (rfl))

theorem lgT_eq (k : Fin (k0_t1_loop i).trips) (r : Fin 2) : lgT i M3 M4 rh (h3.unread x3) (h4.unread x4) k r = lgB rh x3 x4 (2 * k.val + 1 + r.val) := by
  funext h
  match h with
  | 0 => exact score_congr (rh 0) (read3 M3 h3 x3 _ (2 * k.val + 1 + r.val) 0 (off2_eq i k r)) (read4 M4 h4 x4 _ (2 * k.val + 1 + r.val) (off1_eq i k r))
  | 1 => exact score_congr (rh 1) (read3 M3 h3 x3 _ (2 * k.val + 1 + r.val) 0 (off2_eq i k r)) (read4 M4 h4 x4 _ (2 * k.val + 1 + r.val) (off1_eq i k r))
  | 2 => exact score_congr (rh 2) (read3 M3 h3 x3 _ (2 * k.val + 1 + r.val) 1 (off3_eq i k r)) (read4 M4 h4 x4 _ (2 * k.val + 1 + r.val) (off1_eq i k r))
  | 3 => exact score_congr (rh 3) (read3 M3 h3 x3 _ (2 * k.val + 1 + r.val) 1 (off3_eq i k r)) (read4 M4 h4 x4 _ (2 * k.val + 1 + r.val) (off1_eq i k r))
  | 4 => exact score_congr (rh 4) (read3 M3 h3 x3 _ (2 * k.val + 1 + r.val) 2 (off4_eq i k r)) (read4 M4 h4 x4 _ (2 * k.val + 1 + r.val) (off1_eq i k r))
  | 5 => exact score_congr (rh 5) (read3 M3 h3 x3 _ (2 * k.val + 1 + r.val) 2 (off4_eq i k r)) (read4 M4 h4 x4 _ (2 * k.val + 1 + r.val) (off1_eq i k r))
  | 6 => exact score_congr (rh 6) (read3 M3 h3 x3 _ (2 * k.val + 1 + r.val) 3 (off5_eq i k r)) (read4 M4 h4 x4 _ (2 * k.val + 1 + r.val) (off1_eq i k r))
  | 7 => exact score_congr (rh 7) (read3 M3 h3 x3 _ (2 * k.val + 1 + r.val) 3 (off5_eq i k r)) (read4 M4 h4 x4 _ (2 * k.val + 1 + r.val) (off1_eq i k r))

theorem lgL_eq (hc : ¬ k0_cond1 i = 1#1) : lgL i M3 M4 rh hc (h3.unread x3) (h4.unread x4) = lgB rh x3 x4 ((i 1).val / 2) := by
  funext h
  match h with
  | 0 => exact score_congr (rh 0) (read3 M3 h3 x3 _ ((i 1).val / 2) 0 (off52_eq i)) (read4 M4 h4 x4 _ ((i 1).val / 2) (off51_eq i))
  | 1 => exact score_congr (rh 1) (read3 M3 h3 x3 _ ((i 1).val / 2) 0 (off52_eq i)) (read4 M4 h4 x4 _ ((i 1).val / 2) (off51_eq i))
  | 2 => exact score_congr (rh 2) (read3 M3 h3 x3 _ ((i 1).val / 2) 1 (off53_eq i)) (read4 M4 h4 x4 _ ((i 1).val / 2) (off51_eq i))
  | 3 => exact score_congr (rh 3) (read3 M3 h3 x3 _ ((i 1).val / 2) 1 (off53_eq i)) (read4 M4 h4 x4 _ ((i 1).val / 2) (off51_eq i))
  | 4 => exact score_congr (rh 4) (read3 M3 h3 x3 _ ((i 1).val / 2) 2 (off54_eq i)) (read4 M4 h4 x4 _ ((i 1).val / 2) (off51_eq i))
  | 5 => exact score_congr (rh 5) (read3 M3 h3 x3 _ ((i 1).val / 2) 2 (off54_eq i)) (read4 M4 h4 x4 _ ((i 1).val / 2) (off51_eq i))
  | 6 => exact score_congr (rh 6) (read3 M3 h3 x3 _ ((i 1).val / 2) 3 (off55_eq i)) (read4 M4 h4 x4 _ ((i 1).val / 2) (off51_eq i))
  | 7 => exact score_congr (rh 7) (read3 M3 h3 x3 _ ((i 1).val / 2) 3 (off55_eq i)) (read4 M4 h4 x4 _ ((i 1).val / 2) (off51_eq i))

theorem vT0_eq (k : Fin (k0_t1_loop i).trips) : vT0 i M5 (h5.unread x5) k = vB x5 (2 * k.val) := by
  funext h
  match h with
  | 0 => exact read5 M5 h5 x5 _ (2 * k.val) 0 (off6_eq i k)
  | 1 => exact read5 M5 h5 x5 _ (2 * k.val) 1 (off7_eq i k)
  | 2 => exact read5 M5 h5 x5 _ (2 * k.val) 2 (off8_eq i k)
  | 3 => exact read5 M5 h5 x5 _ (2 * k.val) 3 (off9_eq i k)
  | 4 => exact read5 M5 h5 x5 _ (2 * k.val) 4 (off10_eq i k)
  | 5 => exact read5 M5 h5 x5 _ (2 * k.val) 5 (off11_eq i k)
  | 6 => exact read5 M5 h5 x5 _ (2 * k.val) 6 (off12_eq i k)
  | 7 => exact read5 M5 h5 x5 _ (2 * k.val) 7 (off13_eq i k)

theorem vT1_eq (k : Fin (k0_t1_loop i).trips) : vT1 i M5 (h5.unread x5) k = vB x5 (2 * k.val + 1) := by
  funext h
  match h with
  | 0 => exact read5 M5 h5 x5 _ (2 * k.val + 1) 0 (off14_eq i k)
  | 1 => exact read5 M5 h5 x5 _ (2 * k.val + 1) 1 (off15_eq i k)
  | 2 => exact read5 M5 h5 x5 _ (2 * k.val + 1) 2 (off16_eq i k)
  | 3 => exact read5 M5 h5 x5 _ (2 * k.val + 1) 3 (off17_eq i k)
  | 4 => exact read5 M5 h5 x5 _ (2 * k.val + 1) 4 (off18_eq i k)
  | 5 => exact read5 M5 h5 x5 _ (2 * k.val + 1) 5 (off19_eq i k)
  | 6 => exact read5 M5 h5 x5 _ (2 * k.val + 1) 6 (off20_eq i k)
  | 7 => exact read5 M5 h5 x5 _ (2 * k.val + 1) 7 (off21_eq i k)

theorem vL1_eq (hc : k0_cond1 i = 1#1) : vL1 i M5 hc (h5.unread x5) = vB x5 ((i 1).val / 2) := by
  funext h
  match h with
  | 0 => exact read5 M5 h5 x5 _ ((i 1).val / 2) 0 (off43_eq i)
  | 1 => exact read5 M5 h5 x5 _ ((i 1).val / 2) 1 (off44_eq i)
  | 2 => exact read5 M5 h5 x5 _ ((i 1).val / 2) 2 (off45_eq i)
  | 3 => exact read5 M5 h5 x5 _ ((i 1).val / 2) 3 (off46_eq i)
  | 4 => exact read5 M5 h5 x5 _ ((i 1).val / 2) 4 (off47_eq i)
  | 5 => exact read5 M5 h5 x5 _ ((i 1).val / 2) 5 (off48_eq i)
  | 6 => exact read5 M5 h5 x5 _ ((i 1).val / 2) 6 (off49_eq i)
  | 7 => exact read5 M5 h5 x5 _ ((i 1).val / 2) 7 (off50_eq i)

theorem vL2_eq (hc : ¬ k0_cond1 i = 1#1) (r : Fin 2) : vL2 i M5 hc (h5.unread x5) r = vB x5 ((i 1).val / 2 - r.val) := by
  funext h
  match h with
  | 0 => exact read5 M5 h5 x5 _ ((i 1).val / 2 - r.val) 0 (off56_eq i r hc)
  | 1 => exact read5 M5 h5 x5 _ ((i 1).val / 2 - r.val) 1 (off57_eq i r hc)
  | 2 => exact read5 M5 h5 x5 _ ((i 1).val / 2 - r.val) 2 (off58_eq i r hc)
  | 3 => exact read5 M5 h5 x5 _ ((i 1).val / 2 - r.val) 3 (off59_eq i r hc)
  | 4 => exact read5 M5 h5 x5 _ ((i 1).val / 2 - r.val) 4 (off60_eq i r hc)
  | 5 => exact read5 M5 h5 x5 _ ((i 1).val / 2 - r.val) 5 (off61_eq i r hc)
  | 6 => exact read5 M5 h5 x5 _ ((i 1).val / 2 - r.val) 6 (off62_eq i r hc)
  | 7 => exact read5 M5 h5 x5 _ ((i 1).val / 2 - r.val) 7 (off63_eq i r hc)

end Cert.KernelIdeal.Fox

end
-- ==== Proof.Fox.Slots.lean ====
/-
  The two slots of the kernel's scratch: each head's logits are read back as they were last written there.
-/
module

public import proofs.«01_k».proof.Proof.Fox.Spec
public import Idealize.ShloMosaic.Lib.Pointwise
public import Idealize.ShloMosaic.Lib.WholeRead
public import Idealize.ShloMosaic.Lib.WritesUnit
public import Idealize.ShloMosaic.Lib.Pipeline.Value
public import Idealize.ShloMosaic.Lib.Pipeline.FrameBody

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F] [Named F]

section
variable {ks : Kind} {sp : Space} {s : Shape} {e : EltTy} (v : View sig ks sp s e) (f : v.ty.Contents (Elt F))

/-- A load where the last write was reads what was written. -/
theorem read_hit (r : Rect s) (x : r.shape.Idx → Elt F e) (L : List (View.Piece (Elt F) s e)) :
    v.readAt (Elt F) r.toLoadRect (v.writes (Elt F) f (⟨r, x⟩ :: L)) = x :=
  funext fun j => View.read_writes_cons_emb v f r x L j

/-- A load elsewhere reads what the earlier writes left. -/
theorem read_miss {off off' size : Fin s.rank → ℕ} (inb : ∀ a, off a + size a ≤ s.size a) (inb' : ∀ a, off' a + size a ≤ s.size a)
    (x : (Rect.unit off size inb).shape.Idx → Elt F e) (L : List (View.Piece (Elt F) s e)) (a : Fin s.rank)
    (h : off' a + size a ≤ off a ∨ off a + size a ≤ off' a) :
    v.readAt (Elt F) (Rect.unit off' size inb').toLoadRect (v.writes (Elt F) f (⟨Rect.unit off size inb, x⟩ :: L))
      = v.readAt (Elt F) (Rect.unit off' size inb').toLoadRect (v.writes (Elt F) f L) :=
  funext fun j => View.read_writes_cons_unit_of_not_mem v f inb x L _ rfl a (by
    have hj : (j a).val < size a := (j a).isLt
    have e : (((Rect.unit off' size inb').toLoadRect.idx j) a).val = off' a + 1 * (j a).val := rfl
    rw [e]
    rcases h with h | h
    · left; omega
    · right; omega)

end

variable (M8 : Memref sig .tc .vmem S2x8x512x256 .f32) (f : BufTy.Contents (Elt F) M8.view.ty)
  (s : Fin 8 → FVec F S512x256 .f32) (L : List (View.Piece (Elt F) S2x8x512x256 .f32))

theorem rd0_wr0 : rd0 M8 (M8.view.writes (Elt F) f (wr0 s L)) = s := by
  funext h
  match h with
  | 0 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _))))))))).trans (shapeCast_shapeCast _ _ _)
  | 1 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _)))))))).trans (shapeCast_shapeCast _ _ _)
  | 2 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _))))))).trans (shapeCast_shapeCast _ _ _)
  | 3 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _)))))).trans (shapeCast_shapeCast _ _ _)
  | 4 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans (read_hit M8.view f _ _ _))))).trans (shapeCast_shapeCast _ _ _)
  | 5 => exact (congrArg (fun z => shapeCast S512x256 z shapeCasts_S1x1x512x256_S512x256) ((read_miss M8.view f _ _ _ _ 1 (by decide)).trans ((read_miss M8.view f _ _ _ _ 1 (by decide)).trans (read_hit M8.view f _ _ _)))).trans (shapeCast_shapeCast _ _ _)
  | 6 => exact (congrArg (fun z => shapeCast S512x256 z shapeCasts_S1x1x512x256_S512x256) ((read_miss M8.view f _ _ _ _ 1 (by decide)).trans (read_hit M8.view f _ _ _))).trans (shapeCast_shapeCast _ _ _)
  | 7 => exact (congrArg (fun z => shapeCast S512x256 z shapeCasts_S1x1x512x256_S512x256) (read_hit M8.view f _ _ _)).trans (shapeCast_shapeCast _ _ _)

theorem rd1_wr1 : rd1 M8 (M8.view.writes (Elt F) f (wr1 s L)) = s := by
  funext h
  match h with
  | 0 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _))))))))).trans (shapeCast_shapeCast _ _ _)
  | 1 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _)))))))).trans (shapeCast_shapeCast _ _ _)
  | 2 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _))))))).trans (shapeCast_shapeCast _ _ _)
  | 3 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans ((read_miss M8.view f _ _ _ _ 1 (by decide)).trans (read_hit M8.view f _ _ _)))))).trans (shapeCast_shapeCast _ _ _)
  | 4 => exact (congrArg (fun z => shapeCast S512x256 z shapeCasts_S1x1x512x256_S512x256) ((read_miss M8.view f _ _ _ _ 1 (by decide)).trans ((read_miss M8.view f _ _ _ _ 1 (by decide)).trans ((read_miss M8.view f _ _ _ _ 1 (by decide)).trans (read_hit M8.view f _ _ _))))).trans (shapeCast_shapeCast _ _ _)
  | 5 => exact (congrArg (fun z => shapeCast S512x256 z shapeCasts_S1x1x512x256_S512x256) ((read_miss M8.view f _ _ _ _ 1 (by decide)).trans ((read_miss M8.view f _ _ _ _ 1 (by decide)).trans (read_hit M8.view f _ _ _)))).trans (shapeCast_shapeCast _ _ _)
  | 6 => exact (congrArg (fun z => shapeCast S512x256 z shapeCasts_S1x1x512x256_S512x256) ((read_miss M8.view f _ _ _ _ 1 (by decide)).trans (read_hit M8.view f _ _ _))).trans (shapeCast_shapeCast _ _ _)
  | 7 => exact (congrArg (fun z => shapeCast S512x256 z shapeCasts_S1x1x512x256_S512x256) (read_hit M8.view f _ _ _)).trans (shapeCast_shapeCast _ _ _)

theorem rd0_wr1 : rd0 M8 (M8.view.writes (Elt F) f (wr1 s L)) = rd0 M8 (M8.view.writes (Elt F) f L) := by
  funext h
  match h with
  | 0 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 1 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 2 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 3 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 4 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 5 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 6 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 7 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))

theorem rd1_wr0 : rd1 M8 (M8.view.writes (Elt F) f (wr0 s L)) = rd1 M8 (M8.view.writes (Elt F) f L) := by
  funext h
  match h with
  | 0 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 1 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 2 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 3 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 4 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 5 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 6 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))
  | 7 => exact congrArg (fun z => shapeCast S512x256 z shapeCasts_S1x1x512x256_S512x256) ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide)).trans ((read_miss M8.view f _ _ _ _ 0 (by decide))))))))))

end Cert.KernelIdeal.Fox

end
-- ==== Proof.Fox.Walk.lean ====
/-
  The kernel's walk over the blocks is the fold `accB`, and what it writes at a grid point is `outB`: the scratch holds the
  logits of the block that comes next.
-/
module

public import proofs.«01_k».proof.Proof.Fox.Blocks
public import proofs.«01_k».proof.Proof.Fox.Slots

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (c : Dev nD) (i : grid0.Coords) (M2 : Memref sig .tc .vmem S512x256 .bf16) (h2 : M2.IsWhole) (M3 : Memref sig .tc .vmem S1x4096x512 .bf16) (h3 : M3.IsWhole) (M4 : Memref sig .tc .vmem S1x4096x128 .bf16) (h4 : M4.IsWhole) (M5 : Memref sig .tc .vmem S640x4096 .bf16) (h5 : M5.IsWhole) (M6 : Memref sig .tc .vmem S1x8x256 .f32) (h6 : M6.IsWhole) (M7 : Memref sig .tc .vmem S1x256x512 .bf16) (h7 : M7.IsWhole) (M8 : Memref sig .tc .vmem S2x8x512x256 .f32) (h8 : M8.IsWhole)
  (rh : Fin 8 → FVec F S256x256 .bf16)
  (x2 : Vec F S512x256 .bf16) (x3 : Vec F S1x4096x512 .bf16) (x4 : Vec F S1x4096x128 .bf16) (x5 : Vec F S640x4096 .bf16) (x6 : Vec F S1x8x256 .f32)
  (x8 : Vec F S2x8x512x256 .f32)

/-- Before pair `k`: the maxima and sums of the blocks before `2 k`, and the logits of block `2 k` in slot 0. -/
theorem pairs_inv : ∀ k : ℕ, k ≤ (k0_t1_loop i).trips →
    (st_k0_t1 𝒱₀ c none i M2 h2 M3 h3 M4 h4 M5 h5 M6 h6 M7 h7 M8 h8 (rh 0) (rh 1) (rh 2) (rh 3) (rh 4) (rh 5) (rh 6) (rh 7) (posT i) (nblkT i) (halfT i) (oddT i).1 (oddT i).2 (h3.unread x3) (h4.unread x4) (h5.unread x5) (M8.view.writes (Elt F) (h8.unread x8) (wr0 (lg0 M3 M4 rh (h3.unread x3) (h4.unread x4)) [])) ini k).1 = accB rh x3 x4 x5 (2 * k)
      ∧ ∃ R, (st_k0_t1 𝒱₀ c none i M2 h2 M3 h3 M4 h4 M5 h5 M6 h6 M7 h7 M8 h8 (rh 0) (rh 1) (rh 2) (rh 3) (rh 4) (rh 5) (rh 6) (rh 7) (posT i) (nblkT i) (halfT i) (oddT i).1 (oddT i).2 (h3.unread x3) (h4.unread x4) (h5.unread x5) (M8.view.writes (Elt F) (h8.unread x8) (wr0 (lg0 M3 M4 rh (h3.unread x3) (h4.unread x4)) [])) ini k).2 ++ wr0 (lg0 M3 M4 rh (h3.unread x3) (h4.unread x4)) [] = wr0 (lgB rh x3 x4 (2 * k)) R
  | 0, _ => ⟨rfl, [], by rw [← lg0_eq (F := F) M3 h3 M4 h4]; rfl⟩
  | k + 1, hk => by
    obtain ⟨ha, R, hR⟩ := pairs_inv k (Nat.le_of_succ_le hk)
    have hs := st_k0_t1_succ (F := F) 𝒱₀ c none i M2 h2 M3 h3 M4 h4 M5 h5 M6 h6 M7 h7 M8 h8 (rh 0) (rh 1) (rh 2) (rh 3) (rh 4) (rh 5) (rh 6) (rh 7) (posT i) (nblkT i) (halfT i) (oddT i).1 (oddT i).2 (h3.unread x3) (h4.unread x4) (h5.unread x5) (M8.view.writes (Elt F) (h8.unread x8) (wr0 (lg0 M3 M4 rh (h3.unread x3) (h4.unread x4)) [])) ini ⟨k, hk⟩
    rw [tripR_eq, tripL_eq] at hs
    refine ⟨?_, ?_⟩
    · refine (congrArg Prod.fst hs).trans ?_
      show stepT (stepT _ _ _) _ _ = stepT (stepT (accB rh x3 x4 x5 (2 * k)) (lgB rh x3 x4 (2 * k)) (vB x5 (2 * k))) (lgB rh x3 x4 (2 * k + 1)) (vB x5 (2 * k + 1))
      rw [ha, ← View.writes_append, hR, rd0_wr0, rd1_wr0, rd1_wr1, lgT_eq, vT0_eq, vT1_eq]
      rfl
    · refine ⟨wr1 (lgB rh x3 x4 (2 * k + 1)) (wr0 (lgB rh x3 x4 (2 * k)) R), ?_⟩
      rw [← hR, hs, lgT_eq, lgT_eq]
      rfl

theorem walk_inv : (walk c i M2 h2 M3 h3 M4 h4 M5 h5 M6 h6 M7 h7 M8 h8 rh (h3.unread x3) (h4.unread x4) (h5.unread x5) (h8.unread x8)).1 = accB rh x3 x4 x5 (2 * ((i 1).val / 4))
    ∧ ∃ R, (walk c i M2 h2 M3 h3 M4 h4 M5 h5 M6 h6 M7 h7 M8 h8 rh (h3.unread x3) (h4.unread x4) (h5.unread x5) (h8.unread x8)).2 = wr0 (lgB rh x3 x4 (2 * ((i 1).val / 4))) R := by
  have h := pairs_inv c i M2 h2 M3 h3 M4 h4 M5 h5 M6 h6 M7 h7 M8 h8 rh x3 x4 x5 x8 _ le_rfl
  rw [trips_eq] at h
  unfold walk
  dsimp only
  rw [trips2_eq, trips_eq]
  exact h

theorem one_eq (hc : k0_cond1 i = 1#1) :
    (runOne c i hc M2 h2 M3 h3 M4 h4 M5 h5 M6 h6 M7 h7 M8 h8 x2 x3 x4 x5 x6).1 x8 = outB i (rhsT x2 x6) x3 x4 x5 := by
  obtain ⟨ha, R, hR⟩ := walk_inv c i M2 h2 M3 h3 M4 h4 M5 h5 M6 h6 M7 h7 M8 h8 (rhsT x2 x6) x3 x4 x5 x8
  have e : 2 * ((i 1).val / 4) = (i 1).val / 2 := by have := (cond1_iff i).1 hc; omega
  rw [runOne_eq, ld2_eq, ld6_eq, ha, hR, rd0_wr0, vL1_eq, e]
  rfl

theorem two_eq (hc : ¬ k0_cond1 i = 1#1) :
    (runTwo c i hc M2 h2 M3 h3 M4 h4 M5 h5 M6 h6 M7 h7 M8 h8 x2 x3 x4 x5 x6).1 x8 = outB i (rhsT x2 x6) x3 x4 x5 := by
  obtain ⟨ha, R, hR⟩ := walk_inv c i M2 h2 M3 h3 M4 h4 M5 h5 M6 h6 M7 h7 M8 h8 (rhsT x2 x6) x3 x4 x5 x8
  have e : (i 1).val / 2 = 2 * ((i 1).val / 4) + 1 := by
    have := mt (cond1_iff i).2 hc
    omega
  rw [runTwo_eq, ld2_eq, ld6_eq, ha, hR, rd0_wr1, rd0_wr0, rd1_wr1, lgL_eq, vL2_eq, vL2_eq]
  unfold outB
  rw [e]
  rfl

end Cert.KernelIdeal.Fox

end
-- ==== Proof.Fox.RunValue.lean ====
/-
  The run with the result named: at every grid point the body leaves the tile's attention in the result's block.
-/
module

public import proofs.«01_k».proof.Proof.Fox.Walk
public import proofs.«01_k».proof.Proof.Fox.FrameKernelIdeal

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's block at a grid point. -/
def outO (c : Dev nD) (t : Fin cfg0.N) : Vec F S1x256x512 .bf16 :=
  outB (grid0.coords t) (rhsT (iblk m c 0 t) (iblk m c 4 t)) (iblk m c 1 t) (iblk m c 2 t) (iblk m c 3 t)

theorem outsAt_eq (c : Dev nD) (t : Fin cfg0.N) (x8 : Vec F S2x8x512x256 .f32) : outsAt m c t x8 = outO m c t := by
  unfold outsAt outO
  split
  · exact one_eq ..
  · exact two_eq ..

/-- The data with the result's blocks named. -/
abbrev datsO := dats m (outO m)

def preO (c : Dev nD) (t : Fin cfg0.N) : sProp 𝕄 :=
  iprop((datsO m 0 c).Φ t.castSucc ∗ (datsO m 0 c).owesAt () t.castSucc
    ∗ (∃ d, owns (c : Thread nD τ) (ms2 t) fullShare ((datsO m 0 c).before 0 t d))
    ∗ (∃ d, owns (c : Thread nD τ) (ms3 t) fullShare ((datsO m 0 c).before 1 t d))
    ∗ (∃ d, owns (c : Thread nD τ) (ms4 t) fullShare ((datsO m 0 c).before 2 t d))
    ∗ (∃ d, owns (c : Thread nD τ) (ms5 t) fullShare ((datsO m 0 c).before 3 t d))
    ∗ (∃ d, owns (c : Thread nD τ) (ms6 t) fullShare ((datsO m 0 c).before 4 t d))
    ∗ (∃ d, owns (c : Thread nD τ) (ms7 t) fullShare ((datsO m 0 c).before 5 t d)))
def postO (c : Dev nD) (t : Fin cfg0.N) : sProp 𝕄 :=
  iprop((datsO m 0 c).Φ t.succ ∗ (datsO m 0 c).owesAt () t.succ
    ∗ owns (c : Thread nD τ) (ms2 t) fullShare ((datsO m 0 c).after 0 t)
    ∗ owns (c : Thread nD τ) (ms3 t) fullShare ((datsO m 0 c).after 1 t)
    ∗ owns (c : Thread nD τ) (ms4 t) fullShare ((datsO m 0 c).after 2 t)
    ∗ owns (c : Thread nD τ) (ms5 t) fullShare ((datsO m 0 c).after 3 t)
    ∗ owns (c : Thread nD τ) (ms6 t) fullShare ((datsO m 0 c).after 4 t)
    ∗ owns (c : Thread nD τ) (ms7 t) fullShare ((datsO m 0 c).after 5 t))

theorem sound_bodyO (c : Dev nD) (t : Fin cfg0.N) :
    preO m c t ⊢ wp frame (wpE (defs₀ (F := F)) Variants.none c none) Set.univ (bodyAt0 t) (fun _ => postO m c t) := by
  unfold preO postO datsO
  simp only [before_0, before_1, before_2, before_3, before_4]
  rw [show (dats m _ 0 c).Φ t.succ = (Pipeline.ΦA spec0 c : sProp 𝕄) from rfl, show (dats m _ 0 c).Φ t.castSucc = (Pipeline.ΦA spec0 c : sProp 𝕄) from rfl,
    show (dats m _ 0 c).owesAt () t.succ = (dats m _ 0 c).owesAt () t.castSucc from rfl, after_0, after_1, after_2, after_3, after_4, after_5]
  unfold Pipeline.ΦA
  rw [scopedRest0_eq]
  iintro ⟨⟨⟨%f8, H8⟩, Hg⟩, Ho, ⟨%d2, H2⟩, ⟨%d3, H3⟩, ⟨%d4, H4⟩, ⟨%d5, H5⟩, ⟨%d6, H6⟩, ⟨%d7, H7⟩⟩
  iapply (body_at m c t f8 _)
  rw [outsAt_eq]
  isplitl [H2]; · iexact H2
  isplitl [H3]; · iexact H3
  isplitl [H4]; · iexact H4
  isplitl [H5]; · iexact H5
  isplitl [H6]; · iexact H6
  isplitl [H7]; · iexists _; iexact H7
  isplitl [H8]; · iapply (scratch_owns c f8).1; iexact H8
  iintro ⟨H2, H3, H4, H5, H6, H7, ⟨%d8, H8⟩⟩
  isplitl [H8 Hg]
  · isplitl [H8]; · iexists d8; iapply (scratch_owns c d8).2; iexact H8
    iexact Hg
  isplitl [Ho]; · iexact Ho
  isplitl [H2]; · iexact H2
  isplitl [H3]; · iexact H3
  isplitl [H4]; · iexact H4
  isplitl [H5]; · iexact H5
  isplitl [H6]; · iexact H6
  iexact H7

theorem body_obligationO (c : Dev nD) :
    BodyObligation (datsO (F := F) m 0 c) (defs₀ (F := F)) Variants.none () Set.univ := fun t => by
  rw [bigSep_W0, bigSep_W0, defs₀_row]
  exact triple_restated (sound_bodyO m c t) rfl .rfl fun _ => .rfl

set_option backward.isDefEq.respectTransparency.types false in
/-- Every run ends with the result's array holding its blocks. -/
theorem run_value :
    θ_run defs (onTc (τ := τ) (main (F := F))) (s₀ m ρ) (Pipeline.FramePost cfgs (datsO m) 0 (V m)) :=
  Pipeline.θ_run_frame (Q' := _) cfgs (datsO m) (0 : Fin 1) launch0 defs₀ Variants.none m ρ main
    (hbody := fun c => (body_obligationO m c).loose) (hshare := fun c => (datsO m 0 c).share_full fun _ => rfl)
    (howed := fun _ _ => rfl) (V := V m) (hmain := hmain m Variants.none) (hA := fun _ _ => rfl) (hΦ := fun _ _ => rfl)

end Cert.KernelIdeal.Fox

end
-- ==== Proof.Fox.Host.lean ====
/-
  What the host prepares for the kernel: the scaled queries, the keys, the pieces of the sums, the values and their
  rows of ones, as terms of the arguments and entry by entry.
-/
module

public import proofs.«01_k».proof.Proof.Gen.KernelIdeal.Frame
public import Idealize.ShloMosaic.Lib.Pointwise
public import Idealize.ShloMosaic.Lib.Pipeline.Value

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The base-2 logarithm's divisor as the host writes it. -/
def hLog2 : FVec Ideal S_ .f32 := Host.log (constant S_ .f32 0x40000000#32)

/-- The queries as the window's array holds them. -/
def hQ (x0 : FVec Ideal S4x4096x8x64 .f32) : FVec Ideal S512x16384 .bf16 :=
  truncf .bf16 (transpose S512x16384 [1, 0] (Host.divf (mulf (shapeCast S16384x512 x0 shapeCasts_S4x4096x8x64_S16384x512)
    (broadcastInDim S16384x512 ![] bcast_S_S16384x512 (constant S_ .f32 0x3E000000#32)))
    (broadcastInDim S16384x512 ![] bcast_S_S16384x512 hLog2)) transposes_S16384x512_S512x16384_1_0) bitsLt_bf16_f32

/-- The negated sums over `log 2`. -/
def hC (x3 : FVec Ideal S4x4096x8 .f32) : FVec Ideal S4x4096x8 .f32 :=
  Host.divf (Host.negf x3) (broadcastInDim S4x4096x8 ![] bcast_S_S4x4096x8 hLog2)

/-- What a cast to half precision loses of an array. -/
def hRest (y : FVec Ideal S4x4096x8 .f32) : FVec Ideal S4x4096x8 .f32 :=
  subf y (extf .f32 (truncf .bf16 y bitsLt_bf16_f32) bitsLt_bf16_f32)

/-- An array after a cast to half precision and back. -/
def hHalf (y : FVec Ideal S4x4096x8 .f32) : FVec Ideal S4x4096x8 .f32 :=
  extf .f32 (truncf .bf16 y bitsLt_bf16_f32) bitsLt_bf16_f32

/-- The pieces of the keys' sums, three columns of ones and zeros. -/
def hA (x3 : FVec Ideal S4x4096x8 .f32) : FVec Ideal S4x4096x128 .bf16 :=
  truncf .bf16 (concatenate S4x4096x128 2 [⟨S4x4096x8, hHalf (hC x3)⟩, ⟨S4x4096x8, hHalf (hRest (hC x3))⟩, ⟨S4x4096x8, hHalf (hRest (hRest (hC x3)))⟩,
    ⟨S4x4096x3, broadcastInDim S4x4096x3 ![] bcast_S_S4x4096x3 (constant S_ .f32 0x3F800000#32)⟩,
    ⟨S4x4096x101, broadcastInDim S4x4096x101 ![] bcast_S_S4x4096x101 (constant S_ .f32 0x00000000#32)⟩] concatenates_S4x4096x8_S4x4096x8_S4x4096x8_S4x4096x3_S4x4096x101_S4x4096x128_d2) bitsLt_bf16_f32

/-- The values with sixteen rows of ones after each head's. -/
def hV (x2 : FVec Ideal S4x4096x8x64 .f32) : FVec Ideal S640x16384 .bf16 :=
  truncf .bf16 (shapeCast S640x16384 (concatenate S8x80x16384 1 [⟨S8x64x16384, transpose S8x64x16384 [1, 2, 0]
    (shapeCast S16384x8x64 x2 shapeCasts_S4x4096x8x64_S16384x8x64) transposes_S16384x8x64_S8x64x16384_1_2_0⟩,
    ⟨S8x16x16384, broadcastInDim S8x16x16384 ![] bcast_S_S8x16x16384 (constant S_ .f32 0x3F800000#32)⟩]
    concatenates_S8x64x16384_S8x16x16384_S8x80x16384_d1) shapeCasts_S8x80x16384_S640x16384) bitsLt_bf16_f32

/-- The keys. -/
def hK (x1 : FVec Ideal S4x4096x8x64 .f32) : FVec Ideal S4x4096x512 .bf16 :=
  truncf .bf16 (shapeCast S4x4096x512 x1 shapeCasts_S4x4096x8x64_S4x4096x512) bitsLt_bf16_f32

theorem V_q : V m c main_v7 = hQ (m ((c : Thread nD τ).loc main_arg0)) := by
  unfold V hQ hLog2
  simp only [hostOps0]
  after_results_simp
  first | rfl | skip

theorem V_k : V m c main_v33 = hK (m ((c : Thread nD τ).loc main_arg1)) := by
  unfold V hK
  simp only [hostOps0]
  after_results_simp
  first | rfl | skip

theorem V_v : V m c main_v30 = hV (m ((c : Thread nD τ).loc main_arg2)) := by
  unfold V hV
  simp only [hostOps0]
  after_results_simp
  first | rfl | skip

theorem V_c : V m c main_v31 = transpose S4x8x4096 [0, 2, 1] (m ((c : Thread nD τ).loc main_arg3)) transposes_S4x4096x8_S4x8x4096_0_2_1 := by
  unfold V
  simp only [hostOps0]
  after_results_simp
  first | rfl | skip

theorem V_a : V m c main_v24 = hA (m ((c : Thread nD τ).loc main_arg3)) := by
  unfold V hA hHalf hRest hC hLog2
  simp only [hostOps0]
  after_results_simp
  first | rfl | skip

/-! ### Their entries -/

theorem log2_val : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; try norm_num
  rw [e, Ideal.log_coe, if_neg (by norm_num)]

theorem eighth_val : Ideal.ofBits .f32 0x3E000000#32 = ((1 / 8 : ℝ) : EReal) := by
  simp [Ideal.ofBits, Ideal.ieee, -EReal.coe_mul]; norm_num

theorem hQ_apply (x0 : FVec Ideal S4x4096x8x64 .f32) (b : Fin 4) (i : Fin 4096) (h : Fin 8) (d : Fin 64) (q : ℝ) (hq : x0 (ix4 b i h d) = q) :
    hQ x0 (ix2 ⟨64 * h.val + d.val, by omega⟩ ⟨b.val * 4096 + i.val, by omega⟩) = ((q * (1 / 8) * (Real.log 2)⁻¹ : ℝ) : EReal) := by
  unfold hQ
  generalize hy : shapeCast S16384x512 x0 shapeCasts_S4x4096x8x64_S16384x512 = y
  pointwise [hLog2]
  subst hy
  rw [shapeCast_apply x0 _ _ (ix4 b i h d) (by
    rw [Shape.rowMajor_val_four, Shape.rowMajor_val_two]
    show ((b.val * 4096 + i.val) * 8 + h.val) * 64 + d.val = (b.val * 4096 + i.val) * 512 + (64 * h.val + d.val)
    omega), hq, log2_val, eighth_val, Ideal.div_coe (Real.log_pos (by norm_num)).ne', ← EReal.coe_mul, ← EReal.coe_mul, one_div (Real.log 2)]

theorem hC_apply (x3 : FVec Ideal S4x4096x8 .f32) (b : Fin 4) (i : Fin 4096) (h : Fin 8) (r : ℝ) (hr : x3 (ix3 b i h) = r) :
    hC x3 (ix3 b i h) = ((-r * (Real.log 2)⁻¹ : ℝ) : EReal) := by
  pointwise [hC, hLog2]
  rw [hr, log2_val, Ideal.div_coe (Real.log_pos (by norm_num)).ne', ← EReal.coe_neg, ← EReal.coe_mul, one_div]

theorem hRest_apply (y : FVec Ideal S4x4096x8 .f32) (j : S4x4096x8.Idx) (r : ℝ) (hr : y j = r) : hRest y j = ((0 : ℝ) : EReal) := by
  show y j - y j = _
  rw [hr, ← EReal.coe_sub, sub_self]

theorem hA_apply (x3 : FVec Ideal S4x4096x8 .f32) (C : Fin 4 → Fin 4096 → Fin 8 → ℝ) (hC3 : ∀ b i h, x3 (ix3 b i h) = C b i h)
    (b : Fin 4) (i : Fin 4096) (l : Fin 128) :
    hA x3 (ix3 b i l) = ((if h : l.val < 8 then -C b i ⟨l, h⟩ * (Real.log 2)⁻¹
      else if l.val < 24 then 0 else if l.val < 27 then 1 else 0 : ℝ) : EReal) := by
  have h1 := fun h => hC_apply x3 b i h _ (hC3 b i h)
  have h2 := fun h => hRest_apply (hC x3) (ix3 b i h) _ (h1 h)
  have h3 := fun h => hRest_apply (hRest (hC x3)) (ix3 b i h) _ (h2 h)
  unfold hA
  generalize hC x3 = y at h1 h2 h3
  pointwise [hHalf]
  split_ifs <;> first | omega | exact h1 _ | (rw [if_pos (show l.val < 24 by omega)]; exact h2 _) | (rw [if_pos (show l.val < 24 by omega)]; exact h3 _) | exact h2 _ | exact h3 _ | exact EReal.coe_one.symm | exact EReal.coe_zero.symm

theorem hV_apply (x2 : FVec Ideal S4x4096x8x64 .f32) (b : Fin 4) (i : Fin 4096) (h : Fin 8) (r : Fin 80) :
    hV x2 (ix2 ⟨80 * h.val + r.val, by omega⟩ ⟨b.val * 4096 + i.val, by omega⟩)
      = if hr : r.val < 64 then x2 (ix4 b i h ⟨r, hr⟩) else 1 := by
  unfold hV
  generalize hy : shapeCast S16384x8x64 x2 shapeCasts_S4x4096x8x64_S16384x8x64 = y
  pointwise []
  subst hy
  split_ifs with hr
  · exact shapeCast_apply x2 _ _ (ix4 b i h ⟨r, hr⟩) (by
      rw [Shape.rowMajor_val_four, Shape.rowMajor_val_three]; rfl)
  · rfl

theorem hK_apply (x1 : FVec Ideal S4x4096x8x64 .f32) (b : Fin 4) (i : Fin 4096) (h : Fin 8) (d : Fin 64) :
    hK x1 (ix3 b i ⟨64 * h.val + d.val, by omega⟩) = x1 (ix4 b i h d) := by
  unfold hK
  exact shapeCast_apply x1 _ _ (ix4 b i h d) (by
    rw [Shape.rowMajor_val_four, Shape.rowMajor_val_three]
    show ((b.val * 4096 + i.val) * 8 + h.val) * 64 + d.val = (b.val * 4096 + i.val) * 512 + (64 * h.val + d.val)
    omega)

theorem hT_apply (x3 : FVec Ideal S4x4096x8 .f32) (b : Fin 4) (i : Fin 4096) (h : Fin 8) :
    transpose S4x8x4096 [0, 2, 1] x3 transposes_S4x4096x8_S4x8x4096_0_2_1 (ix3 b h i) = x3 (ix3 b i h) := by
  pointwise []

end Cert.KernelIdeal.Fox

end
-- ==== Proof.Fox.Windows.lean ====
/-
  The windows' blocks at a grid point: the rows of the arrays that the host prepares, at the point's batch and positions.
-/
module

public import proofs.«01_k».proof.Proof.Fox.Host
public import proofs.«01_k».proof.Proof.Fox.FrameKernelIdeal
public import Idealize.ShloMosaic.Lib.Pointwise
public import Idealize.ShloMosaic.Lib.Pipeline.ValueKit.Geometry

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The batch of a grid point. -/
def bOf (t : Fin cfg0.N) : Fin 4 := ⟨(grid0.coords t 0).val, (grid0.coords t 0).isLt⟩

theorem tile_lt (t : Fin cfg0.N) : (grid0.coords t 1).val < 16 := (grid0.coords t 1).isLt

/-- The position in the sequence of query `q` of a grid point. -/
def posOf (t : Fin cfg0.N) (q : Fin 256) : Fin 4096 := ⟨(grid0.coords t 1).val * 256 + q.val, by have := tile_lt t; omega⟩

theorem index_q : ∀ t : Fin cfg0.N, win0_0.index t = ![0, (grid0.coords t 0).val * 16 + (grid0.coords t 1).val] :=
  (by decide +kernel : ∀ t : Fin grid0.N, _)
theorem index_k : ∀ t : Fin cfg0.N, win0_1.index t = ![(grid0.coords t 0).val, 0, 0] := (by decide +kernel : ∀ t : Fin grid0.N, _)
theorem index_a : ∀ t : Fin cfg0.N, win0_2.index t = ![(grid0.coords t 0).val, 0, 0] := (by decide +kernel : ∀ t : Fin grid0.N, _)
theorem index_v : ∀ t : Fin cfg0.N, win0_3.index t = ![0, (grid0.coords t 0).val] := (by decide +kernel : ∀ t : Fin grid0.N, _)
theorem index_c : ∀ t : Fin cfg0.N, win0_4.index t = ![(grid0.coords t 0).val, 0, (grid0.coords t 1).val] := (by decide +kernel : ∀ t : Fin grid0.N, _)
theorem index_o : ∀ t : Fin cfg0.N, win0_5.index t = ![(grid0.coords t 0).val, (grid0.coords t 1).val, 0] := (by decide +kernel : ∀ t : Fin grid0.N, _)

theorem iblk_q (t : Fin cfg0.N) (r : Fin 512) (q : Fin 256) : (iblk m c 0 t : Vec Ideal S512x256 .bf16) (ix2 r q)
    = hQ (m ((c : Thread nD τ).loc main_arg0)) (ix2 r ⟨(bOf t).val * 4096 + (posOf t q).val, by have := (bOf t).isLt; have := (posOf t q).isLt; omega⟩) := by
  blk_simp [iblk]
  rw [V_q]
  refine congrArg _ ?_
  unfold bOf posOf
  blk_ext [index_q]

theorem iblk_k (t : Fin cfg0.N) (j : Fin 4096) (r : Fin 512) : (iblk m c 1 t : Vec Ideal S1x4096x512 .bf16) (ix3 0 j r)
    = hK (m ((c : Thread nD τ).loc main_arg1)) (ix3 (bOf t) j r) := by
  blk_simp [iblk]
  rw [V_k]
  refine congrArg _ ?_
  unfold bOf
  blk_ext [index_k]

theorem iblk_a (t : Fin cfg0.N) (j : Fin 4096) (l : Fin 128) : (iblk m c 2 t : Vec Ideal S1x4096x128 .bf16) (ix3 0 j l)
    = hA (m ((c : Thread nD τ).loc main_arg3)) (ix3 (bOf t) j l) := by
  blk_simp [iblk]
  rw [V_a]
  refine congrArg _ ?_
  unfold bOf
  blk_ext [index_a]

theorem iblk_v (t : Fin cfg0.N) (r : Fin 640) (j : Fin 4096) : (iblk m c 3 t : Vec Ideal S640x4096 .bf16) (ix2 r j)
    = hV (m ((c : Thread nD τ).loc main_arg2)) (ix2 r ⟨(bOf t).val * 4096 + j.val, by have := (bOf t).isLt; omega⟩) := by
  blk_simp [iblk]
  rw [V_v]
  refine congrArg _ ?_
  unfold bOf
  blk_ext [index_v]

theorem iblk_c (t : Fin cfg0.N) (h : Fin 8) (q : Fin 256) : (iblk m c 4 t : Vec Ideal S1x8x256 .f32) (ix3 0 h q)
    = m ((c : Thread nD τ).loc main_arg3) (ix3 (bOf t) (posOf t q) h) := by
  blk_simp [iblk]
  rw [V_c, ← hT_apply (m ((c : Thread nD τ).loc main_arg3))]
  refine congrArg _ ?_
  unfold bOf posOf
  blk_ext [index_c]

end Cert.KernelIdeal.Fox

end
-- ==== Proof.Fox.Point.lean ====
/-
  The kernel's block operations entry by entry, over the extended reals.
-/
module

public import proofs.«01_k».proof.Proof.Fox.Blocks
public import Idealize.ShloMosaic.Lib.Pointwise
public import Idealize.ShloMosaic.Lib.WordCmp

@[expose] public section

set_option maxRecDepth 16384
set_option maxHeartbeats 400000

noncomputable section

namespace Cert.KernelIdeal.Fox

open Cert.KernelIdeal Cert.KernelIdeal.Gen
open Idealize.ShloMosaic Idealize.ShloMosaic.TcCoe Idealize.ShloMosaic.Tactic
open Idealize.ShloMosaic.Pointwise

theorem newM_apply (m : FVec Ideal S1x256 .f32) (s : FVec Ideal S512x256 .f32) (q : Fin 256) :
    newM m s (ix2 0 q) = max (m (ix2 0 q)) (Finset.univ.fold max ⊥ fun k : Fin 512 => s (ix2 k q)) := by
  pointwise [newM]
  rw [show Ideal.ofBits .f32 4286578688#32 = (⊥ : EReal) by simp [Ideal.ofBits, Ideal.ieee]]

theorem newA_apply (m : FVec Ideal S1x256 .f32) (a : FVec Ideal S80x256 .f32) (s : FVec Ideal S512x256 .f32) (v : Vec Ideal S80x512 .bf16)
    (r : Fin 80) (q : Fin 256) :
    newA m a s v (ix2 r q) = Ideal.exp2 (m (ix2 0 q) - newM m s (ix2 0 q)) * a (ix2 r q)
      + ∑ k : Fin 512, v (ix2 r k) * Ideal.exp2 (s (ix2 k q) - newM m s (ix2 0 q)) := by
  pointwise [newA]
  rfl

theorem mRow_apply (h : Fin 8) (x : FVec Ideal S8x256 .f32) (q : Fin 256) : mRow h x (ix2 0 q) = x (ix2 h q) := by
  fin_cases h <;> (pointwise [mRow])

theorem aRows_apply (h : Fin 8) (x : FVec Ideal S640x256 .f32) (r : Fin 80) (q : Fin 256) :
    aRows h x (ix2 r q) = x (ix2 ⟨80 * h.val + r.val, by omega⟩ q) := by
  fin_cases h <;> (pointwise [aRows])

theorem catM_apply (f : Fin 8 → FVec Ideal S1x256 .f32) (h : Fin 8) (q : Fin 256) : catM f (ix2 h q) = f h (ix2 0 q) := by
  fin_cases h <;> (pointwise [catM])

theorem scoreT_apply (kb ab : Vec Ideal S1x512x128 .bf16) (rh : FVec Ideal S256x256 .bf16) (k : Fin 512) (q : Fin 256) :
    scoreT kb ab rh (ix2 k q) = ∑ l : Fin 256, (if h : l.val < 128 then kb (ix3 0 k ⟨l.val, h⟩) else ab (ix3 0 k ⟨l.val - 128, by omega⟩)) * rh (ix2 l q) := by
  pointwise [scoreT]

theorem rowT_apply (l : Fin 128) (q : Fin 256) : rowT (ix2 l q) = BitVec.ofNat 32 l.val := by
  pointwise [rowT]

theorem modT_apply (l : Fin 128) (q : Fin 256) : modT (ix2 l q) = BitVec.ofNat 32 (l.val % 8) := by
  pointwise [modT, remT, rowT]
  revert l; decide +kernel

theorem rowsT_apply (r : FVec Ideal S1x256 .f32) (l : Fin 128) (q : Fin 256) : rowsT r (ix2 l q) = r (ix2 0 q) := by
  pointwise [rowsT]

theorem selT_apply (r : FVec Ideal S1x256 .f32) (h : Fin 8) (l : Fin 128) (q : Fin 256) :
    selT r h (ix2 l q) = if l.val = 24 then c0T r (ix2 0 q) else if l.val = 25 then c1T r (ix2 0 q) else if l.val = 26 then c2T r (ix2 0 q)
      else if l.val < 24 then (if l.val % 8 = h.val then 1 else 0) else 0 := by
  pointwise [selT]
  rw [modT_apply]
  simp only [rowT_apply, rowsT_apply]
  have e1 : ∀ l : Fin 128, IntOp.cmpi .eq (BitVec.ofNat 32 l.val) 24#32 = if l.val = 24 then 1#1 else 0#1 := by decide +kernel
  have e2 : ∀ l : Fin 128, IntOp.cmpi .eq (BitVec.ofNat 32 l.val) 25#32 = if l.val = 25 then 1#1 else 0#1 := by decide +kernel
  have e3 : ∀ l : Fin 128, IntOp.cmpi .eq (BitVec.ofNat 32 l.val) 26#32 = if l.val = 26 then 1#1 else 0#1 := by decide +kernel
  have e4 : ∀ l : Fin 128, IntOp.cmpi .slt (BitVec.ofNat 32 l.val) 24#32 = if l.val < 24 then 1#1 else 0#1 := by decide +kernel
  have e5 : ∀ (h : Fin 8) (l : Fin 128), IntOp.cmpi .eq (BitVec.ofNat 32 (l.val % 8)) (BitVec.ofNat 32 h.val) = if l.val % 8 = h.val then 1#1 else 0#1 := by decide +kernel
  rw [e1, e2, e3, e4, e5]
  split_ifs <;> rfl

theorem c0T_apply (r : FVec Ideal S1x256 .f32) (q : Fin 256) (x : ℝ) (hx : r (ix2 0 q) = (x : EReal)) : c0T r (ix2 0 q) = ((x * (Real.log 2)⁻¹ : ℝ) : EReal) := by
  pointwise [c0T]
  rw [hx, EReal.coe_mul]
  exact congrArg _ (IdealRules.named_const.ideal_named_scalar _ _ _ _ rfl)

theorem qpadT_apply (x2 : Vec Ideal S512x256 .bf16) (h : Fin 8) (l : Fin 128) (q : Fin 256) :
    qpadT x2 h (ix2 l q) = if l.val / 64 = h.val % 2 then x2 (ix2 ⟨64 * h.val + l.val % 64, by omega⟩ q) else 0 := by
  have e0 : l.val < 64 ∨ 64 ≤ l.val := by omega
  fin_cases h <;> pointwise [qpadT] <;> rcases e0 with e0 | e0
  all_goals first
    | rw [dif_pos e0, if_pos (show l.val / 64 = 0 by omega)]; congr 2; apply Fin.ext; dsimp only; omega
    | rw [dif_pos e0, if_neg (show ¬ l.val / 64 = 1 by omega)]
    | rw [dif_neg (show ¬ l.val < 64 by omega), if_neg (show ¬ l.val / 64 = 0 by omega)]
    | rw [dif_neg (show ¬ l.val < 64 by omega), if_pos (show l.val / 64 = 1 by omega)]; congr 2; apply Fin.ext; dsimp only; omega

theorem cumT_apply (x6 : Vec Ideal S1x8x256 .f32) (h : Fin 8) (q : Fin 256) : cumT x6 h (ix2 0 q) = x6 (ix3 0 h q) := by
  fin_cases h <;> pointwise [cumT, mRow]

theorem rhsT_apply (x2 : Vec Ideal S512x256 .bf16) (x6 : Vec Ideal S1x8x256 .f32) (h : Fin 8) (l : Fin 256) (q : Fin 256) :
    rhsT x2 x6 h (ix2 l q) = if hl : l.val < 128 then qpadT x2 h (ix2 ⟨l.val, hl⟩ q) else selT (cumT x6 h) h (ix2 ⟨l.val - 128, by omega⟩ q) := by
  pointwise [rhsT]

theorem catA_apply (f : Fin 8 → FVec Ideal S80x256 .f32) (h : Fin 8) (r : Fin 80) (q : Fin 256) :
    catA f (ix2 ⟨80 * h.val + r.val, by omega⟩ q) = f h (ix2 r q) := by
  fin_cases h <;> pointwise [catA]
  all_goals (split_ifs <;> first | omega | (congr 2; apply Fin.ext; dsimp only; omega))

theorem maskT_apply (i : grid0.Coords) (s : FVec Ideal S512x256 .f32) (k : Fin 512) (q : Fin 256) :
    maskT i s (ix2 k q) = if (i 1).val / 2 * 512 + k.val ≤ (i 1).val * 256 + q.val then s (ix2 k q) else ⊥ := by
  have hi : (i 1).val < 16 := (i 1).isLt
  have hb : ∀ a b : ℕ, IntOp.addi (BitVec.ofNat 32 a) (BitVec.ofNat 32 b) = BitVec.ofNat 32 (a + b) := fun a b => (BitVec.ofNat_add a b).symm
  have hm : ∀ a b : ℕ, Scalar.muli (BitVec.ofNat 32 a) (BitVec.ofNat 32 b) = BitVec.ofNat 32 (a * b) := fun a b => (BitVec.ofNat_mul a b).symm
  pointwise [maskT, keepT, posT]
  rw [nblk_eq, show (512#32) = BitVec.ofNat 32 512 from rfl, show (256#32) = BitVec.ofNat 32 256 from rfl, hm, hm, hb, hb,
    WordCmp.cmpi_sle_ofNat (by omega) (by omega)]
  by_cases hle : (i 1).val / 2 * 512 + k.val ≤ (i 1).val * 256 + q.val
  · rw [if_pos hle, decide_eq_true hle]; rfl
  · rw [if_neg hle, decide_eq_false hle]; exact IdealRules.named_const.ideal_named_scalar _ _ _ _ rfl

theorem finT_apply (a : FVec Ideal S640x256 .f32) (h : Fin 8) (d : Fin 64) (q : Fin 256) :
    finT a (ix3 0 q ⟨64 * h.val + d.val, by omega⟩) = Ideal.div (a (ix2 ⟨80 * h.val + d.val, by omega⟩ q)) (a (ix2 ⟨80 * h.val + 64, by omega⟩ q)) := by
  fin_cases h <;> pointwise [finT]
  all_goals (split_ifs <;> first | omega | rfl | (congr 3; apply Fin.ext; dsimp only; omega))

end Cert.KernelIdeal.Fox
-- ==== Proof.Fox.Soft.lean ====
/-
  Softmax by blocks over the extended reals: the running maximum and sums of one query's column, and their quotient
  against the softmax taken at once.
-/
module

public import Idealize.ShloMosaic.PureOps.Ideal
public import Mathlib.Analysis.SpecialFunctions.Pow.Real

@[expose] public section

noncomputable section

namespace Cert.KernelIdeal.Fox

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum over a block that allows some key is a real. -/
theorem max_real {n : ℕ} (ok : Fin n → Prop) [DecidablePred ok] (z : Fin n → ℝ) (s : Fin n → EReal) (m : EReal) (hm : m ≠ ⊤)
    (hs : ∀ k, s k = if ok k then (z k : EReal) else ⊥) (h0 : ∃ k, ok k) :
    ∃ t : ℝ, max m (Finset.univ.fold max ⊥ s) = t := by
  obtain ⟨k0, hk0⟩ := h0
  have hlt : max m (Finset.univ.fold max ⊥ s) < ⊤ := by
    refine max_lt (lt_top_iff_ne_top.2 hm) ((Finset.fold_max_lt _).2 ⟨bot_lt_top, fun k _ => ?_⟩)
    rw [hs]
    split_ifs
    · exact EReal.coe_lt_top _
    · exact bot_lt_top
  have hgt : ⊥ < max m (Finset.univ.fold max ⊥ s) := by
    refine lt_of_lt_of_le (EReal.bot_lt_coe (z k0)) (le_max_of_le_right ((Finset.le_fold_max _).2 (.inr ⟨k0, Finset.mem_univ _, ?_⟩)))
    rw [hs, if_pos hk0]
  exact ⟨(max m (Finset.univ.fold max ⊥ s)).toReal, (EReal.coe_toReal hlt.ne hgt.ne').symm⟩

/-- What the running maximum `m` and sums `a` are after the keys of `A`, whose logits are `l` and whose values are `v`. -/
def St {ι : Type} (l : ℕ → ℝ) (v : ι → ℕ → ℝ) (A : Finset ℕ) (m : EReal) (a : ι → EReal) : Prop :=
  (A = ∅ ∧ m = ⊥ ∧ ∀ r, a r = 0) ∨ ∃ M : ℝ, m = M ∧ ∀ r, a r = ((∑ k ∈ A, v r k * (2 : ℝ) ^ (l k - M) : ℝ) : EReal)

/-- A block's step keeps it. -/
theorem St.step {ι : Type} {l : ℕ → ℝ} {v : ι → ℕ → ℝ} {A A' : Finset ℕ} {m : EReal} {a : ι → EReal} (h : St l v A m a)
    (ok : Fin 512 → Prop) [DecidablePred ok] (key : Fin 512 → ℕ) (s : Fin 512 → EReal) (w : ι → Fin 512 → EReal)
    (hs : ∀ k, s k = if ok k then (l (key k) : EReal) else ⊥) (hw : ∀ r k, w r k = (v r (key k) : EReal))
    (hA : ∀ f : ℕ → ℝ, ∑ x ∈ A', f x = ∑ x ∈ A, f x + ∑ k, if ok k then f (key k) else 0) (h0 : ∃ k, ok k)
    (m' : EReal) (hm' : m' = max m (Finset.univ.fold max ⊥ s)) (a' : ι → EReal)
    (ha' : ∀ r, a' r = Ideal.exp2 (m - m') * a r + ∑ k, w r k * Ideal.exp2 (s k - m')) :
    St l v A' m' a' := by
  have hm : m ≠ ⊤ := by
    rcases h with ⟨_, h, _⟩ | ⟨M, h, _⟩ <;> rw [h]
    · exact bot_ne_top
    · exact EReal.coe_ne_top _
  obtain ⟨t, ht⟩ := max_real ok (fun k => l (key k)) s m hm hs h0
  rw [ht] at hm'
  subst hm'
  refine .inr ⟨t, rfl, fun r => ?_⟩
  rw [ha', hA]
  have e2 : ∑ k, w r k * Ideal.exp2 (s k - (t : EReal)) = ((∑ k, if ok k then v r (key k) * (2 : ℝ) ^ (l (key k) - t) else 0 : ℝ) : EReal) := by
    rw [coe_sum]
    refine Finset.sum_congr rfl fun k _ => ?_
    rw [hw, hs]
    split_ifs
    · rw [← EReal.coe_sub, Ideal.exp2_coe, ← EReal.coe_mul]; rfl
    · rw [EReal.bot_sub, Ideal.exp2_bot, mul_zero]; rfl
  have e1 : Ideal.exp2 (m - (t : EReal)) * a r = ((∑ k ∈ A, v r k * (2 : ℝ) ^ (l k - t) : ℝ) : EReal) := by
    rcases h with ⟨h1, _, h3⟩ | ⟨M, h1, h3⟩
    · rw [h3, mul_zero, h1, Finset.sum_empty]; rfl
    · rw [h3, h1, ← EReal.coe_sub, Ideal.exp2_coe, ← EReal.coe_mul]
      refine congrArg _ ?_
      rw [Finset.mul_sum]
      refine Finset.sum_congr rfl fun k _ => ?_
      show (2 : ℝ) ^ (M - t) * _ = _
      rw [show l k - t = (M - t) + (l k - M) by ring, Real.rpow_add two_pos]
      ring
  rw [e1, e2, ← EReal.coe_add]

/-- The quotient of a value's sum by the sum of the weights is the softmax's mean of the values. -/
theorem St.div {ι : Type} {l z : ℕ → ℝ} {v : ι → ℕ → ℝ} {A : Finset ℕ} {m : EReal} {a : ι → EReal} (h : St l v A m a)
    (hA : A.Nonempty) (d e : ι) (he : ∀ k, v e k = 1) (hl : ∀ k, l k = z k * (Real.log 2)⁻¹) :
    Ideal.div (a d) (a e) = (((∑ k ∈ A, v d k * Real.exp (z k)) / ∑ k ∈ A, Real.exp (z k) : ℝ) : EReal) := by
  rcases h with ⟨h1, _⟩ | ⟨M, _, h⟩
  · rw [h1] at hA; exact absurd hA Finset.not_nonempty_empty
  · have hp : ∀ k, (2 : ℝ) ^ (l k - M) = Real.exp (z k) * Real.exp (-(M * Real.log 2)) := fun k => by
      rw [Real.rpow_def_of_pos two_pos, ← Real.exp_add, hl]
      have : Real.log 2 ≠ 0 := (Real.log_pos one_lt_two).ne'
      congr 1
      field_simp
      ring
    have hpos : 0 < ∑ k ∈ A, Real.exp (z k) := Finset.sum_pos (fun k _ => Real.exp_pos _) hA
    have ee := (Real.exp_pos (-(M * Real.log 2))).ne'
    rw [h, h]
    simp only [he, hp, one_mul, ← mul_assoc, ← Finset.sum_mul]
    unfold Ideal.div
    rw [if_neg (by rw [EReal.coe_eq_zero]; exact mul_ne_zero hpos.ne' ee), ← EReal.coe_inv, ← EReal.coe_mul]
    refine congrArg _ ?_
    field_simp

/-- The softmax taken at once, of logits that some keys do not have. -/
theorem soft_eq {n : ℕ} (ok : Fin n → Prop) [DecidablePred ok] (z v : Fin n → ℝ) (s w : Fin n → EReal)
    (hs : ∀ k, s k = if ok k then (z k : EReal) else ⊥) (hw : ∀ k, w k = (v k : EReal)) (h0 : ∃ k, ok k)
    (m : EReal) (hm : m = max ⊥ (Finset.univ.fold max ⊥ s)) :
    ∑ k, w k * Ideal.div (Ideal.exp (s k - m)) (0 + ∑ j, Ideal.exp (s j - m))
      = (((∑ k, if ok k then v k * Real.exp (z k) else 0) / ∑ k, if ok k then Real.exp (z k) else 0 : ℝ) : EReal) := by
  obtain ⟨t, ht⟩ := max_real ok z s ⊥ bot_ne_top hs h0
  rw [ht] at hm
  subst hm
  have he : ∀ k, Ideal.exp (s k - (t : EReal)) = ((if ok k then Real.exp (z k) else 0 : ℝ) * Real.exp (-t) : ℝ) := fun k => by
    rw [hs]
    split_ifs
    · rw [← EReal.coe_sub, Ideal.exp_coe, ← Real.exp_add]; rfl
    · rw [EReal.bot_sub, Ideal.exp_bot, zero_mul]; rfl
  have hpos : 0 < ∑ k, if ok k then Real.exp (z k) else 0 := by
    obtain ⟨k0, hk0⟩ := h0
    refine Finset.sum_pos' (fun k _ => ?_) ⟨k0, Finset.mem_univ _, ?_⟩
    · split_ifs
      · exact (Real.exp_pos _).le
      · exact le_rfl
    · rw [if_pos hk0]; exact Real.exp_pos _
  have ee := (Real.exp_pos (-t)).ne'
  simp only [he, hw]
  rw [zero_add, ← coe_sum, ← Finset.sum_mul, Finset.sum_div, coe_sum]
  refine Finset.sum_congr rfl fun k _ => ?_
  unfold Ideal.div
  rw [if_neg (by rw [EReal.coe_eq_zero]; exact mul_ne_zero hpos.ne' ee), ← EReal.coe_inv, ← EReal.coe_mul, ← EReal.coe_mul]
  refine congrArg _ ?_
  split_ifs <;> field_simp
  simp

/-- The keys up to a position: those of the blocks before its own, and those of its block that are no later. -/
theorem sum_upto (N pos : ℕ) (h1 : 512 * N ≤ pos) (h2 : pos < 512 * N + 512) (h3 : 512 * N + 512 ≤ 4096) (f : ℕ → ℝ) :
    ∑ x ∈ (Finset.range 4096).filter (· ≤ pos), f x
      = ∑ x ∈ Finset.range (512 * N), f x + ∑ k : Fin 512, if 512 * N + k.val ≤ pos then f (512 * N + k.val) else 0 := by
  obtain ⟨R, hR⟩ := Nat.exists_eq_add_of_le h3
  rw [Finset.sum_filter, hR, Finset.sum_range_add, Finset.sum_range_add, Finset.sum_range (n := 512)]
  have e1 : ∑ x ∈ Finset.range (512 * N), (if x ≤ pos then f x else 0) = ∑ x ∈ Finset.range (512 * N), f x :=
    Finset.sum_congr rfl fun x hx => if_pos (by have := Finset.mem_range.1 hx; omega)
  have e2 : ∑ x ∈ Finset.range R, (if 512 * N + 512 + x ≤ pos then f (512 * N + 512 + x) else 0) = 0 :=
    Finset.sum_eq_zero fun x _ => if_neg (by omega)
  rw [e1, e2, add_zero]

/-- The keys of the blocks before `N + 1`. -/
theorem sum_block (N : ℕ) (f : ℕ → ℝ) :
    ∑ x ∈ Finset.range (512 * (N + 1)), f x
      = ∑ x ∈ Finset.range (512 * N), f x + ∑ k : Fin 512, if True then f (512 * N + k.val) else 0 := by
  rw [show 512 * (N + 1) = 512 * N + 512 by ring, Finset.sum_range_add, Finset.sum_range (n := 512)]
  simp

/-- A sum over the keys up to a position, by the keys' numbers. -/
theorem sum_keys (pos : ℕ) (f : ℕ → ℝ) :
    ∑ x ∈ (Finset.range 4096).filter (· ≤ pos), f x = ∑ k : Fin 4096, if k.val ≤ pos then f k.val else 0 := by
  rw [Finset.sum_filter, Finset.sum_range]

end Cert.KernelIdeal.Fox

end
-- ==== Proof.Fox.Column.lean ====
/-
  A tile of the attention over the reals: the kernel's logits, its running maxima and sums block by block, and the mean of
  the values under the softmax that it writes.
-/
module

public import proofs.«01_k».proof.Proof.Fox.Point
public import proofs.«01_k».proof.Proof.Fox.Soft

@[expose] public section

set_option maxRecDepth 16384
set_option maxHeartbeats 1000000

noncomputable section

namespace Cert.KernelIdeal.Fox

open Cert.KernelIdeal Cert.KernelIdeal.Gen
open Idealize.ShloMosaic Idealize.ShloMosaic.TcCoe Idealize.ShloMosaic.Tactic
open Idealize.ShloMosaic.Pointwise
open Idealize.SL Idealize.SL.Sem

/-- The reciprocal of `log 2`. -/
def rl : ℝ := (Real.log 2)⁻¹

theorem c1T_apply (r : FVec Ideal S1x256 .f32) (q : Fin 256) (x : ℝ) (hx : r (ix2 0 q) = (x : EReal)) : c1T r (ix2 0 q) = ((0 : ℝ) : EReal) := by
  have h0 := c0T_apply r q x hx
  have e : c1T r (ix2 0 q) = c0T r (ix2 0 q) - c0T r (ix2 0 q) := by pointwise [c1T]
  rw [e, h0, ← EReal.coe_sub, sub_self]

theorem c2T_apply (r : FVec Ideal S1x256 .f32) (q : Fin 256) (x : ℝ) (hx : r (ix2 0 q) = (x : EReal)) : c2T r (ix2 0 q) = ((0 : ℝ) : EReal) := by
  have h0 := c1T_apply r q x hx
  have e : c2T r (ix2 0 q) = c1T r (ix2 0 q) - c1T r (ix2 0 q) := by pointwise [c2T]
  rw [e, h0, ← EReal.coe_sub, sub_self]

/-- A sum over two halves. -/
theorem sum_halves (n : ℕ) (f : Fin (n + n) → EReal) :
    ∑ l, f l = ∑ d : Fin n, f ⟨d.val, by omega⟩ + ∑ d : Fin n, f ⟨n + d.val, by omega⟩ := by
  rw [Fin.sum_univ_add]; rfl

/-- The tile's operands are real: queries, keys, values, the keys' sums and the queries' sums. -/
structure Tile (x2 : Vec Ideal S512x256 .bf16) (x3 : Vec Ideal S1x4096x512 .bf16) (x4 : Vec Ideal S1x4096x128 .bf16)
    (x5 : Vec Ideal S640x4096 .bf16) (x6 : Vec Ideal S1x8x256 .f32) (Q : Fin 256 → Fin 8 → Fin 64 → ℝ) (K V : Fin 4096 → Fin 8 → Fin 64 → ℝ)
    (C : Fin 4096 → Fin 8 → ℝ) (D : Fin 256 → Fin 8 → ℝ) : Prop where
  e2 : ∀ q h d, x2 (ix2 ⟨64 * h.val + d.val, by omega⟩ q) = ((Q q h d * (1 / 8) * rl : ℝ) : EReal)
  e3 : ∀ j h d, x3 (ix3 0 j ⟨64 * h.val + d.val, by omega⟩) = (K j h d : EReal)
  e4 : ∀ j (l : Fin 128), x4 (ix3 0 j l) = ((if h : l.val < 8 then -C j ⟨l, h⟩ * rl else if l.val < 24 then 0 else if l.val < 27 then 1 else 0 : ℝ) : EReal)
  e5 : ∀ j (h : Fin 8) (r : Fin 80), x5 (ix2 ⟨80 * h.val + r.val, by omega⟩ j) = ((if hr : r.val < 64 then V j h ⟨r, hr⟩ else 1 : ℝ) : EReal)
  e6 : ∀ q h, x6 (ix3 0 h q) = (D q h : EReal)

variable {x2 : Vec Ideal S512x256 .bf16} {x3 : Vec Ideal S1x4096x512 .bf16} {x4 : Vec Ideal S1x4096x128 .bf16}
    {x5 : Vec Ideal S640x4096 .bf16} {x6 : Vec Ideal S1x8x256 .f32} {Q : Fin 256 → Fin 8 → Fin 64 → ℝ} {K V : Fin 4096 → Fin 8 → Fin 64 → ℝ}
    {C : Fin 4096 → Fin 8 → ℝ} {D : Fin 256 → Fin 8 → ℝ} (T : Tile x2 x3 x4 x5 x6 Q K V C D)

/-- The logit of key `j` for query `q` of head `h`. -/
def zOf (Q : Fin 256 → Fin 8 → Fin 64 → ℝ) (K : Fin 4096 → Fin 8 → Fin 64 → ℝ) (C : Fin 4096 → Fin 8 → ℝ) (D : Fin 256 → Fin 8 → ℝ)
    (q : Fin 256) (h : Fin 8) (j : ℕ) : ℝ :=
  (∑ d, Q q h d * K (Fin.ofNat 4096 j) h d) * (1 / 8) + (D q h - C (Fin.ofNat 4096 j) h)

include T

/-- The part of a logit that one of the pair's heads contributes. -/
theorem half_sum (b : ℕ) (h : Fin 8) (k : Fin 512) (q : Fin 256) (p : ℕ) (hp : p < 2) :
    ∑ d : Fin 64, kS x3 b (h.val / 2) (ix3 0 k ⟨64 * p + d.val, by omega⟩) * qpadT x2 h (ix2 ⟨64 * p + d.val, by omega⟩ q)
      = ((if p = h.val % 2 then (∑ d, Q q h d * K (Fin.ofNat 4096 (512 * b + k.val)) h d) * (1 / 8) * rl else 0 : ℝ) : EReal) := by
  by_cases hph : p = h.val % 2
  · rw [if_pos hph, Finset.sum_mul, Finset.sum_mul, coe_sum]
    refine Finset.sum_congr rfl fun d _ => ?_
    rw [qpadT_apply, if_pos (show (64 * p + d.val) / 64 = h.val % 2 by omega)]
    have i1 : (ix2 (⟨64 * h.val + (64 * p + d.val) % 64, by omega⟩ : Fin 512) q) = ix2 (⟨64 * h.val + d.val, by omega⟩ : Fin 512) q := by
      congr 1; apply Fin.ext; dsimp only; omega
    have i2 : kS x3 b (h.val / 2) (ix3 0 k ⟨64 * p + d.val, by omega⟩) = x3 (ix3 0 (Fin.ofNat 4096 (512 * b + k.val)) ⟨64 * h.val + d.val, by omega⟩) := by
      unfold kS
      refine congrArg x3 ?_
      have : Fin.ofNat 512 (128 * (h.val / 2) + (64 * p + d.val)) = (⟨64 * h.val + d.val, by omega⟩ : Fin 512) := by
        apply Fin.ext; show (128 * (h.val / 2) + (64 * p + d.val)) % 512 = 64 * h.val + d.val; omega
      exact congrArg _ this
    dsimp only
    rw [i1, i2, T.e2, T.e3, ← EReal.coe_mul]
    congr 1; ring
  · rw [if_neg hph]
    refine (Finset.sum_eq_zero fun d _ => ?_).trans EReal.coe_zero.symm
    rw [qpadT_apply, if_neg (show ¬ (64 * p + d.val) / 64 = h.val % 2 by omega), mul_zero]

/-- The part of a logit that the sums contribute. -/
theorem aux_sum (b : ℕ) (h : Fin 8) (k : Fin 512) (q : Fin 256) :
    ∑ l : Fin 128, aS x4 b (ix3 0 k l) * selT (cumT x6 h) h (ix2 l q)
      = (((D q h - C (Fin.ofNat 4096 (512 * b + k.val)) h) * rl : ℝ) : EReal) := by
  have hc : cumT x6 h (ix2 0 q) = (D q h : EReal) := by rw [cumT_apply, T.e6]
  have ht : ∀ l : Fin 128, aS x4 b (ix3 0 k l) * selT (cumT x6 h) h (ix2 l q)
      = (((if l = ⟨h.val, by omega⟩ then -C (Fin.ofNat 4096 (512 * b + k.val)) h * rl else 0) + (if l = 24 then D q h * rl else 0) : ℝ) : EReal) := by
    intro l
    have i : aS x4 b (ix3 0 k l) = x4 (ix3 0 (Fin.ofNat 4096 (512 * b + k.val)) l) := by
      unfold aS
      refine congrArg x4 ?_
      have : Fin.ofNat 128 l.val = l := by
        apply Fin.ext; show l.val % 128 = l.val; omega
      exact congrArg _ this
    have s : selT (cumT x6 h) h (ix2 l q) = ((if l.val = 24 then D q h * rl else if l.val = 25 then 0 else if l.val = 26 then 0 else if l.val < 24 then (if l.val % 8 = h.val then 1 else 0) else 0 : ℝ) : EReal) := by
      rw [selT_apply, c0T_apply _ q _ hc, c1T_apply _ q _ hc, c2T_apply _ q _ hc]
      split_ifs <;> first | rfl | exact EReal.coe_zero.symm | exact EReal.coe_one.symm
    rw [i, s, T.e4, ← EReal.coe_mul]
    congr 1
    have e1 : (l = ⟨h.val, by omega⟩) ↔ l.val = h.val := Fin.ext_iff
    have e2 : l = 24 ↔ l.val = 24 := Fin.ext_iff
    simp only [e1, e2]
    by_cases hl : l.val = h.val
    · have : (⟨l.val, by omega⟩ : Fin 8) = h := Fin.ext hl
      rw [dif_pos (show l.val < 8 by omega), this, if_neg (by omega), if_neg (by omega), if_neg (by omega), if_pos (by omega), if_pos (by omega),
        if_pos hl, if_neg (by omega)]
      ring
    · rw [if_neg hl]
      split_ifs <;> first | omega | ring
  rw [Finset.sum_congr rfl fun l _ => ht l, ← coe_sum, Finset.sum_add_distrib, Finset.sum_ite_eq' , Finset.sum_ite_eq', if_pos (Finset.mem_univ _), if_pos (Finset.mem_univ _)]
  congr 1; ring

/-- A logit as the kernel computes it: the plain one over `log 2`. -/
theorem lgB_val (b : ℕ) (h : Fin 8) (k : Fin 512) (q : Fin 256) :
    lgB (rhsT x2 x6) x3 x4 b h (ix2 k q) = ((zOf Q K C D q h (512 * b + k.val) * rl : ℝ) : EReal) := by
  unfold lgB
  rw [scoreT_apply, sum_halves 128]
  have ha : ∑ d : Fin 128, (if hl : d.val < 128 then kS x3 b (h.val / 2) (ix3 0 k ⟨d.val, hl⟩) else aS x4 b (ix3 0 k ⟨d.val - 128, by omega⟩)) * rhsT x2 x6 h (ix2 ⟨d.val, by omega⟩ q)
      = ∑ d : Fin (64 + 64), kS x3 b (h.val / 2) (ix3 0 k d) * qpadT x2 h (ix2 d q) :=
    Finset.sum_congr rfl fun d _ => by rw [rhsT_apply, dif_pos d.isLt, dif_pos d.isLt]
  have hb : ∑ d : Fin 128, (if hl : 128 + d.val < 128 then kS x3 b (h.val / 2) (ix3 0 k ⟨128 + d.val, hl⟩) else aS x4 b (ix3 0 k ⟨128 + d.val - 128, by omega⟩)) * rhsT x2 x6 h (ix2 ⟨128 + d.val, by omega⟩ q)
      = ∑ l : Fin 128, aS x4 b (ix3 0 k l) * selT (cumT x6 h) h (ix2 l q) :=
    Finset.sum_congr rfl fun d _ => by
      have e : (⟨128 + d.val - 128, by omega⟩ : Fin 128) = d := Fin.ext (by dsimp only; omega)
      rw [rhsT_apply, dif_neg (by omega), dif_neg (show ¬ 128 + d.val < 128 by omega)]
      dsimp only
      rw [e]
  refine (congrArg₂ (· + ·) ha hb).trans ?_
  rw [aux_sum T, sum_halves 64]
  have h0 := half_sum T b h k q 0 (by omega)
  have h1 := half_sum T b h k q 1 (by omega)
  simp only [Nat.mul_zero, Nat.zero_add, Nat.mul_one] at h0 h1
  rw [h0, h1]
  rw [← EReal.coe_add, ← EReal.coe_add]
  congr 1
  unfold zOf
  have : h.val % 2 = 0 ∨ h.val % 2 = 1 := by omega
  rcases this with e | e <;> rw [e] <;> simp <;> ring

/-- Row `r` of a head's values: a coordinate of the values, or ones. -/
def vOf (V : Fin 4096 → Fin 8 → Fin 64 → ℝ) (h : Fin 8) (r : Fin 80) (j : ℕ) : ℝ :=
  if hr : r.val < 64 then V (Fin.ofNat 4096 j) h ⟨r, hr⟩ else 1

theorem vB_val (b : ℕ) (h : Fin 8) (r : Fin 80) (k : Fin 512) :
    vB x5 b h (ix2 r k) = (vOf V h r (512 * b + k.val) : EReal) := by
  have e : vB x5 b h (ix2 r k) = x5 (ix2 ⟨80 * h.val + r.val, by omega⟩ (Fin.ofNat 4096 (512 * b + k.val))) := by
    unfold vB
    have : Fin.ofNat 640 (80 * h.val + r.val) = (⟨80 * h.val + r.val, by omega⟩ : Fin 640) := by
      apply Fin.ext; show (80 * h.val + r.val) % 640 = 80 * h.val + r.val; omega
    exact congrArg (fun z => x5 (ix2 z (Fin.ofNat 4096 (512 * b + k.val)))) this
  rw [e, T.e5]
  rfl

/-- One block's step keeps the state. -/
theorem step_St (acc : FVec Ideal S8x256 .f32 × FVec Ideal S640x256 .f32) (b : ℕ) (h : Fin 8) (q : Fin 256) {A A' : Finset ℕ}
    (hS : St (fun j => zOf Q K C D q h j * rl) (vOf V h) A (acc.1 (ix2 h q)) (fun r => acc.2 (ix2 ⟨80 * h.val + r.val, by omega⟩ q)))
    (ok : Fin 512 → Prop) [DecidablePred ok] (s : Fin 8 → FVec Ideal S512x256 .f32)
    (hs : ∀ k, s h (ix2 k q) = if ok k then ((zOf Q K C D q h (512 * b + k.val) * rl : ℝ) : EReal) else ⊥)
    (hA : ∀ f : ℕ → ℝ, ∑ x ∈ A', f x = ∑ x ∈ A, f x + ∑ k, if ok k then f (512 * b + k.val) else 0) (h0 : ∃ k, ok k) :
    St (fun j => zOf Q K C D q h j * rl) (vOf V h) A' ((stepT acc s (vB x5 b)).1 (ix2 h q))
      (fun r => (stepT acc s (vB x5 b)).2 (ix2 ⟨80 * h.val + r.val, by omega⟩ q)) := by
  have hm : (stepT acc s (vB x5 b)).1 (ix2 h q) = max (acc.1 (ix2 h q)) (Finset.univ.fold max ⊥ fun k : Fin 512 => s h (ix2 k q)) := by
    unfold stepT
    dsimp only
    rw [catM_apply, newM_apply, mRow_apply]
  refine hS.step ok (fun k => 512 * b + k.val) (fun k => s h (ix2 k q)) (fun r k => vB x5 b h (ix2 r k)) hs (fun r k => vB_val T b h r k) hA h0 _ hm _ fun r => ?_
  have e : newM (mRow h acc.1) (s h) (ix2 0 q) = (stepT acc s (vB x5 b)).1 (ix2 h q) := by
    unfold stepT
    dsimp only
    rw [catM_apply]
  rw [← e]
  unfold stepT
  dsimp only
  rw [catA_apply, newA_apply, mRow_apply, aRows_apply]

/-- The maxima and sums after the blocks before `b` are those over the keys before `512 b`. -/
theorem acc_St (h : Fin 8) (q : Fin 256) (b : ℕ) :
    St (fun j => zOf Q K C D q h j * rl) (vOf V h) (Finset.range (512 * b)) ((accB (rhsT x2 x6) x3 x4 x5 b).1 (ix2 h q))
      (fun r => (accB (rhsT x2 x6) x3 x4 x5 b).2 (ix2 ⟨80 * h.val + r.val, by omega⟩ q)) := by
  induction b with
  | zero =>
    refine Or.inl ⟨rfl, ?_, fun r => ?_⟩
    · exact IdealRules.named_const.ideal_named_scalar _ _ _ _ rfl
    · show Ideal.ofBits .f32 0x00000000#32 = 0
      simp [Ideal.ofBits, Ideal.ieee]
  | succ b ih =>
    exact step_St T _ b h q ih (fun _ => True) _ (fun k => by rw [if_pos trivial]; exact lgB_val T b h k q)
      (fun f => sum_block b f) ⟨0, trivial⟩

/-- What the kernel writes: the mean of the values under the softmax of the logits up to the query's position. -/
theorem outB_val (i : grid0.Coords) (h : Fin 8) (d : Fin 64) (q : Fin 256) :
    outB i (rhsT x2 x6) x3 x4 x5 (ix3 0 q ⟨64 * h.val + d.val, by omega⟩)
      = (((∑ k : Fin 4096, if k.val ≤ (i 1).val * 256 + q.val then V k h d * Real.exp (zOf Q K C D q h k.val) else 0)
          / ∑ k : Fin 4096, if k.val ≤ (i 1).val * 256 + q.val then Real.exp (zOf Q K C D q h k.val) else 0 : ℝ) : EReal) := by
  have hi : (i 1).val < 16 := (i 1).isLt
  have hq := q.isLt
  unfold outB
  rw [finT_apply]
  have hS := step_St T (accB (rhsT x2 x6) x3 x4 x5 ((i 1).val / 2)) ((i 1).val / 2) h q (acc_St T h q ((i 1).val / 2))
    (A' := (Finset.range 4096).filter (· ≤ (i 1).val * 256 + q.val)) (fun k => 512 * ((i 1).val / 2) + k.val ≤ (i 1).val * 256 + q.val)
    (fun h => maskT i (lgB (rhsT x2 x6) x3 x4 ((i 1).val / 2) h))
    (fun k => by
      dsimp only
      rw [maskT_apply, lgB_val T, show (i 1).val / 2 * 512 = 512 * ((i 1).val / 2) by omega])
    (fun f => sum_upto _ _ (by omega) (by omega) (by omega) f) ⟨0, by show 512 * ((i 1).val / 2) + 0 ≤ _; omega⟩
  have hd := hS.div (z := fun j => zOf Q K C D q h j) ⟨0, by simp⟩ ⟨d.val, by omega⟩ ⟨64, by omega⟩ (fun k => by unfold vOf; exact dif_neg (by simp)) (fun k => rfl)
  refine hd.trans ?_
  rw [sum_keys, sum_keys]
  congr 2
  refine Finset.sum_congr rfl fun k _ => ?_
  have e : vOf V h ⟨d.val, by omega⟩ k.val = V k h d := by
    unfold vOf
    have e' : Fin.ofNat 4096 k.val = k := Fin.ext (Nat.mod_eq_of_lt k.isLt)
    rw [dif_pos d.isLt, e']
  rw [e]

end Cert.KernelIdeal.Fox

end
-- ==== Proof.Fox.Ref.lean ====
/-
  The reference read at an element: the masked logits, their maximum, and the mean of the values under the softmax.
-/
module

public import proofs.«01_k».proof.Proof.Gen.ReferenceIdeal.Read
public import proofs.«01_k».proof.Proof.Fox.Soft
public import Idealize.ShloMosaic.Lib.Pointwise
public import Idealize.ShloMosaic.Lib.WordCmp

@[expose] public section

set_option maxRecDepth 16384
set_option maxHeartbeats 400000

noncomputable section

namespace Cert.KernelIdeal.Fox

open Cert.ReferenceIdeal Cert.ReferenceIdeal.Read Cert.ReferenceIdeal.Gen
open Idealize.ShloMosaic Idealize.ShloMosaic.TcCoe Idealize.ShloMosaic.Tactic
open Idealize.ShloMosaic.Pointwise

variable (x0 x1 x2 : (⟨S4x4096x8x64, .f32⟩ : BufTy).Contents (Elt Ideal)) (x3 : (⟨S4x4096x8, .f32⟩ : BufTy).Contents (Elt Ideal))

/-- The reference's logits: of the keys no later than the query. -/
theorem ref_logit (b : Fin 4) (h : Fin 8) (i j : Fin 4096) :
    val_main_v17 (F := Ideal) x0 x1 x3 (ix4 b h i j) = if j.val ≤ i.val then
      (∑ d : Fin 64, x0 (ix4 b i h d) * x1 (ix4 b j h d)) * Ideal.ofBits .f32 0x3E000000#32 + (x3 (ix3 b i h) - x3 (ix3 b j h)) else ⊥ := by
  pointwise [val_main_v17, val_main_v16, val_main_v3, val_main_v1, val_main_v2, val_main_cst, val_main_v10, val_main_v8, val_main_v9, val_main_v7, val_main_v5, val_main_v6, val_main_v4, val_main_call0_v1, val_main_call0_v2, val_main_v15, val_main_v14, val_main_v13, val_main_v12, val_main_v11, val_main_v0]
  have hj := j.isLt
  have hi := i.isLt
  rw [WordCmp.cmpi_sle_ofNat (by omega) (by omega)]
  by_cases hle : j.val ≤ i.val
  · rw [if_pos hle, decide_eq_true hle]; rfl
  · rw [if_neg hle, decide_eq_false hle]
    show Ideal.ofBits .f32 4286578688#32 = ⊥
    simp [Ideal.ofBits, Ideal.ieee]

/-- The host's maximum over the last axis of an array of rank 4. -/
theorem host_max_last {A B C N : ℕ} (y : FVec Ideal (⟨4, ![A, B, C, N]⟩ : Shape) .f32) (c : FVec Ideal S_ .f32)
    (h' : (⟨4, ![A, B, C, N]⟩ : Shape).ReducesTo [3] ⟨3, ![A, B, C]⟩) (hu : 0 < S_.numel) (p : Fin A) (q : Fin B) (r : Fin C) :
    Host.reduce FloatOps.maximumf y c h' hu (ix3 p q r)
      = Finset.univ.fold max (c (Shape.Idx.first hu)) fun k : Fin N => y (ix4 p q r k) := by
  simp only [pointwise]

/-- The largest logit of a query. -/
theorem ref_max (b : Fin 4) (h : Fin 8) (i : Fin 4096) :
    val_main_v20 (F := Ideal) x0 x1 x3 (ix3 b h i) = max ⊥ (Finset.univ.fold max ⊥ fun j : Fin 4096 => val_main_v17 (F := Ideal) x0 x1 x3 (ix4 b h i j)) := by
  have e : Ideal.ofBits .f32 4286578688#32 = ⊥ := by simp [Ideal.ofBits, Ideal.ieee]
  rw [val_main_v20_apply, val_main_v19_apply]
  unfold val_main_v18 val_main_cst_2 val_main_cst_1
  generalize val_main_v17 (F := Ideal) x0 x1 x3 = y
  have hr := host_max_last y (constant (F := Ideal) S_ .f32 0xFF800000#32) reducesTo_S4x8x4096x4096_S4x8x4096_d3 h_S_ b h i
  rw [hr]
  show max (Ideal.ofBits .f32 4286578688#32) (Finset.univ.fold max (Ideal.ofBits .f32 4286578688#32) _) = _
  rw [e]

/-- The values weighed by the softmax of the logits. -/
theorem ref_out (b : Fin 4) (h : Fin 8) (i : Fin 4096) (d : Fin 64) :
    val_main_v29 (F := Ideal) x0 x1 x2 x3 (ix4 b h d i) =
     ∑ j : Fin 4096, x2 (ix4 b j h d) * Ideal.div (Ideal.exp (val_main_v17 (F := Ideal) x0 x1 x3 (ix4 b h i j) - val_main_v20 (F := Ideal) x0 x1 x3 (ix3 b h i)))
        (0 + ∑ j : Fin 4096, Ideal.exp (val_main_v17 (F := Ideal) x0 x1 x3 (ix4 b h i j) - val_main_v20 (F := Ideal) x0 x1 x3 (ix3 b h i))) := by
  pointwise [val_main_v29, val_main_v28, val_main_v27, val_main_v26, val_main_v25, val_main_v24, val_main_v23, val_main_v22, val_main_v21, val_main_cst_3]

/-- The result is that array, its heads side by side. -/
theorem ref_arr (b : Fin 4) (h : Fin 8) (i : Fin 4096) (d : Fin 64) :
    val_main_v32 (F := Ideal) x0 x1 x2 x3 (ix3 b i ⟨64 * h.val + d.val, by omega⟩) = val_main_v29 (F := Ideal) x0 x1 x2 x3 (ix4 b h d i) := by
  rw [val_main_v32_apply, val_main_v31_apply, val_main_v30_apply]
  show val_main_v29 (F := Ideal) x0 x1 x2 x3 _ = _
  refine congrArg _ (funext fun a => Fin.ext ?_)
  have hb := b.isLt
  have hi := i.isLt
  have hh := h.isLt
  have hd := d.isLt
  match a with
  | ⟨0, _⟩ => show ((b.val * 4096 + i.val) * 512 + (64 * h.val + d.val)) / 2097152 = b.val; omega
  | ⟨1, _⟩ => show ((b.val * 4096 + i.val) * 512 + (64 * h.val + d.val)) / 64 % 8 = h.val; omega
  | ⟨2, _⟩ => show ((b.val * 4096 + i.val) * 512 + (64 * h.val + d.val)) % 64 = d.val; omega
  | ⟨3, _⟩ => show ((b.val * 4096 + i.val) * 512 + (64 * h.val + d.val)) / 512 % 4096 = i.val; omega

end Cert.KernelIdeal.Fox

end
-- ==== Proof.Fox.Value.lean ====
/-
  The attention kernel equals the plain attention over the extended reals: both are the mean of the values, up to the
  query's position, under the softmax of the logits.
-/
module

public import proofs.«01_k».proof.Proof.Fox.RunValue
public import proofs.«01_k».proof.Proof.Fox.Windows
public import proofs.«01_k».proof.Proof.Fox.Column
public import proofs.«01_k».proof.Proof.Fox.Ref
public import proofs.«01_k».proof.Proof.Fox.Pre

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic Idealize.ShloMosaic.Pointwise
open Idealize.SL Idealize.SL.Sem
open Cert.ReferenceIdeal.Read (val_main_v17 val_main_v20 val_main_v29 val_main_v32)

/-- The arguments as arrays of reals. -/
structure Reals (x0 x1 x2 : FVec Ideal S4x4096x8x64 .f32) (x3 : FVec Ideal S4x4096x8 .f32)
    (Q K V : Fin 4 → Fin 4096 → Fin 8 → Fin 64 → ℝ) (C : Fin 4 → Fin 4096 → Fin 8 → ℝ) : Prop where
  e0 : ∀ b i h d, x0 (ix4 b i h d) = (Q b i h d : EReal)
  e1 : ∀ b i h d, x1 (ix4 b i h d) = (K b i h d : EReal)
  e2 : ∀ b i h d, x2 (ix4 b i h d) = (V b i h d : EReal)
  e3 : ∀ b i h, x3 (ix3 b i h) = (C b i h : EReal)

/-- The logit of key `j` for the query at position `i`. -/
def zR (Q K : Fin 4 → Fin 4096 → Fin 8 → Fin 64 → ℝ) (C : Fin 4 → Fin 4096 → Fin 8 → ℝ) (b : Fin 4) (i : Fin 4096) (h : Fin 8) (j : Fin 4096) : ℝ :=
  (∑ d, Q b i h d * K b j h d) * (1 / 8) + (C b i h - C b j h)

/-- The attention over the reals: the mean of the values up to the query's position under the softmax of the logits. -/
def meanR (Q K V : Fin 4 → Fin 4096 → Fin 8 → Fin 64 → ℝ) (C : Fin 4 → Fin 4096 → Fin 8 → ℝ) (b : Fin 4) (i : Fin 4096) (h : Fin 8) (d : Fin 64) : ℝ :=
  (∑ j : Fin 4096, if j.val ≤ i.val then V b j h d * Real.exp (zR Q K C b i h j) else 0)
    / ∑ j : Fin 4096, if j.val ≤ i.val then Real.exp (zR Q K C b i h j) else 0

section Reference

variable {x0 x1 x2 : FVec Ideal S4x4096x8x64 .f32} {x3 : FVec Ideal S4x4096x8 .f32}
    {Q K V : Fin 4 → Fin 4096 → Fin 8 → Fin 64 → ℝ} {C : Fin 4 → Fin 4096 → Fin 8 → ℝ} (R : Reals x0 x1 x2 x3 Q K V C)
include R

theorem ref_val (b : Fin 4) (i : Fin 4096) (h : Fin 8) (d : Fin 64) :
    val_main_v32 (F := Ideal) x0 x1 x2 x3 (ix3 b i ⟨64 * h.val + d.val, by omega⟩) = (meanR Q K V C b i h d : EReal) := by
  rw [ref_arr, ref_out]
  have hs : ∀ j : Fin 4096, val_main_v17 (F := Ideal) x0 x1 x3 (ix4 b h i j) = if j.val ≤ i.val then (zR Q K C b i h j : EReal) else ⊥ := by
    intro j
    rw [ref_logit, eighth_val]
    have : (∑ d, x0 (ix4 b i h d) * x1 (ix4 b j h d)) = ((∑ d, Q b i h d * K b j h d : ℝ) : EReal) := by
      rw [coe_sum]
      exact Finset.sum_congr rfl fun d _ => by rw [R.e0, R.e1, EReal.coe_mul]
    rw [this, R.e3, R.e3, ← EReal.coe_mul, ← EReal.coe_sub, ← EReal.coe_add]
    rfl
  exact soft_eq (fun j : Fin 4096 => j.val ≤ i.val) (fun j => zR Q K C b i h j) (fun j => V b j h d) _ _ hs (fun j => R.e2 b j h d) ⟨i, le_refl _⟩ _
    (ref_max x0 x1 x3 b h i)

end Reference

variable (m : (ℓ : Loc nD τ sig) → Buf (Elt Ideal) ℓ) (ρ : Dev nD → PrngReg) (c : Dev nD)

/-- The kernel's result as the reference computes it. -/
def refBuf : Buf (Elt Ideal) ((c : Thread nD τ).loc main_v34) :=
  val_main_v32 (F := Ideal) (m ((c : Thread nD τ).loc main_arg0)) (m ((c : Thread nD τ).loc main_arg1)) (m ((c : Thread nD τ).loc main_arg2)) (m ((c : Thread nD τ).loc main_arg3))

section Value

variable {Q K V : Fin 4 → Fin 4096 → Fin 8 → Fin 64 → ℝ} {C : Fin 4 → Fin 4096 → Fin 8 → ℝ}
    (R : Reals (m ((c : Thread nD τ).loc main_arg0)) (m ((c : Thread nD τ).loc main_arg1)) (m ((c : Thread nD τ).loc main_arg2)) (m ((c : Thread nD τ).loc main_arg3)) Q K V C)
include R

/-- The blocks of a grid point are real. -/
theorem tile_real (t : Fin cfg0.N) : Tile (iblk m c 0 t) (iblk m c 1 t) (iblk m c 2 t) (iblk m c 3 t) (iblk m c 4 t)
    (fun q h d => Q (bOf t) (posOf t q) h d) (fun j h d => K (bOf t) j h d) (fun j h d => V (bOf t) j h d) (fun j h => C (bOf t) j h)
    (fun q h => C (bOf t) (posOf t q) h) where
  e2 q h d := by rw [iblk_q]; exact hQ_apply _ _ _ _ _ _ (R.e0 _ _ _ _)
  e3 j h d := by rw [iblk_k, hK_apply]; exact R.e1 _ _ _ _
  e4 j l := by rw [iblk_a]; exact hA_apply _ _ R.e3 _ _ _
  e5 j h r := by
    rw [iblk_v, hV_apply]
    split_ifs with hr
    · exact R.e2 _ _ _ _
    · rfl
  e6 q h := by rw [iblk_c]; exact R.e3 _ _ _

theorem outO_val (t : Fin cfg0.N) (q : Fin 256) (h : Fin 8) (d : Fin 64) :
    outO m c t (ix3 0 q ⟨64 * h.val + d.val, by omega⟩) = (meanR Q K V C (bOf t) (posOf t q) h d : EReal) := by
  have hz : ∀ j : Fin 4096, zOf (fun q h d => Q (bOf t) (posOf t q) h d) (fun j h d => K (bOf t) j h d) (fun j h => C (bOf t) j h)
      (fun q h => C (bOf t) (posOf t q) h) q h j.val = zR Q K C (bOf t) (posOf t q) h j := by
    intro j
    have e' : Fin.ofNat 4096 j.val = j := Fin.ext (Nat.mod_eq_of_lt j.isLt)
    unfold zOf zR
    rw [e']
  unfold outO
  refine (outB_val (tile_real m c R t) (grid0.coords t) h d q).trans ?_
  simp only [hz]
  rfl

/-- The result's array after the run. -/
theorem final : (datsO m 0 c).arrAt 5 cfg0.N = refBuf m c := by
  refine (datsO m 0 c).arrAt_eq_of_covers 5 _ (by decide +kernel) fun t hf y => ?_
  blk_simp
  rw [after_5]
  have y1 : (y 1).val < 256 := (y 1).isLt
  have y2 : (y 2).val < 512 := (y 2).isLt
  have y0 : (y 0).val < 1 := (y 0).isLt
  have hy : (y : S1x256x512.Idx) = ix3 0 ⟨(y 1).val, y1⟩ ⟨64 * ((y 2).val / 64) + (y 2).val % 64, by omega⟩ := by
    funext a
    apply Fin.ext
    match a with
    | ⟨0, _⟩ => show (y 0).val = 0; omega
    | ⟨1, _⟩ => rfl
    | ⟨2, _⟩ => show (y 2).val = 64 * ((y 2).val / 64) + (y 2).val % 64; omega
  have he : (win0_5.blk t).view.emb y = ix3 (bOf t) (posOf t ⟨(y 1).val, y1⟩) ⟨64 * ((y 2).val / 64) + (y 2).val % 64, by omega⟩ := by
    unfold bOf posOf
    blk_ext [index_o]
  have hl := outO_val m c R t ⟨(y 1).val, y1⟩ ⟨(y 2).val / 64, by omega⟩ ⟨(y 2).val % 64, Nat.mod_lt _ (by omega)⟩
  have hr := ref_val R (bOf t) (posOf t ⟨(y 1).val, y1⟩) ⟨(y 2).val / 64, by omega⟩ ⟨(y 2).val % 64, Nat.mod_lt _ (by omega)⟩
  refine (congrArg (outO m c t) hy).trans (hl.trans (hr.symm.trans ?_))
  exact (congrArg (refBuf m c) he).symm

end Value

/-- Every run of the kernel ends with the result as the reference computes it and the arguments as they were. -/
theorem kernel_run (hR : ∀ c : Dev nD, ∃ Q K V C, Reals (m ((c : Thread nD τ).loc main_arg0)) (m ((c : Thread nD τ).loc main_arg1)) (m ((c : Thread nD τ).loc main_arg2))
      (m ((c : Thread nD τ).loc main_arg3)) Q K V C) :
    θ_run defs (onTc (τ := τ) (main (F := Ideal))) ⟨m, fun _ => 0, ρ⟩ (fun r => ∀ c : Dev nD,
      r.2.mem ((c.tc : Thread nD τ).loc main_v34) = refBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨by
      obtain ⟨Q, K, V, C, R⟩ := hR c
      exact ((h c).1 5).trans (final m c R),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_value m ρ)

/-- Arrays whose entries are real, as arrays of reals. -/
theorem reals_of (x0 x1 x2 : FVec Ideal S4x4096x8x64 .f32) (x3 : FVec Ideal S4x4096x8 .f32)
    (h : Cert.Pre_finite_args.fn (F := Ideal) x0 x1 x2 x3 = fun _ => 1#1) : ∃ Q K V C, Reals x0 x1 x2 x3 Q K V C := by
  obtain ⟨h0, h1, h2, h3⟩ := pre_real x0 x1 x2 x3 h
  choose Q hQ using h0
  choose K hK using h1
  choose V hV using h2
  choose C hC using h3
  exact ⟨Q, K, V, C, hQ, hK, hV, hC⟩

end Cert.KernelIdeal.Fox

end
-- ==== Proof.Finish.Row.lean ====
/-
  One row of the layer's second half, as mathematics: the output projection and its norm, the feed-forward part and its
  norm, the gated input of the layer.
-/
module

public import Idealize.ShloMosaic.PureOps.Ideal
public import Idealize.ShloMosaic.Lib.Pointwise.Sums

@[expose] public section

noncomputable section

namespace Cert.Kernel2Ideal.Finish

open Idealize.ShloMosaic

/-- The mean of a row. -/
def mean (f : Fin 1024 → EReal) : EReal := Ideal.div (∑ k, f k) (Ideal.ofBits .f32 0x44800000#32)

/-- A row less its mean, over its deviation. -/
def unit (f : Fin 1024 → EReal) (d : Fin 1024) : EReal :=
  (f d - mean f) * Ideal.rsqrt (mean (fun k => (f k - mean f) * (f k - mean f)) + Ideal.ofBits .f32 0x3727C5AC#32)

/-- The layer norm of a row with gain `g` and bias `b`. -/
def norm (f g b : Fin 1024 → EReal) (d : Fin 1024) : EReal := unit f d * g d + b d

/-- The squared positive part of a row's product with a column. -/
def act {n : ℕ} (x : Fin 1024 → EReal) (up : Fin 1024 → Fin n → EReal) (f : Fin n) : EReal :=
  max (∑ k, x k * up k f) 0 * max (∑ k, x k * up k f) 0

/-- The feed-forward part over `n` hidden units. -/
def ffn {n : ℕ} (x : Fin 1024 → EReal) (up : Fin 1024 → Fin n → EReal) (down : Fin n → Fin 1024 → EReal) (d : Fin 1024) : EReal :=
  ∑ f, act x up f * down f d

/-- The scaled row `x` plus another. -/
def plus (x y : Fin 1024 → EReal) (d : Fin 1024) : EReal := Ideal.ofBits .f32 0x3F9837F0#32 * x d + y d

/-- The gated input `pe` of the layer, added to a row. -/
def gated (x : Fin 1024 → EReal) (pe : Fin 256 → EReal) (wp : Fin 256 → Fin 1024 → EReal) (wg : Fin 1024 → Fin 1024 → EReal)
    (bg : Fin 1024 → EReal) (d : Fin 1024) : EReal :=
  x d + Ideal.logistic (∑ k, x k * wg k d + bg d) * ∑ k, pe k * wp k d

/-- A row times a matrix. -/
def proj (mix : Fin 1024 → EReal) (w : Fin 1024 → Fin 1024 → EReal) (d : Fin 1024) : EReal := ∑ k, mix k * w k d

/-- The layer's second half of one row: `x` the row of the layer's input, `mix` the mixers' outputs. -/
def row (x mix : Fin 1024 → EReal) (pe : Fin 256 → EReal) (wo : Fin 1024 → Fin 1024 → EReal) (g1 b1 : Fin 1024 → EReal)
    (up : Fin 1024 → Fin 4096 → EReal) (down : Fin 4096 → Fin 1024 → EReal) (g2 b2 : Fin 1024 → EReal)
    (wp : Fin 256 → Fin 1024 → EReal) (wg : Fin 1024 → Fin 1024 → EReal) (bg : Fin 1024 → EReal) : Fin 1024 → EReal :=
  gated (norm (plus (norm (plus x (proj mix wo)) g1 b1) (ffn (norm (plus x (proj mix wo)) g1 b1) up down)) g2 b2) pe wp wg bg

/-- Two rows of 512 side by side. -/
def join (o p : Fin 512 → EReal) (k : Fin 1024) : EReal :=
  if h : k.val < 512 then o ⟨k.val, h⟩ else p ⟨k.val - 512, by have := k.isLt; omega⟩

/-- The product of joined rows is the sum of the halves' products. -/
theorem proj_join (o p : Fin 512 → EReal) (w : Fin 1024 → Fin 1024 → EReal) (d : Fin 1024) :
    proj (join o p) w d = (∑ k : Fin 512, o k * w ⟨k.val, by have := k.isLt; omega⟩ d)
      + ∑ k : Fin 512, p k * w ⟨512 + k.val, by have := k.isLt; omega⟩ d := by
  unfold proj
  rw [Fin.sum_univ_two_halves 512 512 rfl]
  refine congrArg₂ (· + ·) (Finset.sum_congr rfl fun k _ => ?_) (Finset.sum_congr rfl fun k _ => ?_)
  · rw [show join o p ⟨k.val, _⟩ = o k from dif_pos k.isLt]
  · rw [show join o p ⟨512 + k.val, _⟩ = p k from (dif_neg (by show ¬ 512 + k.val < 512; omega)).trans (congrArg p (Fin.ext (by show 512 + k.val - 512 = k.val; omega)))]

/-- The feed-forward part of one quarter of the hidden units, from unit `o` on. -/
def quarter (x : Fin 1024 → EReal) (up : Fin 1024 → Fin 4096 → EReal) (down : Fin 4096 → Fin 1024 → EReal) (j : Fin 4) (d : Fin 1024) : EReal :=
  ffn (n := 1024) x (fun k f => up k ⟨j.val * 1024 + f.val, by have := f.isLt; omega⟩) (fun f d => down ⟨j.val * 1024 + f.val, by have := f.isLt; omega⟩ d) d

/-- The feed-forward part is the sum of its quarters. -/
theorem ffn_quarters (x : Fin 1024 → EReal) (up : Fin 1024 → Fin 4096 → EReal) (down : Fin 4096 → Fin 1024 → EReal) (d : Fin 1024) :
    ffn x up down d = quarter x up down 0 d + quarter x up down 1 d + quarter x up down 2 d + quarter x up down 3 d := by
  unfold ffn
  rw [Fin.sum_univ_tiles 4 1024 rfl, Fin.sum_univ_four]
  rfl

end Cert.Kernel2Ideal.Finish

end
-- ==== Proof.Finish.Body.lean ====
/-
  What the kernel's body writes at an element of its block, from the rows of its input blocks.
-/
module

public import proofs.«01_k».proof.Proof.Gen.Kernel2Ideal.Frame
public import proofs.«01_k».proof.Proof.Finish.Row
public import Idealize.ShloMosaic.Lib.Pointwise
public import Idealize.ShloMosaic.Lib.Pipeline.ValueKit

@[expose] public section

set_option maxRecDepth 16384
set_option maxHeartbeats 1000000

noncomputable section

namespace Cert.Kernel2Ideal.Finish

open Cert.Kernel2Ideal Cert.Kernel2Ideal.Gen
open Idealize.ShloMosaic Idealize.ShloMosaic.TcCoe Idealize.ShloMosaic.Tactic Idealize.ShloMosaic.Pointwise

/-- The first norm before its gain and bias. -/
theorem pay3_apply (x0 : Vec Ideal S512x1024 .f32) (x1 x2 : Vec Ideal S512x512 .bf16) (w w' : Vec Ideal S512x1024 .bf16) (r : Fin 512) (d : Fin 1024) :
    k0_pay3 x0 x1 w x2 w' (ix2 r d) = unit (fun d => Ideal.ofBits .f32 0x3F9837F0#32 * x0 (ix2 r d)
      + ∑ k : Fin 512, x1 (ix2 r k) * w (ix2 k d) + ∑ k : Fin 512, x2 (ix2 r k) * w' (ix2 k d)) d := by
  pointwise [k0_pay3]
  rfl

/-- The first norm. -/
theorem pay5_apply (b : FVec Ideal S1x1024 .f32) (u g : FVec Ideal S512x1024 .f32) (r : Fin 512) (d : Fin 1024) :
    k0_pay5 b u g (ix2 r d) = u (ix2 r d) * g (ix2 r d) + b (ix2 0 d) := by
  pointwise [k0_pay5]

/-- Three quarters of the feed-forward part. -/
theorem pay7_apply (v : FVec Ideal S1x1024 .f32) (u g : FVec Ideal S512x1024 .f32) (a b c e f h : Vec Ideal S1024x1024 .bf16) (r : Fin 512) (d : Fin 1024) :
    k0_pay7 v u g a b c e f h (ix2 r d) = ffn (fun k => k0_pay5 v u g (ix2 r k)) (fun k f => a (ix2 k f)) (fun k f => b (ix2 k f)) d
      + ffn (fun k => k0_pay5 v u g (ix2 r k)) (fun k f => c (ix2 k f)) (fun k f => e (ix2 k f)) d
      + ffn (fun k => k0_pay5 v u g (ix2 r k)) (fun k i => f (ix2 k i)) (fun k f => h (ix2 k f)) d := by
  pointwise [k0_pay7, k0_pay6]
  rfl

/-- The last quarter and the second norm. -/
theorem pay8_apply (y : FVec Ideal S512x1024 .f32) (z : FVec Ideal S512x1024 .bf16) (s : FVec Ideal S512x1024 .f32) (a b : Vec Ideal S1024x1024 .bf16)
    (g h : Vec Ideal S1x1024 .f32) (r : Fin 512) (d : Fin 1024) :
    k0_pay8 y z s a b g h (ix2 r d) = norm (plus (fun d => y (ix2 r d)) fun d => s (ix2 r d)
      + ffn (fun k => z (ix2 r k)) (fun k f => a (ix2 k f)) (fun k f => b (ix2 k f)) d) (fun d => g (ix2 0 d)) (fun d => h (ix2 0 d)) d := by
  pointwise [k0_pay8]
  rfl

/-- The gated input of the layer. -/
theorem pay1_apply (y : FVec Ideal S512x1024 .f32) (w : FVec Ideal S1024x1024 .bf16) (b : Vec Ideal S1x1024 .f32)
    (p : Vec Ideal S512x256 .f32) (wp : Vec Ideal S256x1024 .bf16) (r : Fin 512) (d : Fin 1024) :
    k0_pay1 y (truncf .bf16 y bitsLt_bf16_f32) w b p wp (ix2 r d) = gated (fun d => y (ix2 r d)) (fun k => p (ix2 r k)) (fun k d => wp (ix2 k d)) (fun k d => w (ix2 k d)) (fun d => b (ix2 0 d)) d := by
  pointwise [k0_pay1]
  rfl

/-- The row after the first norm. -/
theorem first_apply (x0 : Vec Ideal S512x1024 .f32) (x1 x2 : Vec Ideal S512x512 .bf16) (x4 : Vec Ideal S1024x1024 .bf16) (x5 x6 : Vec Ideal S1x1024 .f32)
    (r : Fin 512) (d : Fin 1024) :
    k0_pay5 (k0_pay2 x6) (k0_pay3 x0 x1 (View.ld x4 r0_2) x2 (View.ld x4 r0_3)) (k0_pay4 x5) (ix2 r d)
      = norm (plus (fun d => x0 (ix2 r d)) (proj (join (fun k => x1 (ix2 r k)) (fun k => x2 (ix2 r k))) (fun k d => x4 (ix2 k d))))
        (fun d => x5 (ix2 0 d)) (fun d => x6 (ix2 0 d)) d := by
  have e : (fun d => Ideal.ofBits .f32 0x3F9837F0#32 * x0 (ix2 r d)
      + ∑ k : Fin 512, x1 (ix2 r k) * View.ld x4 r0_2 (ix2 k d) + ∑ k : Fin 512, x2 (ix2 r k) * View.ld x4 r0_3 (ix2 k d))
      = plus (fun d => x0 (ix2 r d)) (proj (join (fun k => x1 (ix2 r k)) (fun k => x2 (ix2 r k))) (fun k d => x4 (ix2 k d))) := by
    funext d
    unfold plus
    rw [proj_join, ← add_assoc]
    pointwise
  rw [pay5_apply, pay3_apply, e]
  pointwise [k0_pay2, k0_pay4]
  rfl

/-- The feed-forward part over the quarters that the body reads. -/
theorem quarters (x : Fin 1024 → EReal) (x7 : Vec Ideal S1024x4096 .bf16) (x8 : Vec Ideal S4096x1024 .bf16) (d : Fin 1024) :
    ffn x (fun k f => View.ld x7 r0_5 (ix2 k f)) (fun k f => View.ld x8 r0_6 (ix2 k f)) d
      + ffn x (fun k f => View.ld x7 r0_7 (ix2 k f)) (fun k f => View.ld x8 r0_8 (ix2 k f)) d
      + ffn x (fun k f => View.ld x7 r0_9 (ix2 k f)) (fun k f => View.ld x8 r0_10 (ix2 k f)) d
      + ffn x (fun k f => View.ld x7 r0_11 (ix2 k f)) (fun k f => View.ld x8 r0_12 (ix2 k f)) d
      = ffn x (fun k f => x7 (ix2 k f)) (fun f d => x8 (ix2 f d)) d := by
  rw [ffn_quarters]
  unfold quarter
  pointwise

/-- The block that the body writes, row by row: the layer's second half of the row. -/
theorem out_apply (x0 : Vec Ideal S512x1024 .f32) (x1 : Vec Ideal S512x512 .bf16) (x2 : Vec Ideal S512x512 .bf16) (x3 : Vec Ideal S512x256 .f32)
    (x4 : Vec Ideal S1024x1024 .bf16) (x5 : Vec Ideal S1x1024 .f32) (x6 : Vec Ideal S1x1024 .f32) (x7 : Vec Ideal S1024x4096 .bf16)
    (x8 : Vec Ideal S4096x1024 .bf16) (x9 : Vec Ideal S1x1024 .f32) (x10 : Vec Ideal S1x1024 .f32) (x11 : Vec Ideal S256x1024 .bf16)
    (x12 : Vec Ideal S1024x1024 .bf16) (x13 : Vec Ideal S1x1024 .f32) (r : Fin 512) (d : Fin 1024) :
    out0_14 x0 x1 x2 x3 x4 x5 x6 x7 x8 x9 x10 x11 x12 x13 (ix2 r d)
      = row (fun d => x0 (ix2 r d)) (join (fun k => x1 (ix2 r k)) (fun k => x2 (ix2 r k))) (fun k => x3 (ix2 r k)) (fun k d => x4 (ix2 k d))
        (fun d => x5 (ix2 0 d)) (fun d => x6 (ix2 0 d)) (fun k f => x7 (ix2 k f)) (fun f d => x8 (ix2 f d)) (fun d => x9 (ix2 0 d)) (fun d => x10 (ix2 0 d))
        (fun k d => x11 (ix2 k d)) (fun k d => x12 (ix2 k d)) (fun d => x13 (ix2 0 d)) d := by
  unfold_out out0_14
  frame_out
  generalize hy : k0_pay8 (F := Ideal) _ _ _ _ _ _ _ = y
  have h1 : k0_pay9 (F := Ideal) _ _ _ _ _ _ _ = truncf .bf16 y bitsLt_bf16_f32 := congrArg (fun y => truncf .bf16 y bitsLt_bf16_f32) hy
  rw [h1, pay1_apply]
  have h2 : (fun d => y (ix2 r d)) = _ := funext fun d => (congrFun hy.symm (ix2 r d)).trans ((pay8_apply _ _ _ _ _ _ _ r d))
  rw [h2]
  have h6 : ∀ k, k0_pay6 (k0_pay2 x6) (k0_pay3 x0 x1 (View.ld x4 r0_2) x2 (View.ld x4 r0_3)) (k0_pay4 x5) (ix2 r k) = _ := fun k => first_apply x0 x1 x2 x4 x5 x6 r k
  simp only [h6, pay7_apply, first_apply, quarters]
  pointwise [k0_pay10]
  rfl

end Cert.Kernel2Ideal.Finish

end
-- ==== Proof.Finish.Ref.lean ====
/-
  The plain second half of the layer, read at an element.
-/
module

public import proofs.«01_k».proof.Proof.Gen.Reference2Ideal.Read
public import proofs.«01_k».proof.Proof.Finish.Row
public import Idealize.ShloMosaic.Lib.Pointwise

@[expose] public section

set_option maxRecDepth 16384
set_option maxHeartbeats 1000000

noncomputable section

namespace Cert.Kernel2Ideal.Finish

open Cert.Reference2Ideal Cert.Reference2Ideal.Read Cert.Reference2Ideal.Gen
open Idealize.ShloMosaic Idealize.ShloMosaic.TcCoe Idealize.ShloMosaic.Tactic
open Idealize.ShloMosaic.Pointwise

variable (x0 : (⟨S4x4096x1024, .f32⟩ : BufTy).Contents (Elt Ideal)) (x1 x2 : (⟨S4x4096x512, .bf16⟩ : BufTy).Contents (Elt Ideal))
  (x3 : (⟨S4x4096x256, .f32⟩ : BufTy).Contents (Elt Ideal)) (x4 : (⟨S1024x1024, .f32⟩ : BufTy).Contents (Elt Ideal))
  (x5 x6 : (⟨S1024, .f32⟩ : BufTy).Contents (Elt Ideal)) (x7 : (⟨S1024x4096, .f32⟩ : BufTy).Contents (Elt Ideal))
  (x8 : (⟨S4096x1024, .f32⟩ : BufTy).Contents (Elt Ideal)) (x9 x10 : (⟨S1024, .f32⟩ : BufTy).Contents (Elt Ideal))
  (x11 : (⟨S256x1024, .f32⟩ : BufTy).Contents (Elt Ideal)) (x12 : (⟨S1024x1024, .f32⟩ : BufTy).Contents (Elt Ideal)) (x13 : (⟨S1024, .f32⟩ : BufTy).Contents (Elt Ideal))

/-- The scaled input plus the output projection. -/
theorem ref_first (b : Fin 4) (i : Fin 4096) : (fun d => val_main_v5 (F := Ideal) x0 x1 x2 x4 (ix3 b i d))
    = plus (fun d => x0 (ix3 b i d)) (proj (join (fun k => x1 (ix3 b i k)) (fun k => x2 (ix3 b i k))) (fun k d => x4 (ix2 k d))) := by
  funext d
  unfold plus
  rw [proj_join]
  pointwise [val_main_v5, val_main_v4, val_main_v3, val_main_v2, val_main_v1, val_main_v0, val_main_cst]

/-- The first norm. -/
theorem ref_norm1 (b : Fin 4) (i : Fin 4096) (d : Fin 1024) : val_main_v29 (F := Ideal) x0 x1 x2 x4 x5 x6 (ix3 b i d)
    = norm (fun d => val_main_v5 (F := Ideal) x0 x1 x2 x4 (ix3 b i d)) (fun d => x5 (ix1 d)) (fun d => x6 (ix1 d)) d := by
  unfold norm unit mean
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1, val_main_cst_2, val_main_cst_3, val_main_cst_4]

/-- The scaled row plus the feed-forward part. -/
theorem ref_second (b : Fin 4) (i : Fin 4096) (d : Fin 1024) : val_main_v36 (F := Ideal) x0 x1 x2 x4 x5 x6 x7 x8 (ix3 b i d)
    = plus (fun d => val_main_v29 (F := Ideal) x0 x1 x2 x4 x5 x6 (ix3 b i d)) (ffn (fun d => val_main_v29 (F := Ideal) x0 x1 x2 x4 x5 x6 (ix3 b i d)) (fun k f => x7 (ix2 k f)) (fun f d => x8 (ix2 f d))) d := by
  unfold plus ffn act
  pointwise [val_main_v36, val_main_v35, val_main_v34, val_main_v33, val_main_v32, val_main_v31, val_main_v30, val_main_call0_v0, val_main_call0_cst, val_main_cst_5]

/-- The second norm. -/
theorem ref_norm2 (b : Fin 4) (i : Fin 4096) (d : Fin 1024) : val_main_v60 (F := Ideal) x0 x1 x2 x4 x5 x6 x7 x8 x9 x10 (ix3 b i d)
    = norm (fun d => val_main_v36 (F := Ideal) x0 x1 x2 x4 x5 x6 x7 x8 (ix3 b i d)) (fun d => x9 (ix1 d)) (fun d => x10 (ix1 d)) d := by
  unfold norm unit mean
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_6, val_main_cst_7, val_main_cst_8, val_main_cst_9, val_main_cst_10]

/-- The gated input. -/
theorem ref_gated (b : Fin 4) (i : Fin 4096) (d : Fin 1024) : val_main_v73 (F := Ideal) x0 x1 x2 x3 x4 x5 x6 x7 x8 x9 x10 x11 x12 x13 (ix3 b i d)
    = gated (fun d => val_main_v60 (F := Ideal) x0 x1 x2 x4 x5 x6 x7 x8 x9 x10 (ix3 b i d)) (fun k => x3 (ix3 b i k)) (fun k d => x11 (ix2 k d)) (fun k d => x12 (ix2 k d)) (fun d => x13 (ix1 d)) d := by
  unfold gated Ideal.logistic
  have e : Ideal.ofBits .f32 0x3F800000#32 = 1 := by
    simp [Ideal.ofBits, Ideal.ieee, -EReal.coe_mul]
    norm_cast
    norm_num
  pointwise [val_main_v73, val_main_v72, val_main_v71, val_main_v70, val_main_v69, val_main_v68, val_main_v67, val_main_v66, val_main_v65, val_main_v64, val_main_v63, val_main_v62, val_main_v61, val_main_cst_11, val_main_cst_12]

/-- The reference's result, row by row. -/
theorem ref_apply (b : Fin 4) (i : Fin 4096) (d : Fin 1024) :
    val_main_v74 (F := Ideal) x0 x1 x2 x3 x4 x5 x6 x7 x8 x9 x10 x11 x12 x13 (ix2 ⟨b.val * 4096 + i.val, by have := b.isLt; have := i.isLt; omega⟩ d)
      = row (fun d => x0 (ix3 b i d)) (join (fun k => x1 (ix3 b i k)) (fun k => x2 (ix3 b i k))) (fun k => x3 (ix3 b i k)) (fun k d => x4 (ix2 k d))
        (fun d => x5 (ix1 d)) (fun d => x6 (ix1 d)) (fun k f => x7 (ix2 k f)) (fun f d => x8 (ix2 f d)) (fun d => x9 (ix1 d)) (fun d => x10 (ix1 d))
        (fun k d => x11 (ix2 k d)) (fun k d => x12 (ix2 k d)) (fun d => x13 (ix1 d)) d := by
  refine Eq.trans ?_ ((ref_gated x0 x1 x2 x3 x4 x5 x6 x7 x8 x9 x10 x11 x12 x13 b i d).trans ?_)
  · unfold val_main_v74
    generalize val_main_v73 (F := Ideal) x0 x1 x2 x3 x4 x5 x6 x7 x8 x9 x10 x11 x12 x13 = y
    exact shapeCast_apply y _ _ (ix3 b i d) (by rw [Shape.rowMajor_val_three, Shape.rowMajor_val_two]; show (b.val * 4096 + i.val) * 1024 + d.val = (b.val * 4096 + i.val) * 1024 + d.val; rfl)
  · simp only [ref_norm2, ref_second, ref_norm1, ref_first]
    rfl

end Cert.Kernel2Ideal.Finish

end
-- ==== Proof.Finish.Windows.lean ====
/-
  The windows' blocks at a grid point: 512 rows of the arrays by token, the weights whole.
-/
module

public import proofs.«01_k».proof.Proof.Gen.Kernel2Ideal.Frame
public import Idealize.ShloMosaic.Lib.Pointwise
public import Idealize.ShloMosaic.Lib.Pipeline.Value
public import Idealize.ShloMosaic.Lib.Pipeline.ValueKit
public import Idealize.ShloMosaic.Lib.Pipeline.ValueKit.Geometry

@[expose] public section

set_option maxRecDepth 16384
set_option maxHeartbeats 1000000

noncomputable section

namespace Cert.Kernel2Ideal.Finish

open Cert.Kernel2Ideal Cert.Kernel2Ideal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The batch of row `r` of a grid point. -/
def bOf (t : Fin cfg0.N) (r : Fin 512) : Fin 4 := ⟨(t.val * 512 + r.val) / 4096, by have := (show t.val < 32 from t.isLt); have := r.isLt; omega⟩

/-- Its position in the sequence. -/
def iOf (t : Fin cfg0.N) (r : Fin 512) : Fin 4096 := ⟨(t.val * 512 + r.val) % 4096, Nat.mod_lt _ (by omega)⟩

/-- Its row among all tokens. -/
def nOf (t : Fin cfg0.N) (r : Fin 512) : Fin 16384 := ⟨t.val * 512 + r.val, by have := (show t.val < 32 from t.isLt); have := r.isLt; omega⟩

theorem nOf_eq (t : Fin cfg0.N) (r : Fin 512) : (bOf t r).val * 4096 + (iOf t r).val = (nOf t r).val := by
  unfold bOf iOf nOf
  dsimp only
  omega

/-- The tokens of all batches in one axis, read back at batch and position. -/
theorem flat_apply {n : ℕ} {e : EltTy} (x : Vec Ideal (⟨3, ![4, 4096, n]⟩ : Shape) e) (h : (⟨3, ![4, 4096, n]⟩ : Shape).ShapeCasts ⟨2, ![16384, n]⟩)
    (t : Fin cfg0.N) (r : Fin 512) (d : Fin n) : shapeCast ⟨2, ![16384, n]⟩ x h (ix2 (nOf t r) d) = x (ix3 (bOf t r) (iOf t r) d) :=
  shapeCast_apply x _ _ (ix3 (bOf t r) (iOf t r) d) (by
    rw [Shape.rowMajor_val_three, Shape.rowMajor_val_two]
    show ((bOf t r).val * 4096 + (iOf t r).val) * n + d.val = (nOf t r).val * n + d.val
    rw [nOf_eq])

/-- A vector as one row. -/
theorem vec_apply (x : FVec Ideal S1024 .f32) (k : Fin 1024) : shapeCast S1x1024 x shapeCasts_S1024_S1x1024 (ix2 0 k) = x (ix1 k) :=
  shapeCast_apply x _ _ (ix1 k) (by
    rw [Shape.rowMajor_val_one, Shape.rowMajor_val_two]
    show k.val = 0 * 1024 + k.val
    omega)

theorem index_x : ∀ t : Fin cfg0.N, win0_0.index t = ![t.val, 0] := (by decide +kernel : ∀ t : Fin grid0.N, _)
theorem index_o : ∀ t : Fin cfg0.N, win0_1.index t = ![t.val, 0] := (by decide +kernel : ∀ t : Fin grid0.N, _)
theorem index_p : ∀ t : Fin cfg0.N, win0_2.index t = ![t.val, 0] := (by decide +kernel : ∀ t : Fin grid0.N, _)
theorem index_e : ∀ t : Fin cfg0.N, win0_3.index t = ![t.val, 0] := (by decide +kernel : ∀ t : Fin grid0.N, _)
theorem index_y : ∀ t : Fin cfg0.N, win0_14.index t = ![t.val, 0] := (by decide +kernel : ∀ t : Fin grid0.N, _)
theorem index_w4 : ∀ t : Fin cfg0.N, win0_4.index t = ![0, 0] := (by decide +kernel : ∀ t : Fin grid0.N, _)
theorem index_w7 : ∀ t : Fin cfg0.N, win0_7.index t = ![0, 0] := (by decide +kernel : ∀ t : Fin grid0.N, _)
theorem index_w8 : ∀ t : Fin cfg0.N, win0_8.index t = ![0, 0] := (by decide +kernel : ∀ t : Fin grid0.N, _)
theorem index_w11 : ∀ t : Fin cfg0.N, win0_11.index t = ![0, 0] := (by decide +kernel : ∀ t : Fin grid0.N, _)
theorem index_w12 : ∀ t : Fin cfg0.N, win0_12.index t = ![0, 0] := (by decide +kernel : ∀ t : Fin grid0.N, _)
theorem index_w5 : ∀ t : Fin cfg0.N, win0_5.index t = ![0, 0] := (by decide +kernel : ∀ t : Fin grid0.N, _)
theorem index_w6 : ∀ t : Fin cfg0.N, win0_6.index t = ![0, 0] := (by decide +kernel : ∀ t : Fin grid0.N, _)
theorem index_w9 : ∀ t : Fin cfg0.N, win0_9.index t = ![0, 0] := (by decide +kernel : ∀ t : Fin grid0.N, _)
theorem index_w10 : ∀ t : Fin cfg0.N, win0_10.index t = ![0, 0] := (by decide +kernel : ∀ t : Fin grid0.N, _)
theorem index_w13 : ∀ t : Fin cfg0.N, win0_13.index t = ![0, 0] := (by decide +kernel : ∀ t : Fin grid0.N, _)

theorem V_x : V m c main_v10 = shapeCast S16384x1024 (m ((c : Thread nD τ).loc main_arg0)) shapeCasts_S4x4096x1024_S16384x1024 := by
  unfold V
  simp only [hostOps0]
  after_results_simp
  rfl

theorem iblk_x (t : Fin cfg0.N) (r : Fin 512) (k : Fin 1024) : (iblk m c 0 t : Vec Ideal S512x1024 .f32) (ix2 r k)
    = m ((c : Thread nD τ).loc main_arg0) (ix3 (bOf t r) (iOf t r) k) := by
  refine Eq.trans ?_ (flat_apply (n := 1024) (e := .f32) (m ((c : Thread nD τ).loc main_arg0)) shapeCasts_S4x4096x1024_S16384x1024 t r k)
  blk_simp [iblk]
  rw [V_x]
  refine congrArg _ ?_
  unfold nOf
  blk_ext [index_x]

theorem V_o : V m c main_v11 = shapeCast S16384x512 (m ((c : Thread nD τ).loc main_arg1)) shapeCasts_S4x4096x512_S16384x512 := by
  unfold V
  simp only [hostOps0]
  after_results_simp
  rfl

theorem iblk_o (t : Fin cfg0.N) (r : Fin 512) (k : Fin 512) : (iblk m c 1 t : Vec Ideal S512x512 .bf16) (ix2 r k)
    = m ((c : Thread nD τ).loc main_arg1) (ix3 (bOf t r) (iOf t r) k) := by
  refine Eq.trans ?_ (flat_apply (n := 512) (e := .bf16) (m ((c : Thread nD τ).loc main_arg1)) shapeCasts_S4x4096x512_S16384x512 t r k)
  blk_simp [iblk]
  rw [V_o]
  refine congrArg _ ?_
  unfold nOf
  blk_ext [index_o]

theorem V_p : V m c main_v12 = shapeCast S16384x512 (m ((c : Thread nD τ).loc main_arg2)) shapeCasts_S4x4096x512_S16384x512 := by
  unfold V
  simp only [hostOps0]
  after_results_simp
  rfl

theorem iblk_p (t : Fin cfg0.N) (r : Fin 512) (k : Fin 512) : (iblk m c 2 t : Vec Ideal S512x512 .bf16) (ix2 r k)
    = m ((c : Thread nD τ).loc main_arg2) (ix3 (bOf t r) (iOf t r) k) := by
  refine Eq.trans ?_ (flat_apply (n := 512) (e := .bf16) (m ((c : Thread nD τ).loc main_arg2)) shapeCasts_S4x4096x512_S16384x512 t r k)
  blk_simp [iblk]
  rw [V_p]
  refine congrArg _ ?_
  unfold nOf
  blk_ext [index_p]

theorem V_e : V m c main_v13 = shapeCast S16384x256 (m ((c : Thread nD τ).loc main_arg3)) shapeCasts_S4x4096x256_S16384x256 := by
  unfold V
  simp only [hostOps0]
  after_results_simp
  rfl

theorem iblk_e (t : Fin cfg0.N) (r : Fin 512) (k : Fin 256) : (iblk m c 3 t : Vec Ideal S512x256 .f32) (ix2 r k)
    = m ((c : Thread nD τ).loc main_arg3) (ix3 (bOf t r) (iOf t r) k) := by
  refine Eq.trans ?_ (flat_apply (n := 256) (e := .f32) (m ((c : Thread nD τ).loc main_arg3)) shapeCasts_S4x4096x256_S16384x256 t r k)
  blk_simp [iblk]
  rw [V_e]
  refine congrArg _ ?_
  unfold nOf
  blk_ext [index_e]

theorem V_wo : V m c main_v0 = truncf (F := Ideal) .bf16 (m ((c : Thread nD τ).loc main_arg4)) bitsLt_bf16_f32 := by
  unfold V
  simp only [hostOps0]
  after_results_simp

theorem iblk_wo (t : Fin cfg0.N) (r : Fin 1024) (k : Fin 1024) : (iblk m c 4 t : Vec Ideal S1024x1024 .bf16) (ix2 r k)
    = m ((c : Thread nD τ).loc main_arg4) (ix2 r k) := by
  blk_simp [iblk]
  rw [V_wo]
  show m ((c : Thread nD τ).loc main_arg4) _ = _
  refine congrArg _ ?_
  blk_ext [index_w4]

theorem V_up : V m c main_v3 = truncf (F := Ideal) .bf16 (m ((c : Thread nD τ).loc main_arg7)) bitsLt_bf16_f32 := by
  unfold V
  simp only [hostOps0]
  after_results_simp

theorem iblk_up (t : Fin cfg0.N) (r : Fin 1024) (k : Fin 4096) : (iblk m c 7 t : Vec Ideal S1024x4096 .bf16) (ix2 r k)
    = m ((c : Thread nD τ).loc main_arg7) (ix2 r k) := by
  blk_simp [iblk]
  rw [V_up]
  show m ((c : Thread nD τ).loc main_arg7) _ = _
  refine congrArg _ ?_
  blk_ext [index_w7]

theorem V_down : V m c main_v4 = truncf (F := Ideal) .bf16 (m ((c : Thread nD τ).loc main_arg8)) bitsLt_bf16_f32 := by
  unfold V
  simp only [hostOps0]
  after_results_simp

theorem iblk_down (t : Fin cfg0.N) (r : Fin 4096) (k : Fin 1024) : (iblk m c 8 t : Vec Ideal S4096x1024 .bf16) (ix2 r k)
    = m ((c : Thread nD τ).loc main_arg8) (ix2 r k) := by
  blk_simp [iblk]
  rw [V_down]
  show m ((c : Thread nD τ).loc main_arg8) _ = _
  refine congrArg _ ?_
  blk_ext [index_w8]

theorem V_wp : V m c main_v7 = truncf (F := Ideal) .bf16 (m ((c : Thread nD τ).loc main_arg11)) bitsLt_bf16_f32 := by
  unfold V
  simp only [hostOps0]
  after_results_simp

theorem iblk_wp (t : Fin cfg0.N) (r : Fin 256) (k : Fin 1024) : (iblk m c 11 t : Vec Ideal S256x1024 .bf16) (ix2 r k)
    = m ((c : Thread nD τ).loc main_arg11) (ix2 r k) := by
  blk_simp [iblk]
  rw [V_wp]
  show m ((c : Thread nD τ).loc main_arg11) _ = _
  refine congrArg _ ?_
  blk_ext [index_w11]

theorem V_wg : V m c main_v8 = truncf (F := Ideal) .bf16 (m ((c : Thread nD τ).loc main_arg12)) bitsLt_bf16_f32 := by
  unfold V
  simp only [hostOps0]
  after_results_simp

theorem iblk_wg (t : Fin cfg0.N) (r : Fin 1024) (k : Fin 1024) : (iblk m c 12 t : Vec Ideal S1024x1024 .bf16) (ix2 r k)
    = m ((c : Thread nD τ).loc main_arg12) (ix2 r k) := by
  blk_simp [iblk]
  rw [V_wg]
  show m ((c : Thread nD τ).loc main_arg12) _ = _
  refine congrArg _ ?_
  blk_ext [index_w12]

theorem V_g1 : V m c main_v1 = shapeCast S1x1024 (m ((c : Thread nD τ).loc main_arg5)) shapeCasts_S1024_S1x1024 := by
  unfold V
  simp only [hostOps0]
  after_results_simp
  rfl

theorem iblk_g1 (t : Fin cfg0.N) (k : Fin 1024) : (iblk m c 5 t : Vec Ideal S1x1024 .f32) (ix2 0 k)
    = m ((c : Thread nD τ).loc main_arg5) (ix1 k) := by
  refine Eq.trans ?_ (vec_apply (m ((c : Thread nD τ).loc main_arg5)) k)
  blk_simp [iblk]
  rw [V_g1]
  refine congrArg _ ?_
  blk_ext [index_w5]

theorem V_b1 : V m c main_v2 = shapeCast S1x1024 (m ((c : Thread nD τ).loc main_arg6)) shapeCasts_S1024_S1x1024 := by
  unfold V
  simp only [hostOps0]
  after_results_simp
  rfl

theorem iblk_b1 (t : Fin cfg0.N) (k : Fin 1024) : (iblk m c 6 t : Vec Ideal S1x1024 .f32) (ix2 0 k)
    = m ((c : Thread nD τ).loc main_arg6) (ix1 k) := by
  refine Eq.trans ?_ (vec_apply (m ((c : Thread nD τ).loc main_arg6)) k)
  blk_simp [iblk]
  rw [V_b1]
  refine congrArg _ ?_
  blk_ext [index_w6]

theorem V_g2 : V m c main_v5 = shapeCast S1x1024 (m ((c : Thread nD τ).loc main_arg9)) shapeCasts_S1024_S1x1024 := by
  unfold V
  simp only [hostOps0]
  after_results_simp
  rfl

theorem iblk_g2 (t : Fin cfg0.N) (k : Fin 1024) : (iblk m c 9 t : Vec Ideal S1x1024 .f32) (ix2 0 k)
    = m ((c : Thread nD τ).loc main_arg9) (ix1 k) := by
  refine Eq.trans ?_ (vec_apply (m ((c : Thread nD τ).loc main_arg9)) k)
  blk_simp [iblk]
  rw [V_g2]
  refine congrArg _ ?_
  blk_ext [index_w9]

theorem V_b2 : V m c main_v6 = shapeCast S1x1024 (m ((c : Thread nD τ).loc main_arg10)) shapeCasts_S1024_S1x1024 := by
  unfold V
  simp only [hostOps0]
  after_results_simp
  rfl

theorem iblk_b2 (t : Fin cfg0.N) (k : Fin 1024) : (iblk m c 10 t : Vec Ideal S1x1024 .f32) (ix2 0 k)
    = m ((c : Thread nD τ).loc main_arg10) (ix1 k) := by
  refine Eq.trans ?_ (vec_apply (m ((c : Thread nD τ).loc main_arg10)) k)
  blk_simp [iblk]
  rw [V_b2]
  refine congrArg _ ?_
  blk_ext [index_w10]

theorem V_bg : V m c main_v9 = shapeCast S1x1024 (m ((c : Thread nD τ).loc main_arg13)) shapeCasts_S1024_S1x1024 := by
  unfold V
  simp only [hostOps0]
  after_results_simp
  rfl

theorem iblk_bg (t : Fin cfg0.N) (k : Fin 1024) : (iblk m c 13 t : Vec Ideal S1x1024 .f32) (ix2 0 k)
    = m ((c : Thread nD τ).loc main_arg13) (ix1 k) := by
  refine Eq.trans ?_ (vec_apply (m ((c : Thread nD τ).loc main_arg13)) k)
  blk_simp [iblk]
  rw [V_bg]
  refine congrArg _ ?_
  blk_ext [index_w13]

end Cert.Kernel2Ideal.Finish

end
-- ==== Proof.Finish.Value.lean ====
/-
  The kernel's run: its result is the plain second half of the layer.
-/
module

public import proofs.«01_k».proof.Proof.Gen.Kernel2Ideal.Value
public import proofs.«01_k».proof.Proof.Finish.Body
public import proofs.«01_k».proof.Proof.Finish.Ref
public import proofs.«01_k».proof.Proof.Finish.Windows

@[expose] public section

set_option maxRecDepth 16384
set_option maxHeartbeats 1000000

noncomputable section

namespace Cert.Kernel2Ideal.Finish

open Cert.Kernel2Ideal Cert.Kernel2Ideal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- What the plain program computes from the arguments. -/
def refBuf : Vec Ideal S16384x1024 .f32 :=
  Cert.Reference2Ideal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Row `r` of what a grid point writes is the plain result's row. -/
theorem out_val (t : Fin cfg0.N) (r : Fin 512) (d : Fin 1024) :
    out0_14 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r d) = refBuf m c (ix2 (nOf t r) d) := by
  refine (out_apply _ _ _ _ _ _ _ _ _ _ _ _ _ _ r d).trans ?_
  simp only [iblk_x, iblk_o, iblk_p, iblk_e, iblk_wo, iblk_up, iblk_down, iblk_wp, iblk_wg, iblk_g1, iblk_b1, iblk_g2, iblk_b2, iblk_bg]
  refine (ref_apply _ _ _ _ _ _ _ _ _ _ _ _ _ _ (bOf t r) (iOf t r) d).symm.trans ?_
  exact congrArg (fun n => refBuf m c (ix2 n d)) (Fin.ext (nOf_eq t r))

/-- The result's array after the run. -/
theorem final : (dats m 0 c).arrAt 14 cfg0.N = refBuf m c := by
  refine (dats m 0 c).arrAt_eq_of_covers 14 _ (by decide +kernel) fun t hf y => ?_
  blk_simp
  rw [after0_14]
  have y0 : (y 0).val < 512 := (y 0).isLt
  have y1 : (y 1).val < 1024 := (y 1).isLt
  have hy : (y : S512x1024.Idx) = ix2 ⟨(y 0).val, y0⟩ ⟨(y 1).val, y1⟩ := by
    funext a
    match a with
    | ⟨0, _⟩ => rfl
    | ⟨1, _⟩ => rfl
  have he : (win0_14.blk t).view.emb y = ix2 (nOf t ⟨(y 0).val, y0⟩) ⟨(y 1).val, y1⟩ := by
    unfold nOf
    blk_ext [index_y]
  exact (congrArg (out0_14 _ _ _ _ _ _ _ _ _ _ _ _ _ _) hy).trans ((out_val m c t _ _).trans (congrArg (refBuf m c) he).symm)

end Cert.Kernel2Ideal.Finish

end
-- ==== Proof.Project.FrameKernel3Ideal.lean ====
/- The frame of the projection call, by hand: what the body leaves in each of its sixteen output buffers,
   and the run of the pipeline over the thirty-two grid points. -/
module

public import proofs.«01_k».proof.Proof.Gen.Kernel3Ideal.Skeleton
public import proofs.«01_k».proof.Proof.Gen.Kernel3Ideal.Frame
public import Idealize.ShloMosaic.Lib.Claim
public import Idealize.ShloMosaic.Lib.Exec
public import Idealize.ShloMosaic.Lib.Tactic

@[expose] public section

set_option maxRecDepth 16384

noncomputable section

namespace Cert.Kernel3Ideal.Project

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0_0 : Rect S512x1024 := Rect.unit (s := S512x1024) ![0, 0] S512x1024.size inb_S512x1024_S512x1024_0_0
abbrev r0_1 : Rect S512x128 := Rect.unit (s := S512x128) ![0, 0] S512x128.size inb_S512x128_S512x128_0_0
abbrev r0_2 : Rect S1024x3712 := Rect.unit (s := S1024x3712) ![0, 3584] S1024x128.size inb_S1024x3712_S1024x128_0_3584
abbrev r0_3 : Rect S1x128 := Rect.unit (s := S1x128) ![0, 0] S1x128.size inb_S1x128_S1x128_0_0
abbrev r0_4 : Rect S1024x3712 := Rect.unit (s := S1024x3712) ![0, 0] S1024x512.size inb_S1024x3712_S1024x512_0_0
abbrev r0_5 : Rect S1024x3712 := Rect.unit (s := S1024x3712) ![0, 512] S1024x512.size inb_S1024x3712_S1024x512_0_512
abbrev r0_6 : Rect S1024x3712 := Rect.unit (s := S1024x3712) ![0, 1024] S1024x512.size inb_S1024x3712_S1024x512_0_1024
abbrev r0_7 : Rect S1024x3712 := Rect.unit (s := S1024x3712) ![0, 1536] S1024x512.size inb_S1024x3712_S1024x512_0_1536
abbrev r0_8 : Rect S1024x3712 := Rect.unit (s := S1024x3712) ![0, 2048] S1024x512.size inb_S1024x3712_S1024x512_0_2048
abbrev r0_9 : Rect S1024x3712 := Rect.unit (s := S1024x3712) ![0, 2560] S1024x512.size inb_S1024x3712_S1024x512_0_2560
abbrev r0_10 : Rect S1024x3712 := Rect.unit (s := S1024x3712) ![0, 3072] S1024x256.size inb_S1024x3712_S1024x256_0_3072
abbrev r0_11 : Rect S1024x3712 := Rect.unit (s := S1024x3712) ![0, 3328] S1024x256.size inb_S1024x3712_S1024x256_0_3328
abbrev r0_12 : Rect S512x512 := Rect.unit (s := S512x512) ![0, 0] S512x512.size inb_S512x512_S512x512_0_0
abbrev r0_13 : Rect S512x256 := Rect.unit (s := S512x256) ![0, 0] S512x256.size inb_S512x256_S512x256_0_0
abbrev r0_14 : Rect S256x512 := Rect.unit (s := S256x512) ![0, 0] S256x512.size inb_S256x512_S256x512_0_0
abbrev r0_15 : Rect S1x512x512 := Rect.unit (s := S1x512x512) ![0, 0, 0] S1x512x512.size inb_S1x512x512_S1x512x512_0_0_0
abbrev r0_16 : Rect S640x512 := Rect.unit (s := S640x512) ![0, 0] S640x512.size inb_S640x512_S640x512_0_0
abbrev r0_17 : Rect S1x32x512 := Rect.unit (s := S1x32x512) ![0, 0, 0] S1x32x512.size inb_S1x32x512_S1x32x512_0_0_0
abbrev r0_18 : Rect S1x8x512 := Rect.unit (s := S1x8x512) ![0, 0, 0] S1x8x512.size inb_S1x8x512_S1x8x512_0_0_0

/-- The column number at every entry of a block of 128 columns. -/
def lanes (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : IVec S512x128 32 :=
  iota .tc S512x128 32 [1] iota_S512x128_d1_w32
/-- The block of `x`, cast for the multiplications. -/
def xRows (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x1024 .bf16 :=
  k0_pay8 (View.ld x0 r0_0)
/-- Marks the columns in the first half of a group of 64. -/
def half64 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : IVec S512x128 1 :=
  k0_pay9
/-- Marks the columns in the first half of a group of 32. -/
def half32 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : IVec S512x128 1 :=
  k0_pay10
/-- The cosines for groups of 64 columns. -/
def cos64 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x128 .f32 :=
  k0_pay11 (View.ld x2 r0_1)
/-- The sines for groups of 64 columns. -/
def sin64 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x128 .f32 :=
  k0_pay12 (View.ld x3 r0_1)
/-- The cosines for groups of 32 columns. -/
def cos32 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x128 .f32 :=
  k0_pay13 (View.ld x4 r0_1)
/-- The sines for groups of 32 columns. -/
def sin32 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x128 .f32 :=
  k0_pay14 (View.ld x5 r0_1)
/-- The forget gate and the indexer weights: the last 128 columns of the product. -/
def smallVal (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x128 .f32 :=
  k0_pay15 (xRows x0 x1 x2 x3 x4 x5 x6) (lanes x0 x1 x2 x3 x4 x5 x6) (View.ld x1 r0_2) (View.ld x6 r0_3)
/-- The keys of the forgetting attention. -/
def fkVal (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x512 .f32 :=
  k0_pay17 (xRows x0 x1 x2 x3 x4 x5 x6) (View.ld x1 r0_5)
/-- The values of the forgetting attention. -/
def fvVal (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x512 .f32 :=
  k0_pay18 (xRows x0 x1 x2 x3 x4 x5 x6) (View.ld x1 r0_6)
/-- The rotated keys of the selecting attention. -/
def dkVal (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x512 .f32 :=
  k0_pay21 (xRows x0 x1 x2 x3 x4 x5 x6) (half64 x0 x1 x2 x3 x4 x5 x6) (cos64 x0 x1 x2 x3 x4 x5 x6) (sin64 x0 x1 x2 x3 x4 x5 x6) (k0_pay20 (View.ld x1 r0_8)) (constant S512x512 .f32 0x00000000#32)
/-- The values of the selecting attention. -/
def dvVal (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : FVec F S512x512 .f32 :=
  k0_pay22 (xRows x0 x1 x2 x3 x4 x5 x6) (View.ld x1 r0_9)

/-- What the body leaves in the buffer of window 7. -/
def out0_7 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x512 .bf16 :=
  View.canon [⟨r0_12, k0_pay28 (fkVal x0 x1 x2 x3 x4 x5 x6)⟩]

theorem cover0_7 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in the buffer of window 8. -/
def out0_8 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x512 .bf16 :=
  View.canon [⟨r0_12, k0_pay29 (dkVal x0 x1 x2 x3 x4 x5 x6)⟩]

theorem cover0_8 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in the buffer of window 9. -/
def out0_9 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x256 .bf16 :=
  View.canon [⟨r0_13, k0_pay30 (xRows x0 x1 x2 x3 x4 x5 x6) (half32 x0 x1 x2 x3 x4 x5 x6) (cos32 x0 x1 x2 x3 x4 x5 x6) (sin32 x0 x1 x2 x3 x4 x5 x6) (View.ld x1 r0_11)⟩]

theorem cover0_9 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

/-- What the body leaves in the buffer of window 10. -/
def out0_10 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x128 .f32 :=
  View.canon [⟨r0_1, k0_pay31 (lanes x0 x1 x2 x3 x4 x5 x6) (smallVal x0 x1 x2 x3 x4 x5 x6)⟩]

theorem cover0_10 (p0 : Vec F S512x128 .f32) (y : S512x128.Idx) :
    ∃ pc ∈ ([⟨r0_1, p0⟩] : List (View.Piece (Elt F) S512x128 .f32)), y ∈ pc.1.set :=
  View.cover_of_tiled [⟨r0_1, p0⟩] S512x128.size (by rfl) y

/-- What the body leaves in the buffer of window 11. -/
def out0_11 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x512 .bf16 :=
  View.canon [⟨r0_12, k0_pay33 (k0_pay32 (k0_pay16 (xRows x0 x1 x2 x3 x4 x5 x6) (View.ld x1 r0_4)))⟩]

theorem cover0_11 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in the buffer of window 12. -/
def out0_12 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S512x512 .bf16 :=
  View.canon [⟨r0_12, k0_pay34 (k0_pay19 (xRows x0 x1 x2 x3 x4 x5 x6) (half64 x0 x1 x2 x3 x4 x5 x6) (cos64 x0 x1 x2 x3 x4 x5 x6) (sin64 x0 x1 x2 x3 x4 x5 x6) (View.ld x1 r0_7))⟩]

theorem cover0_12 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in the buffer of window 13. -/
def out0_13 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S256x512 .bf16 :=
  View.canon [⟨r0_14, k0_pay35 (k0_pay26 (half32 x0 x1 x2 x3 x4 x5 x6) (cos32 x0 x1 x2 x3 x4 x5 x6) (sin32 x0 x1 x2 x3 x4 x5 x6) (k0_pay24 (xRows x0 x1 x2 x3 x4 x5 x6) (half32 x0 x1 x2 x3 x4 x5 x6) (cos32 x0 x1 x2 x3 x4 x5 x6) (sin32 x0 x1 x2 x3 x4 x5 x6) (View.ld x1 r0_10)) (k0_pay25 (xRows x0 x1 x2 x3 x4 x5 x6) (View.ld x1 r0_10)))⟩]

theorem cover0_13 (p0 : Vec F S256x512 .bf16) (y : S256x512.Idx) :
    ∃ pc ∈ ([⟨r0_14, p0⟩] : List (View.Piece (Elt F) S256x512 .bf16)), y ∈ pc.1.set :=
  View.cover_of_tiled [⟨r0_14, p0⟩] S256x512.size (by rfl) y

/-- What the body leaves in the buffer of window 14. -/
def out0_14 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S640x512 .bf16 :=
  View.canon [⟨r0_16, k0_pay38 (fvVal x0 x1 x2 x3 x4 x5 x6)⟩]

theorem cover0_14 (p0 : Vec F S640x512 .bf16) (y : S640x512.Idx) :
    ∃ pc ∈ ([⟨r0_16, p0⟩] : List (View.Piece (Elt F) S640x512 .bf16)), y ∈ pc.1.set :=
  View.cover_of_tiled [⟨r0_16, p0⟩] S640x512.size (by rfl) y

/-- What the body leaves in the buffer of window 15. -/
def out0_15 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S640x512 .bf16 :=
  View.canon [⟨r0_16, k0_pay1 (k0_pay41 (dvVal x0 x1 x2 x3 x4 x5 x6))⟩]

theorem cover0_15 (p0 : Vec F S640x512 .bf16) (y : S640x512.Idx) :
    ∃ pc ∈ ([⟨r0_16, p0⟩] : List (View.Piece (Elt F) S640x512 .bf16)), y ∈ pc.1.set :=
  View.cover_of_tiled [⟨r0_16, p0⟩] S640x512.size (by rfl) y

/-- What the body leaves in the buffer of window 16. -/
def out0_16 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x512x512 .f32 :=
  View.canon [⟨r0_15, k0_pay2 (fkVal x0 x1 x2 x3 x4 x5 x6)⟩]

theorem cover0_16 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

/-- What the body leaves in the buffer of window 17. -/
def out0_17 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x512x512 .f32 :=
  View.canon [⟨r0_15, k0_pay37 (fvVal x0 x1 x2 x3 x4 x5 x6)⟩]

theorem cover0_17 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

/-- What the body leaves in the buffer of window 18. -/
def out0_18 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x512x512 .f32 :=
  View.canon [⟨r0_15, k0_pay3 (dkVal x0 x1 x2 x3 x4 x5 x6)⟩]

theorem cover0_18 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

/-- What the body leaves in the buffer of window 19. -/
def out0_19 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x512x512 .f32 :=
  View.canon [⟨r0_15, k0_pay40 (dvVal x0 x1 x2 x3 x4 x5 x6)⟩]

theorem cover0_19 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

/-- What the body leaves in the buffer of window 20. -/
def out0_20 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x32x512 .f32 :=
  View.canon [⟨r0_17, k0_pay4 (k0_pay27 (xRows x0 x1 x2 x3 x4 x5 x6) (half32 x0 x1 x2 x3 x4 x5 x6) (cos32 x0 x1 x2 x3 x4 x5 x6) (sin32 x0 x1 x2 x3 x4 x5 x6) (View.ld x1 r0_11))⟩]

theorem cover0_20 (p0 : Vec F S1x32x512 .f32) (y : S1x32x512.Idx) :
    ∃ pc ∈ ([⟨r0_17, p0⟩] : List (View.Piece (Elt F) S1x32x512 .f32)), y ∈ pc.1.set :=
  View.cover_of_tiled [⟨r0_17, p0⟩] S1x32x512.size (by rfl) y

/-- What the body leaves in the buffer of window 21. -/
def out0_21 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x8x512 .f32 :=
  View.canon [⟨r0_18, k0_pay6 (smallVal x0 x1 x2 x3 x4 x5 x6)⟩]

theorem cover0_21 (p0 : Vec F S1x8x512 .f32) (y : S1x8x512.Idx) :
    ∃ pc ∈ ([⟨r0_18, p0⟩] : List (View.Piece (Elt F) S1x8x512 .f32)), y ∈ pc.1.set :=
  View.cover_of_tiled [⟨r0_18, p0⟩] S1x8x512.size (by rfl) y

/-- What the body leaves in the buffer of window 22. -/
def out0_22 (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) : Vec F S1x8x512 .f32 :=
  View.canon [⟨r0_18, k0_pay7 (smallVal x0 x1 x2 x3 x4 x5 x6)⟩]

theorem cover0_22 (p0 : Vec F S1x8x512 .f32) (y : S1x8x512.Idx) :
    ∃ pc ∈ ([⟨r0_18, p0⟩] : List (View.Piece (Elt F) S1x8x512 .f32)), y ∈ pc.1.set :=
  View.cover_of_tiled [⟨r0_18, p0⟩] S1x8x512.size (by rfl) y

set_option maxHeartbeats 1000000 in
/-- The body, run on the blocks of the seven inputs, leaves them as they are and each output at `out0_…`. -/
theorem sound_kernel (c : Dev nD) (E : Set ℕ) (i : grid0.Coords) (arg1 : Memref sig .tc .vmem S512x1024 .f32) (harg1 : arg1.IsWhole) (arg2 : Memref sig .tc .vmem S1024x3712 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S256x512 .bf16) (harg14 : arg14.IsWhole) (arg15 : Memref sig .tc .vmem S640x512 .bf16) (harg15 : arg15.IsWhole) (arg16 : Memref sig .tc .vmem S640x512 .bf16) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x32x512 .f32) (harg21 : arg21.IsWhole) (arg22 : Memref sig .tc .vmem S1x8x512 .f32) (harg22 : arg22.IsWhole) (arg23 : Memref sig .tc .vmem S1x8x512 .f32) (harg23 : arg23.IsWhole)
    (x0 : Vec F S512x1024 .f32) (x1 : Vec F S1024x3712 .bf16) (x2 : Vec F S512x128 .f32) (x3 : Vec F S512x128 .f32) (x4 : Vec F S512x128 .f32) (x5 : Vec F S512x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6) ∗ owns (c : Thread nD τ) arg20 fullShare (out0_19 x0 x1 x2 x3 x4 x5 x6) ∗ owns (c : Thread nD τ) arg21 fullShare (out0_20 x0 x1 x2 x3 x4 x5 x6) ∗ owns (c : Thread nD τ) arg22 fullShare (out0_21 x0 x1 x2 x3 x4 x5 x6) ∗ owns (c : Thread nD τ) arg23 fullShare (out0_22 x0 x1 x2 x3 x4 x5 x6)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_project_eq_skeleton]; unfold cc0_project_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-- What every buffer holds after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨19, _⟩ => out0_19 (iblk m c 0 t) (iblk m c 1 t) (iblk m c 2 t) (iblk m c 3 t) (iblk m c 4 t) (iblk m c 5 t) (iblk m c 6 t)
    | ⟨20, _⟩ => out0_20 (iblk m c 0 t) (iblk m c 1 t) (iblk m c 2 t) (iblk m c 3 t) (iblk m c 4 t) (iblk m c 5 t) (iblk m c 6 t)
    | ⟨21, _⟩ => out0_21 (iblk m c 0 t) (iblk m c 1 t) (iblk m c 2 t) (iblk m c 3 t) (iblk m c 4 t) (iblk m c 5 t) (iblk m c 6 t)
    | ⟨22, _⟩ => out0_22 (iblk m c 0 t) (iblk m c 1 t) (iblk m c 2 t) (iblk m c 3 t) (iblk m c 4 t) (iblk m c 5 t) (iblk m c 6 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- After the body at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

-- twenty-three windows are compared one by one
set_option maxHeartbeats 1000000 in
/-- The body meets its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Project

end
-- ==== Proof.Project.Mask.lean ====
/-
  The body's lane masks and its rotation of the columns, 128 at a time, read at an element.
-/
module

public import proofs.«01_k».proof.Proof.Gen.Kernel3Ideal.Skeleton
public import Idealize.ShloMosaic.Lib.Pointwise

@[expose] public section

set_option maxRecDepth 16384
set_option maxHeartbeats 1000000

noncomputable section

namespace Cert.Kernel3Ideal.Project

open Cert.Kernel3Ideal Cert.Kernel3Ideal.Gen
open Idealize.ShloMosaic Idealize.ShloMosaic.TcCoe Idealize.ShloMosaic.Tactic Idealize.ShloMosaic.Pointwise

/-- The mask of the first halves of the heads of 64 lanes. -/
theorem pay9_apply (r : Fin 512) (l : Fin 128) : k0_pay9 (ix2 r l) = if l.val % 64 < 32 then 1#1 else 0#1 := by
  pointwise [k0_pay9]
  revert l
  decide +kernel

/-- The mask of the first halves of the heads of 32 lanes. -/
theorem pay10_apply (r : Fin 512) (l : Fin 128) : k0_pay10 (ix2 r l) = if l.val % 32 < 16 then 1#1 else 0#1 := by
  pointwise [k0_pay10]
  revert l
  decide +kernel

/-- 128 columns turned: their values times the cosines, and their partners' times the sines. -/
def slab (m : IVec S512x128 1) (x y t : FVec Ideal S512x128 .f32) (n k : BitVec 32) : FVec Ideal S512x128 .f32 :=
  addf (mulf t x) (mulf (select m (dynamicRotate 1 n none t rotates_S512x128_d1) (dynamicRotate 1 k none t rotates_S512x128_d1)) y)

theorem slab_apply (m : IVec S512x128 1) (x y t : FVec Ideal S512x128 .f32) (n k : BitVec 32) (r : Fin 512) (l : Fin 128) :
    slab m x y t n k (ix2 r l)
      = t (ix2 r l) * x (ix2 r l) + (if m (ix2 r l) = 1#1
          then t (ix2 r ⟨(l.val + 128 - n.toNat % 128) % 128, Nat.mod_lt _ (by omega)⟩)
          else t (ix2 r ⟨(l.val + 128 - k.toNat % 128) % 128, Nat.mod_lt _ (by omega)⟩)) * y (ix2 r l) := by
  unfold slab
  pointwise []
  rfl

/-- The partner of column `c` among heads of 64 columns. -/
def pair64 (c : Fin 512) : Fin 512 := if h : c.val % 64 < 32 then ⟨c.val + 32, by omega⟩ else ⟨c.val - 32, by omega⟩

/-- The partner of column `c` among heads of 32 columns. -/
def pair32 (c : Fin 256) : Fin 256 := if h : c.val % 32 < 16 then ⟨c.val + 16, by omega⟩ else ⟨c.val - 16, by omega⟩

/-- All 512 columns turned. -/
def turn64 (x y : FVec Ideal S512x128 .f32) (t : FVec Ideal S512x512 .f32) : FVec Ideal S512x512 .f32 :=
  concatenate S512x512 1 [⟨S512x128, slab k0_pay9 x y (extractStridedSlice S512x128 ![0, 0] t slices_S512x512_o0_0_S512x128) 96#32 32#32⟩,
    ⟨S512x128, slab k0_pay9 x y (extractStridedSlice S512x128 ![0, 128] t slices_S512x512_o0_128_S512x128) 96#32 32#32⟩,
    ⟨S512x128, slab k0_pay9 x y (extractStridedSlice S512x128 ![0, 256] t slices_S512x512_o0_256_S512x128) 96#32 32#32⟩,
    ⟨S512x128, slab k0_pay9 x y (extractStridedSlice S512x128 ![0, 384] t slices_S512x512_o0_384_S512x128) 96#32 32#32⟩]
    concatenates_S512x128_S512x128_S512x128_S512x128_S512x512_d1

/-- All 256 columns turned. -/
def turn32 (x y : FVec Ideal S512x128 .f32) (t : FVec Ideal S512x256 .f32) : FVec Ideal S512x256 .f32 :=
  concatenate S512x256 1 [⟨S512x128, slab k0_pay10 x y (extractStridedSlice S512x128 ![0, 0] t slices_S512x256_o0_0_S512x128) 112#32 16#32⟩,
    ⟨S512x128, slab k0_pay10 x y (extractStridedSlice S512x128 ![0, 128] t slices_S512x256_o0_128_S512x128) 112#32 16#32⟩]
    concatenates_S512x128_S512x128_S512x256_d1

/-- 128 of the columns turned, read back: the partner lies among the same 128. -/
theorem slab64_apply (x y t : FVec Ideal S512x128 .f32) (u : FVec Ideal S512x512 .f32) (o : ℕ) (ho : o % 128 = 0) (r : Fin 512) (l : Fin 128) (hl : o + l.val < 512)
    (ht : ∀ (k : Fin 128) (h : o + k.val < 512), t (ix2 r k) = u (ix2 r ⟨o + k.val, h⟩)) :
    slab k0_pay9 x y t 96#32 32#32 (ix2 r l) = u (ix2 r ⟨o + l.val, hl⟩) * x (ix2 r l) + u (ix2 r (pair64 ⟨o + l.val, hl⟩)) * y (ix2 r l) := by
  rw [slab_apply, pay9_apply, ht l hl]
  have hl' := l.isLt
  by_cases h : l.val % 64 < 32
  · have h' : (o + l.val) % 64 < 32 := by omega
    rw [if_pos h, if_pos rfl, ht _ (by show o + (l.val + 128 - 96 % 128) % 128 < 512; omega), pair64, dif_pos h']
    refine congrArg (fun c => _ + u (ix2 r c) * _) (Fin.ext ?_)
    show o + (l.val + 128 - 96 % 128) % 128 = o + l.val + 32
    omega
  · have h' : ¬ (o + l.val) % 64 < 32 := by omega
    rw [if_neg h, if_neg (by decide), ht _ (by show o + (l.val + 128 - 32 % 128) % 128 < 512; omega), pair64, dif_neg h']
    refine congrArg (fun c => _ + u (ix2 r c) * _) (Fin.ext ?_)
    show o + (l.val + 128 - 32 % 128) % 128 = o + l.val - 32
    omega

theorem slab32_apply (x y t : FVec Ideal S512x128 .f32) (u : FVec Ideal S512x256 .f32) (o : ℕ) (ho : o % 128 = 0) (r : Fin 512) (l : Fin 128) (hl : o + l.val < 256)
    (ht : ∀ (k : Fin 128) (h : o + k.val < 256), t (ix2 r k) = u (ix2 r ⟨o + k.val, h⟩)) :
    slab k0_pay10 x y t 112#32 16#32 (ix2 r l) = u (ix2 r ⟨o + l.val, hl⟩) * x (ix2 r l) + u (ix2 r (pair32 ⟨o + l.val, hl⟩)) * y (ix2 r l) := by
  rw [slab_apply, pay10_apply, ht l hl]
  have hl' := l.isLt
  by_cases h : l.val % 32 < 16
  · have h' : (o + l.val) % 32 < 16 := by omega
    rw [if_pos h, if_pos rfl, ht _ (by show o + (l.val + 128 - 112 % 128) % 128 < 256; omega), pair32, dif_pos h']
    refine congrArg (fun c => _ + u (ix2 r c) * _) (Fin.ext ?_)
    show o + (l.val + 128 - 112 % 128) % 128 = o + l.val + 16
    omega
  · have h' : ¬ (o + l.val) % 32 < 16 := by omega
    rw [if_neg h, if_neg (by decide), ht _ (by show o + (l.val + 128 - 16 % 128) % 128 < 256; omega), pair32, dif_neg h']
    refine congrArg (fun c => _ + u (ix2 r c) * _) (Fin.ext ?_)
    show o + (l.val + 128 - 16 % 128) % 128 = o + l.val - 16
    omega

theorem turn32_apply (x y : FVec Ideal S512x128 .f32) (t : FVec Ideal S512x256 .f32) (r : Fin 512) (c : Fin 256) (l : Fin 128) (hl : l.val = c.val % 128) :
    turn32 x y t (ix2 r c) = t (ix2 r c) * x (ix2 r l) + t (ix2 r (pair32 c)) * y (ix2 r l) := by
  have cl := c.isLt
  by_cases h0 : c.val < 128
  · refine (?_ : _ = slab k0_pay10 x y (extractStridedSlice S512x128 ![0, 0] t slices_S512x256_o0_0_S512x128) 112#32 16#32 (ix2 r l)).trans ?_
    · unfold turn32
      pointwise []
      repeat' split
      all_goals first | omega | rfl | exact congrArg (fun z => slab _ _ _ _ _ _ (ix2 r z)) (Fin.ext (by dsimp only; omega))
    · refine (slab32_apply x y _ t 0 rfl r l (by omega) fun k h => by pointwise []).trans ?_
      have e : (⟨0 + l.val, by omega⟩ : Fin 256) = c := Fin.ext (by show 0 + l.val = c.val; omega)
      rw [e]
  · skip
    refine (?_ : _ = slab k0_pay10 x y (extractStridedSlice S512x128 ![0, 128] t slices_S512x256_o0_128_S512x128) 112#32 16#32 (ix2 r l)).trans ?_
    · unfold turn32
      pointwise []
      repeat' split
      all_goals first | omega | rfl | exact congrArg (fun z => slab _ _ _ _ _ _ (ix2 r z)) (Fin.ext (by dsimp only; omega))
    · refine (slab32_apply x y _ t 128 rfl r l (by omega) fun k h => by pointwise []).trans ?_
      have e : (⟨128 + l.val, by omega⟩ : Fin 256) = c := Fin.ext (by show 128 + l.val = c.val; omega)
      rw [e]

theorem turn64_apply (x y : FVec Ideal S512x128 .f32) (t : FVec Ideal S512x512 .f32) (r : Fin 512) (c : Fin 512) (l : Fin 128) (hl : l.val = c.val % 128) :
    turn64 x y t (ix2 r c) = t (ix2 r c) * x (ix2 r l) + t (ix2 r (pair64 c)) * y (ix2 r l) := by
  have cl := c.isLt
  by_cases h0 : c.val < 128
  · refine (?_ : _ = slab k0_pay9 x y (extractStridedSlice S512x128 ![0, 0] t slices_S512x512_o0_0_S512x128) 96#32 32#32 (ix2 r l)).trans ?_
    · unfold turn64
      pointwise []
      repeat' split
      all_goals first | omega | rfl | exact congrArg (fun z => slab _ _ _ _ _ _ (ix2 r z)) (Fin.ext (by dsimp only; omega))
    · refine (slab64_apply x y _ t 0 rfl r l (by omega) fun k h => by pointwise []).trans ?_
      have e : (⟨0 + l.val, by omega⟩ : Fin 512) = c := Fin.ext (by show 0 + l.val = c.val; omega)
      rw [e]
  · skip
    by_cases h1 : c.val < 256
    · refine (?_ : _ = slab k0_pay9 x y (extractStridedSlice S512x128 ![0, 128] t slices_S512x512_o0_128_S512x128) 96#32 32#32 (ix2 r l)).trans ?_
      · unfold turn64
        pointwise []
        repeat' split
        all_goals first | omega | rfl | exact congrArg (fun z => slab _ _ _ _ _ _ (ix2 r z)) (Fin.ext (by dsimp only; omega))
      · refine (slab64_apply x y _ t 128 rfl r l (by omega) fun k h => by pointwise []).trans ?_
        have e : (⟨128 + l.val, by omega⟩ : Fin 512) = c := Fin.ext (by show 128 + l.val = c.val; omega)
        rw [e]
    · skip
      by_cases h2 : c.val < 384
      · refine (?_ : _ = slab k0_pay9 x y (extractStridedSlice S512x128 ![0, 256] t slices_S512x512_o0_256_S512x128) 96#32 32#32 (ix2 r l)).trans ?_
        · unfold turn64
          pointwise []
          repeat' split
          all_goals first | omega | rfl | exact congrArg (fun z => slab _ _ _ _ _ _ (ix2 r z)) (Fin.ext (by dsimp only; omega))
        · refine (slab64_apply x y _ t 256 rfl r l (by omega) fun k h => by pointwise []).trans ?_
          have e : (⟨256 + l.val, by omega⟩ : Fin 512) = c := Fin.ext (by show 256 + l.val = c.val; omega)
          rw [e]
      · skip
        refine (?_ : _ = slab k0_pay9 x y (extractStridedSlice S512x128 ![0, 384] t slices_S512x512_o0_384_S512x128) 96#32 32#32 (ix2 r l)).trans ?_
        · unfold turn64
          pointwise []
          repeat' split
          all_goals first | omega | rfl | exact congrArg (fun z => slab _ _ _ _ _ _ (ix2 r z)) (Fin.ext (by dsimp only; omega))
        · refine (slab64_apply x y _ t 384 rfl r l (by omega) fun k h => by pointwise []).trans ?_
          have e : (⟨384 + l.val, by omega⟩ : Fin 512) = c := Fin.ext (by show 384 + l.val = c.val; omega)
          rw [e]

end Cert.Kernel3Ideal.Project

end
-- ==== Proof.Project.Body.lean ====
/-
  What one block of the projection kernel writes, read at an element.
-/
module

public import proofs.«01_k».proof.Proof.Project.FrameKernel3Ideal
public import proofs.«01_k».proof.Proof.Project.Mask
public import Idealize.ShloMosaic.Lib.Pipeline.ValueKit
public import Idealize.ShloMosaic.Lib.Pointwise

@[expose] public section

set_option maxRecDepth 16384
set_option maxHeartbeats 1000000

noncomputable section

namespace Cert.Kernel3Ideal.Project

open Cert.Kernel3Ideal Cert.Kernel3Ideal.Gen
open Idealize.ShloMosaic Idealize.ShloMosaic.TcCoe Idealize.ShloMosaic.Tactic Idealize.ShloMosaic.Pointwise

variable (x0 : Vec Ideal S512x1024 .f32) (x1 : Vec Ideal S1024x3712 .bf16) (x2 x3 x4 x5 : Vec Ideal S512x128 .f32) (x6 : Vec Ideal S1x128 .f32)

/-- Column `n` of the product of a block's row `r`. -/
def prod (r : Fin 512) (n : Fin 3712) : EReal := ∑ k : Fin 1024, x0 (ix2 r k) * x1 (ix2 k n)

/-- A column of a product, turned: itself times the cosine, and its partner times the signed sine. -/
def turned (t c t' s : EReal) : EReal := t * c + t' * s

/-- 512 columns of the product, by their weights. -/
def prod512 (w : Vec Ideal S1024x512 .bf16) : FVec Ideal S512x512 .f32 := k0_pay18 (xRows x0 x1 x2 x3 x4 x5 x6) w

/-- 256 columns of the product, by their weights. -/
def prod256 (w : Vec Ideal S1024x256 .bf16) : FVec Ideal S512x256 .f32 := k0_pay23 (xRows x0 x1 x2 x3 x4 x5 x6) w

theorem prod512_apply (w : Vec Ideal S1024x512 .bf16) (r c : Fin 512) :
    prod512 x0 x1 x2 x3 x4 x5 x6 w (ix2 r c) = ∑ k : Fin 1024, View.ld x0 r0_0 (ix2 r k) * w (ix2 k c) := by
  unfold prod512 xRows
  pointwise [k0_pay18, k0_pay8]

theorem prod256_apply (w : Vec Ideal S1024x256 .bf16) (r : Fin 512) (c : Fin 256) :
    prod256 x0 x1 x2 x3 x4 x5 x6 w (ix2 r c) = ∑ k : Fin 1024, View.ld x0 r0_0 (ix2 r k) * w (ix2 k c) := by
  unfold prod256 xRows
  pointwise [k0_pay23, k0_pay8]

theorem ld_rows (r : Fin 512) (k : Fin 1024) : View.ld x0 r0_0 (ix2 r k) = x0 (ix2 r k) :=
  View.ld_unit_apply_of x0 _ _ _ (ix2 r k) (ix2 r k) fun a => by
    fin_cases a
    · exact (Nat.zero_add _).symm
    · exact (Nat.zero_add _).symm

theorem ld_lanes (x : Vec Ideal S512x128 .f32) (r : Fin 512) (l : Fin 128) : View.ld x r0_1 (ix2 r l) = x (ix2 r l) :=
  View.ld_unit_apply_of x _ _ _ (ix2 r l) (ix2 r l) fun a => by
    fin_cases a
    · exact (Nat.zero_add _).symm
    · exact (Nat.zero_add _).symm

theorem ld_bias (l : Fin 128) : View.ld x6 r0_3 (ix2 0 l) = x6 (ix2 0 l) :=
  View.ld_unit_apply_of x6 _ _ _ (ix2 0 l) (ix2 0 l) fun a => by
    fin_cases a
    · exact (Nat.zero_add _).symm
    · exact (Nat.zero_add _).symm

theorem ld_cols {w : ℕ} (o : ℕ) (inb) (k : Fin 1024) (c : Fin w) (n : Fin 3712) (hn : n.val = o + c.val) :
    View.ld x1 (Rect.unit (s := S1024x3712) ![0, o] ![1024, w] inb) (ix2 k c) = x1 (ix2 k n) :=
  View.ld_unit_apply_of x1 _ _ _ (ix2 k c) (ix2 k n) fun a => by
    fin_cases a
    · exact (Nat.zero_add _).symm
    · exact hn

theorem cols512 (o : ℕ) (inb) (r c : Fin 512) (n : Fin 3712) (hn : n.val = o + c.val) :
    prod512 x0 x1 x2 x3 x4 x5 x6 (View.ld x1 (Rect.unit (s := S1024x3712) ![0, o] ![1024, 512] inb)) (ix2 r c) = prod x0 x1 r n := by
  rw [prod512_apply]
  exact Finset.sum_congr rfl fun k _ => by rw [ld_rows, ld_cols x1 o inb k c n hn]

theorem cols256 (o : ℕ) (inb) (r : Fin 512) (c : Fin 256) (n : Fin 3712) (hn : n.val = o + c.val) :
    prod256 x0 x1 x2 x3 x4 x5 x6 (View.ld x1 (Rect.unit (s := S1024x3712) ![0, o] ![1024, 256] inb)) (ix2 r c) = prod x0 x1 r n := by
  rw [prod256_apply]
  exact Finset.sum_congr rfl fun k _ => by rw [ld_rows, ld_cols x1 o inb k c n hn]

/-- The turned queries, with the attention's scale. -/
theorem pay19_eq (w : Vec Ideal S1024x512 .bf16) : k0_pay19 (xRows x0 x1 x2 x3 x4 x5 x6) (half64 x0 x1 x2 x3 x4 x5 x6) (Project.cos64 x0 x1 x2 x3 x4 x5 x6) (Project.sin64 x0 x1 x2 x3 x4 x5 x6) w
    = mulf (turn64 (Project.cos64 x0 x1 x2 x3 x4 x5 x6) (Project.sin64 x0 x1 x2 x3 x4 x5 x6) (prod512 x0 x1 x2 x3 x4 x5 x6 w)) (broadcast S512x512 (Scalar.ofBits .f32 0x3E38AA3B#32)) := rfl

theorem dkVal_eq : dkVal x0 x1 x2 x3 x4 x5 x6
    = turn64 (Project.cos64 x0 x1 x2 x3 x4 x5 x6) (Project.sin64 x0 x1 x2 x3 x4 x5 x6) (prod512 x0 x1 x2 x3 x4 x5 x6 (View.ld x1 r0_8)) := rfl

theorem iq_eq : k0_pay26 (half32 x0 x1 x2 x3 x4 x5 x6) (Project.cos32 x0 x1 x2 x3 x4 x5 x6) (Project.sin32 x0 x1 x2 x3 x4 x5 x6)
      (k0_pay24 (xRows x0 x1 x2 x3 x4 x5 x6) (half32 x0 x1 x2 x3 x4 x5 x6) (Project.cos32 x0 x1 x2 x3 x4 x5 x6) (Project.sin32 x0 x1 x2 x3 x4 x5 x6) (View.ld x1 r0_10))
      (k0_pay25 (xRows x0 x1 x2 x3 x4 x5 x6) (View.ld x1 r0_10))
    = turn32 (Project.cos32 x0 x1 x2 x3 x4 x5 x6) (Project.sin32 x0 x1 x2 x3 x4 x5 x6) (prod256 x0 x1 x2 x3 x4 x5 x6 (View.ld x1 r0_10)) := rfl

theorem ik_eq : k0_pay27 (xRows x0 x1 x2 x3 x4 x5 x6) (half32 x0 x1 x2 x3 x4 x5 x6) (Project.cos32 x0 x1 x2 x3 x4 x5 x6) (Project.sin32 x0 x1 x2 x3 x4 x5 x6) (View.ld x1 r0_11)
    = turn32 (Project.cos32 x0 x1 x2 x3 x4 x5 x6) (Project.sin32 x0 x1 x2 x3 x4 x5 x6) (prod256 x0 x1 x2 x3 x4 x5 x6 (View.ld x1 r0_11)) := rfl

theorem cos64_apply (r : Fin 512) (l : Fin 128) : Project.cos64 x0 x1 x2 x3 x4 x5 x6 (ix2 r l) = x2 (ix2 r l) := by
  unfold Project.cos64
  pointwise [k0_pay11]

theorem sin64_apply (r : Fin 512) (l : Fin 128) : Project.sin64 x0 x1 x2 x3 x4 x5 x6 (ix2 r l) = x3 (ix2 r l) := by
  unfold Project.sin64
  pointwise [k0_pay12]

theorem cos32_apply (r : Fin 512) (l : Fin 128) : Project.cos32 x0 x1 x2 x3 x4 x5 x6 (ix2 r l) = x4 (ix2 r l) := by
  unfold Project.cos32
  pointwise [k0_pay13]

theorem sin32_apply (r : Fin 512) (l : Fin 128) : Project.sin32 x0 x1 x2 x3 x4 x5 x6 (ix2 r l) = x5 (ix2 r l) := by
  unfold Project.sin32
  pointwise [k0_pay14]

/-- Lane `l` of the last 128 columns: the forget gates, then the indexer's weights. -/
theorem small_apply (r : Fin 512) (l : Fin 128) (n : Fin 3712) (hn : n.val = 3584 + l.val) : smallVal x0 x1 x2 x3 x4 x5 x6 (ix2 r l)
    = if l.val < 24 then min (prod x0 x1 r n + x6 (ix2 0 l)) 0 - Ideal.log1p (Ideal.exp (0 - max (prod x0 x1 r n + x6 (ix2 0 l)) (-(prod x0 x1 r n + x6 (ix2 0 l)))))
      else if l.val < 32 then prod x0 x1 r n * Ideal.ofBits .f32 0x3D800000#32 else 0 := by
  have h24 : IntOp.cmpi .slt (BitVec.ofNat 32 l.val) 24#32 = if l.val < 24 then 1#1 else 0#1 := by
    clear hn
    revert l
    decide +kernel
  have h32 : IntOp.cmpi .slt (BitVec.ofNat 32 l.val) 32#32 = if l.val < 32 then 1#1 else 0#1 := by
    clear hn h24
    revert l
    decide +kernel
  unfold smallVal xRows lanes
  have en : n = ⟨3584 + l.val, by omega⟩ := Fin.ext hn
  rw [en]
  pointwise [k0_pay15, k0_pay8]
  rw [h24, h32]
  by_cases h : l.val < 24
  · rw [if_pos h, if_pos h]
    rfl
  · rw [if_neg h, if_neg h]
    by_cases h' : l.val < 32
    · rw [if_pos h', if_pos h']
      rfl
    · rw [if_neg h', if_neg h']
      rfl

theorem out11_apply (c r : Fin 512) : out0_11 x0 x1 x2 x3 x4 x5 x6 (ix2 c r) = prod x0 x1 r ⟨0 + c.val, by omega⟩ * Ideal.ofBits .f32 0x3E38AA3B#32 := by
  have e : k0_pay16 (xRows x0 x1 x2 x3 x4 x5 x6) (View.ld x1 r0_4) = mulf (prod512 x0 x1 x2 x3 x4 x5 x6 (View.ld x1 r0_4)) (broadcast S512x512 (Scalar.ofBits .f32 0x3E38AA3B#32)) := rfl
  rw [← cols512 x0 x1 x2 x3 x4 x5 x6 0 inb_S1024x3712_S1024x512_0_0 r c _ rfl]
  unfold out0_11
  frame_out
  rw [e]
  pointwise [k0_pay33, k0_pay32]

theorem out12_apply (c r : Fin 512) (l : Fin 128) (hl : l.val = c.val % 128) : out0_12 x0 x1 x2 x3 x4 x5 x6 (ix2 c r)
    = turned (prod x0 x1 r ⟨1536 + c.val, by omega⟩) (x2 (ix2 r l)) (prod x0 x1 r ⟨1536 + (pair64 c).val, by omega⟩) (x3 (ix2 r l)) * Ideal.ofBits .f32 0x3E38AA3B#32 := by
  rw [← cols512 x0 x1 x2 x3 x4 x5 x6 1536 inb_S1024x3712_S1024x512_0_1536 r c _ rfl, ← cols512 x0 x1 x2 x3 x4 x5 x6 1536 inb_S1024x3712_S1024x512_0_1536 r (pair64 c) _ rfl]
  unfold out0_12
  frame_out
  rw [pay19_eq]
  pointwise [k0_pay34]
  rw [turn64_apply _ _ _ r c l hl, cos64_apply, sin64_apply]
  rfl

theorem out13_apply (c : Fin 256) (r : Fin 512) (l : Fin 128) (hl : l.val = c.val % 128) : out0_13 x0 x1 x2 x3 x4 x5 x6 (ix2 c r)
    = turned (prod x0 x1 r ⟨3072 + c.val, by omega⟩) (x4 (ix2 r l)) (prod x0 x1 r ⟨3072 + (pair32 c).val, by omega⟩) (x5 (ix2 r l)) := by
  rw [← cols256 x0 x1 x2 x3 x4 x5 x6 3072 inb_S1024x3712_S1024x256_0_3072 r c _ rfl, ← cols256 x0 x1 x2 x3 x4 x5 x6 3072 inb_S1024x3712_S1024x256_0_3072 r (pair32 c) _ rfl]
  unfold out0_13
  frame_out
  rw [iq_eq]
  pointwise [k0_pay35]
  rw [turn32_apply _ _ _ r c l hl, cos32_apply, sin32_apply]
  rfl

theorem out18_apply (c r : Fin 512) (l : Fin 128) (hl : l.val = c.val % 128) : out0_18 x0 x1 x2 x3 x4 x5 x6 (ix3 0 c r)
    = turned (prod x0 x1 r ⟨2048 + c.val, by omega⟩) (x2 (ix2 r l)) (prod x0 x1 r ⟨2048 + (pair64 c).val, by omega⟩) (x3 (ix2 r l)) := by
  rw [← cols512 x0 x1 x2 x3 x4 x5 x6 2048 inb_S1024x3712_S1024x512_0_2048 r c _ rfl, ← cols512 x0 x1 x2 x3 x4 x5 x6 2048 inb_S1024x3712_S1024x512_0_2048 r (pair64 c) _ rfl]
  unfold out0_18
  frame_out
  rw [dkVal_eq]
  pointwise [k0_pay3]
  rw [turn64_apply _ _ _ r c l hl, cos64_apply, sin64_apply]
  rfl

theorem out20_apply (p : Fin 32) (r : Fin 512) (c : Fin 256) (hc : c.val = p.val) (l : Fin 128) (hl : l.val = c.val % 128) : out0_20 x0 x1 x2 x3 x4 x5 x6 (ix3 0 p r)
    = turned (prod x0 x1 r ⟨3328 + c.val, by omega⟩) (x4 (ix2 r l)) (prod x0 x1 r ⟨3328 + (pair32 c).val, by omega⟩) (x5 (ix2 r l)) := by
  rw [← cols256 x0 x1 x2 x3 x4 x5 x6 3328 inb_S1024x3712_S1024x256_0_3328 r c _ rfl, ← cols256 x0 x1 x2 x3 x4 x5 x6 3328 inb_S1024x3712_S1024x256_0_3328 r (pair32 c) _ rfl]
  have ec : (⟨p.val, by omega⟩ : Fin 256) = c := Fin.ext hc.symm
  unfold out0_20
  frame_out
  rw [ik_eq]
  pointwise [k0_pay4]
  rw [ec, turn32_apply _ _ _ r c l hl, cos32_apply, sin32_apply]
  rfl

theorem out16_apply (c r : Fin 512) : out0_16 x0 x1 x2 x3 x4 x5 x6 (ix3 0 c r) = prod x0 x1 r ⟨512 + c.val, by omega⟩ := by
  have e : fkVal x0 x1 x2 x3 x4 x5 x6 = prod512 x0 x1 x2 x3 x4 x5 x6 (View.ld x1 r0_5) := rfl
  rw [← cols512 x0 x1 x2 x3 x4 x5 x6 512 inb_S1024x3712_S1024x512_0_512 r c _ rfl]
  unfold out0_16
  frame_out
  rw [e]
  pointwise [k0_pay2]

theorem out17_apply (c r : Fin 512) : out0_17 x0 x1 x2 x3 x4 x5 x6 (ix3 0 c r) = prod x0 x1 r ⟨1024 + c.val, by omega⟩ := by
  have e : fvVal x0 x1 x2 x3 x4 x5 x6 = prod512 x0 x1 x2 x3 x4 x5 x6 (View.ld x1 r0_6) := rfl
  rw [← cols512 x0 x1 x2 x3 x4 x5 x6 1024 inb_S1024x3712_S1024x512_0_1024 r c _ rfl]
  unfold out0_17
  frame_out
  rw [e]
  pointwise [k0_pay37, k0_pay36]

theorem out19_apply (c r : Fin 512) : out0_19 x0 x1 x2 x3 x4 x5 x6 (ix3 0 c r) = prod x0 x1 r ⟨2560 + c.val, by omega⟩ := by
  have e : dvVal x0 x1 x2 x3 x4 x5 x6 = prod512 x0 x1 x2 x3 x4 x5 x6 (View.ld x1 r0_9) := rfl
  rw [← cols512 x0 x1 x2 x3 x4 x5 x6 2560 inb_S1024x3712_S1024x512_0_2560 r c _ rfl]
  unfold out0_19
  frame_out
  rw [e]
  pointwise [k0_pay40, k0_pay39]

theorem out21_apply (h : Fin 8) (r : Fin 512) : out0_21 x0 x1 x2 x3 x4 x5 x6 (ix3 0 h r) = smallVal x0 x1 x2 x3 x4 x5 x6 (ix2 r ⟨0 + h.val, by omega⟩) := by
  unfold out0_21
  frame_out
  pointwise [k0_pay6, k0_pay5]

theorem out22_apply (h : Fin 8) (r : Fin 512) : out0_22 x0 x1 x2 x3 x4 x5 x6 (ix3 0 h r) = smallVal x0 x1 x2 x3 x4 x5 x6 (ix2 r ⟨24 + h.val, by omega⟩) := by
  unfold out0_22
  frame_out
  pointwise [k0_pay7, k0_pay5]

end Cert.Kernel3Ideal.Project

end
-- ==== Proof.Project.Ref.lean ====
/-
  The plain projections, read at an element: a column of the product, turned by the position where the layer turns it.
-/
module

public import proofs.«01_k».proof.Proof.Gen.Reference3Ideal.Read
public import Idealize.ShloMosaic.Lib.Pointwise

@[expose] public section

set_option maxRecDepth 16384
set_option maxHeartbeats 1000000

noncomputable section

namespace Cert.Reference3Ideal.Project

open Cert.Reference3Ideal Cert.Reference3Ideal.Read
open Idealize.ShloMosaic Idealize.ShloMosaic.TcCoe Idealize.ShloMosaic.Tactic Idealize.ShloMosaic.Pointwise

/-- Column `n` of the product, for one token. -/
def col (x : Fin 1024 → EReal) (w : Fin 1024 → Fin 3376 → EReal) (n : Fin 3376) : EReal := ∑ k, x k * w k n

/-- The cosine and the sine for position `i` and frequency `p` of the heads of 64. -/
def cos64 (i : Fin 4096) (p : Fin 32) : EReal := val_main_v29 (F := Ideal) (ix2 i p)
def sin64 (i : Fin 4096) (p : Fin 32) : EReal := val_main_v31 (F := Ideal) (ix2 i p)

/-- And of the heads of 32. -/
def cos32 (i : Fin 4096) (p : Fin 16) : EReal := val_main_v89 (F := Ideal) (ix2 i p)
def sin32 (i : Fin 4096) (p : Fin 16) : EReal := val_main_v91 (F := Ideal) (ix2 i p)

/-- A head of 64 columns turned: the first half by subtraction, the second by addition. -/
def rope64 (g : Fin 64 → EReal) (i : Fin 4096) (p : Fin 64) : EReal :=
  if h : p.val < 32 then g p * cos64 i ⟨p.val, h⟩ - g ⟨32 + p.val, by omega⟩ * sin64 i ⟨p.val, h⟩
  else g ⟨32 + (p.val - 32), by omega⟩ * cos64 i ⟨p.val - 32, by omega⟩ + g ⟨p.val - 32, by omega⟩ * sin64 i ⟨p.val - 32, by omega⟩

/-- A head of 32 columns turned. -/
def rope32 (g : Fin 32 → EReal) (i : Fin 4096) (p : Fin 32) : EReal :=
  if h : p.val < 16 then g p * cos32 i ⟨p.val, h⟩ - g ⟨16 + p.val, by omega⟩ * sin32 i ⟨p.val, h⟩
  else g ⟨16 + (p.val - 16), by omega⟩ * cos32 i ⟨p.val - 16, by omega⟩ + g ⟨p.val - 16, by omega⟩ * sin32 i ⟨p.val - 16, by omega⟩

variable (x0 : (⟨S4x4096x1024, .f32⟩ : BufTy).Contents (Elt Ideal)) (x1 : (⟨S1024x3376, .f32⟩ : BufTy).Contents (Elt Ideal))
  (x2 : (⟨S8, .f32⟩ : BufTy).Contents (Elt Ideal))

/-- The product of token `(b, i)`. -/
abbrev tok (b : Fin 4) (i : Fin 4096) (n : Fin 3376) : EReal := col (fun k => x0 (ix3 b i k)) (fun k n => x1 (ix2 k n)) n

theorem v1_apply (b : Fin 4) (i : Fin 4096) (n : Fin 3376) : val_main_v1 (F := Ideal) x0 x1 (ix3 b i n) = tok x0 x1 b i n := by
  unfold tok col
  pointwise [val_main_v1]

theorem v152_apply (b : Fin 4) (c : Fin 512) (i : Fin 4096) : val_main_v152 (F := Ideal) x0 x1 (ix3 b c i) = tok x0 x1 b i ⟨512 + c.val, by omega⟩ := by
  rw [← v1_apply]
  pointwise [val_main_v152, val_main_v3]

theorem v153_apply (b : Fin 4) (c : Fin 512) (i : Fin 4096) : val_main_v153 (F := Ideal) x0 x1 (ix3 b c i) = tok x0 x1 b i ⟨1024 + c.val, by omega⟩ := by
  rw [← v1_apply]
  pointwise [val_main_v153, val_main_v4]

theorem v156_apply (b : Fin 4) (c : Fin 512) (i : Fin 4096) : val_main_v156 (F := Ideal) x0 x1 (ix3 b c i) = tok x0 x1 b i ⟨2568 + c.val, by omega⟩ := by
  rw [← v1_apply]
  pointwise [val_main_v156, val_main_v8]

theorem v159_apply (b : Fin 4) (c : Fin 8) (i : Fin 4096) : val_main_v159 (F := Ideal) x0 x1 (ix3 b c i)
    = tok x0 x1 b i ⟨3368 + c.val, by omega⟩ * Ideal.ofBits .f32 0x3D800000#32 := by
  rw [← v1_apply]
  pointwise [val_main_v159, val_main_v138, val_main_v11, val_main_v137, val_main_cst_7]

/-- A token's number gives its batch and its position. -/
theorem split_row (b : Fin 4) (i : Fin 4096) (r : Fin 16384) (hr : r.val = b.val * 4096 + i.val) :
    (⟨r.val / 4096, by omega⟩ : Fin 4) = b ∧ (⟨r.val % 4096, by omega⟩ : Fin 4096) = i :=
  ⟨Fin.ext (by show r.val / 4096 = b.val; omega), Fin.ext (by show r.val % 4096 = i.val; omega)⟩

/-- A column's number gives its head and its place there. -/
theorem split_col {n k : ℕ} (a : Fin 8) (p : Fin k) (c : Fin n) (hc : c.val = a.val * k + p.val) (h : c.val / k < 8) (h' : c.val % k < k) :
    (⟨c.val / k, h⟩ : Fin 8) = a ∧ (⟨c.val % k, h'⟩ : Fin k) = p := by
  have hk : 0 < k := by have := p.isLt; omega
  refine ⟨Fin.ext ?_, Fin.ext ?_⟩
  · show c.val / k = a.val
    rw [hc, Nat.add_comm, Nat.add_mul_div_right _ _ hk, Nat.div_eq_of_lt p.isLt, Nat.zero_add]
  · show c.val % k = p.val
    rw [hc, Nat.add_comm, Nat.add_mul_mod_self_right, Nat.mod_eq_of_lt p.isLt]

theorem v143_apply (b : Fin 4) (c : Fin 512) (i : Fin 4096) (r : Fin 16384) (hr : r.val = b.val * 4096 + i.val) :
    val_main_v143 (F := Ideal) x0 x1 (ix2 c r) = tok x0 x1 b i ⟨c.val, by omega⟩ * Ideal.ofBits .f32 0x3E38AA3B#32 := by
  rw [← v1_apply]
  obtain ⟨eb, ei⟩ := split_row b i r hr
  pointwise [val_main_v143, val_main_v142, val_main_v141, val_main_v140, val_main_cst_8, val_main_v139, val_main_v2]
  rw [eb, ei]

/-- The turned queries, by head. -/
theorem v45_apply (b : Fin 4) (i : Fin 4096) (a : Fin 8) (p : Fin 64) : val_main_v45 (F := Ideal) x0 x1 (ix4 b i a p)
    = rope64 (fun p => tok x0 x1 b i ⟨1544 + (a.val * 64 + p.val), by omega⟩) i p := by
  have e (p : Fin 64) : val_main_v16 (F := Ideal) x0 x1 (ix4 b i a p) = tok x0 x1 b i ⟨1544 + (a.val * 64 + p.val), by omega⟩ := by
    rw [← v1_apply]
    pointwise [val_main_v16, val_main_v6]
  simp only [← e]
  unfold rope64 cos64 sin64
  pointwise [val_main_v45, val_main_v44, val_main_v43, val_main_v42, val_main_v41, val_main_v40, val_main_v39, val_main_v38, val_main_v37, val_main_v36, val_main_v35, val_main_v34, val_main_v33, val_main_v32, val_main_v30]

/-- The queries and the keys turn by the same angles. -/
theorem angle64 : val_main_v58 (F := Ideal) = val_main_v28 := by
  unfold val_main_v58 val_main_v57 val_main_v56 val_main_v55 val_main_v54 val_main_v53 val_main_v52 val_main_v51 val_main_v50 val_main_v49 val_main_v48 val_main_v47 val_main_cst_1 val_main_cst_2 val_main_v28 val_main_v27 val_main_v26 val_main_v25 val_main_v24 val_main_v23 val_main_v22 val_main_v21 val_main_v20 val_main_v19 val_main_v18 val_main_v17 val_main_cst val_main_cst_0
  rfl

theorem angle32 : val_main_v118 (F := Ideal) = val_main_v88 := by
  unfold val_main_v118 val_main_v117 val_main_v116 val_main_v115 val_main_v114 val_main_v113 val_main_v112 val_main_v111 val_main_v110 val_main_v109 val_main_v108 val_main_v107 val_main_cst_5 val_main_cst_6 val_main_v88 val_main_v87 val_main_v86 val_main_v85 val_main_v84 val_main_v83 val_main_v82 val_main_v81 val_main_v80 val_main_v79 val_main_v78 val_main_v77 val_main_cst_3 val_main_cst_4
  rfl

theorem cosine64 : val_main_v59 (F := Ideal) = val_main_v29 := by unfold val_main_v59 val_main_v29; rw [angle64]

theorem sine64 : val_main_v61 (F := Ideal) = val_main_v31 := by unfold val_main_v61 val_main_v31; rw [angle64]

theorem cosine32 : val_main_v119 (F := Ideal) = val_main_v89 := by unfold val_main_v119 val_main_v89; rw [angle32]

theorem sine32 : val_main_v121 (F := Ideal) = val_main_v91 := by unfold val_main_v121 val_main_v91; rw [angle32]

/-- The turned keys, by head. -/
theorem v75_apply (b : Fin 4) (i : Fin 4096) (a : Fin 8) (p : Fin 64) : val_main_v75 (F := Ideal) x0 x1 (ix4 b i a p)
    = rope64 (fun p => tok x0 x1 b i ⟨2056 + (a.val * 64 + p.val), by omega⟩) i p := by
  have e (p : Fin 64) : val_main_v46 (F := Ideal) x0 x1 (ix4 b i a p) = tok x0 x1 b i ⟨2056 + (a.val * 64 + p.val), by omega⟩ := by
    rw [← v1_apply]
    pointwise [val_main_v46, val_main_v7]
  simp only [← e]
  unfold rope64 cos64 sin64
  rw [← cosine64, ← sine64]
  pointwise [val_main_v75, val_main_v74, val_main_v73, val_main_v72, val_main_v71, val_main_v70, val_main_v69, val_main_v68, val_main_v67, val_main_v66, val_main_v65, val_main_v64, val_main_v63, val_main_v62, val_main_v60]

/-- The turned indexer queries, by head. -/
theorem v105_apply (b : Fin 4) (i : Fin 4096) (a : Fin 8) (p : Fin 32) : val_main_v105 (F := Ideal) x0 x1 (ix4 b i a p)
    = rope32 (fun p => tok x0 x1 b i ⟨3080 + (a.val * 32 + p.val), by omega⟩) i p := by
  have e (p : Fin 32) : val_main_v76 (F := Ideal) x0 x1 (ix4 b i a p) = tok x0 x1 b i ⟨3080 + (a.val * 32 + p.val), by omega⟩ := by
    rw [← v1_apply]
    pointwise [val_main_v76, val_main_v9]
  simp only [← e]
  unfold rope32 cos32 sin32
  pointwise [val_main_v105, val_main_v104, val_main_v103, val_main_v102, val_main_v101, val_main_v100, val_main_v99, val_main_v98, val_main_v97, val_main_v96, val_main_v95, val_main_v94, val_main_v93, val_main_v92, val_main_v90]

/-- The turned indexer keys. -/
theorem v157_apply (b : Fin 4) (p : Fin 32) (i : Fin 4096) : val_main_v157 (F := Ideal) x0 x1 (ix3 b p i)
    = rope32 (fun p => tok x0 x1 b i ⟨3336 + p.val, by omega⟩) i p := by
  have e (p : Fin 32) : val_main_v106 (F := Ideal) x0 x1 (ix4 b i 0 p) = tok x0 x1 b i ⟨3336 + p.val, by omega⟩ := by
    rw [← v1_apply]
    pointwise [val_main_v106, val_main_v10]
  have e' : val_main_v157 (F := Ideal) x0 x1 (ix3 b p i) = val_main_v135 (F := Ideal) x0 x1 (ix4 b i 0 p) := by
    pointwise [val_main_v157, val_main_v136]
  rw [e']
  simp only [← e]
  unfold rope32 cos32 sin32
  rw [← cosine32, ← sine32]
  pointwise [val_main_v135, val_main_v134, val_main_v133, val_main_v132, val_main_v131, val_main_v130, val_main_v129, val_main_v128, val_main_v127, val_main_v126, val_main_v125, val_main_v124, val_main_v123, val_main_v122, val_main_v120]

theorem v148_apply (b : Fin 4) (i : Fin 4096) (a : Fin 8) (p : Fin 64) (c : Fin 512) (hc : c.val = a.val * 64 + p.val) (r : Fin 16384) (hr : r.val = b.val * 4096 + i.val) :
    val_main_v148 (F := Ideal) x0 x1 (ix2 c r) = rope64 (fun p => tok x0 x1 b i ⟨1544 + (a.val * 64 + p.val), by omega⟩) i p * Ideal.ofBits .f32 0x3E38AA3B#32 := by
  rw [← v45_apply]
  obtain ⟨eb, ei⟩ := split_row b i r hr
  obtain ⟨ea, ep⟩ := split_col a p c hc (by omega) (by omega)
  pointwise [val_main_v148, val_main_v147, val_main_v146, val_main_v145, val_main_cst_9, val_main_v144]
  rw [eb, ei, ea, ep]

theorem v151_apply (b : Fin 4) (i : Fin 4096) (a : Fin 8) (p : Fin 32) (c : Fin 256) (hc : c.val = a.val * 32 + p.val) (r : Fin 16384) (hr : r.val = b.val * 4096 + i.val) :
    val_main_v151 (F := Ideal) x0 x1 (ix2 c r) = rope32 (fun p => tok x0 x1 b i ⟨3080 + (a.val * 32 + p.val), by omega⟩) i p := by
  rw [← v105_apply]
  obtain ⟨eb, ei⟩ := split_row b i r hr
  obtain ⟨ea, ep⟩ := split_col a p c hc (by omega) (by omega)
  pointwise [val_main_v151, val_main_v150, val_main_v149]
  rw [eb, ei, ea, ep]

theorem v155_apply (b : Fin 4) (i : Fin 4096) (a : Fin 8) (p : Fin 64) (c : Fin 512) (hc : c.val = a.val * 64 + p.val) :
    val_main_v155 (F := Ideal) x0 x1 (ix3 b c i) = rope64 (fun p => tok x0 x1 b i ⟨2056 + (a.val * 64 + p.val), by omega⟩) i p := by
  rw [← v75_apply]
  have e : val_main_v154 (F := Ideal) x0 x1 (ix3 b i c) = val_main_v75 (F := Ideal) x0 x1 (ix4 b i a p) :=
    by
    unfold val_main_v154
    exact shapeCast_apply (val_main_v75 (F := Ideal) x0 x1) _ _ (ix4 b i a p) (by
      rw [Shape.rowMajor_val_four, Shape.rowMajor_val_three]
      show ((b.val * 4096 + i.val) * 8 + a.val) * 64 + p.val = (b.val * 4096 + i.val) * 512 + c.val
      omega)
  refine (val_main_v155_apply (F := Ideal) x0 x1 (ix3 b c i)).trans (Eq.trans (congrArg (val_main_v154 (F := Ideal) x0 x1) ?_) e)
  funext d
  match d with
  | ⟨0, _⟩ => rfl
  | ⟨1, _⟩ => rfl
  | ⟨2, _⟩ => rfl

/-- The logarithm of the sigmoid, the way that never overflows. -/
def logsig (z : EReal) : EReal := min z 0 - Ideal.log1p (Ideal.exp (0 - max z (-z)))

theorem exp_nonneg (x : EReal) : 0 ≤ Ideal.exp x := by
  induction x with
  | bot => exact le_refl _
  | top => exact le_top
  | coe r => exact EReal.coe_nonneg.mpr (Real.exp_pos r).le

theorem log1p_ne_bot (x : EReal) (h : 0 ≤ x) : Ideal.log1p x ≠ ⊥ := by
  induction x with
  | bot => exact absurd h (by simp)
  | top =>
    unfold Ideal.log1p
    rw [EReal.add_top_of_ne_bot (by decide)]
    exact top_ne_bot
  | coe r =>
    have hr : 0 ≤ r := EReal.coe_nonneg.mp h
    have e : (1 : EReal) + (r : EReal) = ((1 + r : ℝ) : EReal) := by rw [EReal.coe_add]; rfl
    unfold Ideal.log1p
    rw [e]
    show (if 1 + r ≤ 0 then ⊥ else (Real.log (1 + r) : EReal)) ≠ ⊥
    rw [if_neg (by linarith)]
    exact EReal.coe_ne_bot _

theorem logsig_eq (z : EReal) : (-if -z ≠ -z then -z else max (-z) 0 + Ideal.log1p (Ideal.exp (-(FloatOps.absf (F := Ideal) (φ := .f32) (-z) : EReal)))) = logsig z := by
  have ea : (FloatOps.absf (F := Ideal) (φ := .f32) (-z) : EReal) = max z (-z) := by
    show max (-z) (-(-z)) = max z (-z)
    rw [neg_neg, max_comm]
  unfold logsig
  rw [if_neg (by simp), ea, zero_sub]
  have h := log1p_ne_bot _ (exp_nonneg (-(max z (-z))))
  rw [EReal.neg_add (Or.inl (ne_of_gt (lt_of_lt_of_le EReal.bot_lt_zero (le_max_right _ _)))) (Or.inr h)]
  congr 1
  rw [← EReal.min_neg_neg]
  simp

theorem v158_apply (b : Fin 4) (c : Fin 8) (i : Fin 4096) : val_main_v158 (F := Ideal) x0 x1 x2 (ix3 b c i) = logsig (tok x0 x1 b i ⟨1536 + c.val, by omega⟩ + x2 (ix1 c)) := by
  have e : val_main_v14 (F := Ideal) x0 x1 x2 (ix3 b i c) = tok x0 x1 b i ⟨1536 + c.val, by omega⟩ + x2 (ix1 c) := by
    rw [← v1_apply]
    pointwise [val_main_v14, val_main_v13, val_main_v12, val_main_v5]
  pointwise [val_main_v158, val_main_v15, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [e]
  exact logsig_eq _

end Cert.Reference3Ideal.Project

end
-- ==== Proof.Project.Windows.lean ====
/-
  The windows' blocks at a grid point: the token's rows, the packed weights, the tables of the position.
-/
module

public import proofs.«01_k».proof.Proof.Project.FrameKernel3Ideal
public import Idealize.ShloMosaic.Lib.Pointwise
public import Idealize.ShloMosaic.Lib.Pipeline.Value
public import Idealize.ShloMosaic.Lib.Pipeline.ValueKit
public import Idealize.ShloMosaic.Lib.Pipeline.ValueKit.Geometry

@[expose] public section

set_option maxRecDepth 16384
set_option maxHeartbeats 1000000

noncomputable section

namespace Cert.Kernel3Ideal.Project

open Cert.Kernel3Ideal Cert.Kernel3Ideal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The batch of row `r` of a grid point. -/
def bOf (t : Fin cfg0.N) (r : Fin 512) : Fin 4 := ⟨(t.val * 512 + r.val) / 4096, by have := (show t.val < 32 from t.isLt); have := r.isLt; omega⟩

/-- Its position in the sequence. -/
def iOf (t : Fin cfg0.N) (r : Fin 512) : Fin 4096 := ⟨(t.val * 512 + r.val) % 4096, Nat.mod_lt _ (by omega)⟩

/-- Its row among all tokens. -/
def nOf (t : Fin cfg0.N) (r : Fin 512) : Fin 16384 := ⟨t.val * 512 + r.val, by have := (show t.val < 32 from t.isLt); have := r.isLt; omega⟩

theorem nOf_eq (t : Fin cfg0.N) (r : Fin 512) : (nOf t r).val = (bOf t r).val * 4096 + (iOf t r).val := by
  unfold bOf iOf nOf
  dsimp only
  omega

/-- The tokens of all batches in one axis, read back at batch and position. -/
theorem flat_apply {n : ℕ} {e : EltTy} (x : Vec Ideal (⟨3, ![4, 4096, n]⟩ : Shape) e) (h : (⟨3, ![4, 4096, n]⟩ : Shape).ShapeCasts ⟨2, ![16384, n]⟩)
    (t : Fin cfg0.N) (r : Fin 512) (d : Fin n) : shapeCast ⟨2, ![16384, n]⟩ x h (ix2 (nOf t r) d) = x (ix3 (bOf t r) (iOf t r) d) :=
  shapeCast_apply x _ _ (ix3 (bOf t r) (iOf t r) d) (by
    rw [Shape.rowMajor_val_three, Shape.rowMajor_val_two]
    show ((bOf t r).val * 4096 + (iOf t r).val) * n + d.val = (nOf t r).val * n + d.val
    rw [nOf_eq])

/-- The angles of 32 frequencies at every position. -/
def angle32 : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two halves side by side, again and again along 128 lanes. -/
def tile32 (u v : FVec Ideal S4096x32 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, u⟩, ⟨S4096x32, v⟩] concatenates_S4096x32_S4096x32_S4096x64_d1) shapeCasts_S4096x64_S1x4096x1x64))
    shapeCasts_S1x4096x2x64_S4096x128

theorem tile32_apply (u v : FVec Ideal S4096x32 .f32) (i : Fin 4096) (l : Fin 128) : tile32 u v (ix2 i l)
    = if h : l.val % 64 < 32 then u (ix2 i ⟨l.val % 64, h⟩) else v (ix2 i ⟨l.val % 64 - 32, by omega⟩) := by
  unfold tile32
  pointwise []

/-- The angles of 16 frequencies at every position. -/
def angle16 : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- Two halves side by side, again and again along 128 lanes. -/
def tile16 (u v : FVec Ideal S4096x16 .f32) : FVec Ideal S4096x128 .f32 :=
  shapeCast S4096x128 (broadcastInDim S1x4096x4x32 ![0, 1, 2, 3] bcast_S1x4096x1x32_S1x4096x4x32_0_1_2_3
    (shapeCast S1x4096x1x32 (concatenate S4096x32 1 [⟨S4096x16, u⟩, ⟨S4096x16, v⟩] concatenates_S4096x16_S4096x16_S4096x32_d1) shapeCasts_S4096x32_S1x4096x1x32))
    shapeCasts_S1x4096x4x32_S4096x128

theorem tile16_apply (u v : FVec Ideal S4096x16 .f32) (i : Fin 4096) (l : Fin 128) : tile16 u v (ix2 i l)
    = if h : l.val % 32 < 16 then u (ix2 i ⟨l.val % 32, h⟩) else v (ix2 i ⟨l.val % 32 - 16, by omega⟩) := by
  unfold tile16
  pointwise []

/-- The bias of the forget gates, three times, and zeros. -/
def bias (b : FVec Ideal S8 .f32) : FVec Ideal S1x128 .f32 :=
  concatenate S1x128 1 [⟨S1x24, shapeCast S1x24 (broadcastInDim S1x1x3x8 ![0, 1, 2, 3] bcast_S1x1x1x8_S1x1x3x8_0_1_2_3
    (shapeCast S1x1x1x8 (shapeCast S1x8 b shapeCasts_S8_S1x8) shapeCasts_S1x8_S1x1x1x8)) shapeCasts_S1x1x3x8_S1x24⟩,
    ⟨S1x104, broadcastInDim S1x104 ![] bcast_S_S1x104 (constant S_ .f32 0x00000000#32)⟩] concatenates_S1x24_S1x104_S1x128_d1

theorem bias_apply (b : FVec Ideal S8 .f32) (h : Fin 8) (l : Fin 128) (hl : l.val = 0 + h.val) : bias b (ix2 0 l) = b (ix1 h) := by
  unfold bias
  pointwise []
  rw [dif_pos (by omega)]
  exact congrArg b (congrArg ix1 (Fin.ext (by show l.val % 8 = h.val; omega)))

/-- The eight forget gates' columns three times. -/
def gates (w : FVec Ideal S1024x3376 .f32) : FVec Ideal S1024x24 .f32 :=
  shapeCast S1024x24 (broadcastInDim S1x1024x3x8 ![0, 1, 2, 3] bcast_S1x1024x1x8_S1x1024x3x8_0_1_2_3
    (shapeCast S1x1024x1x8 (extractStridedSlice S1024x8 ![0, 1536] w slices_S1024x3376_S1024x8_0_1536) shapeCasts_S1024x8_S1x1024x1x8)) shapeCasts_S1x1024x3x8_S1024x24

/-- The indexer keys' columns eight times. -/
def keys (w : FVec Ideal S1024x3376 .f32) : FVec Ideal S1024x256 .f32 :=
  shapeCast S1024x256 (broadcastInDim S1x1024x8x32 ![0, 1, 2, 3] bcast_S1x1024x1x32_S1x1024x8x32_0_1_2_3
    (shapeCast S1x1024x1x32 (extractStridedSlice S1024x32 ![0, 3336] w slices_S1024x3376_S1024x32_0_3336) shapeCasts_S1024x32_S1x1024x1x32)) shapeCasts_S1x1024x8x32_S1024x256

/-- The weights as the kernel takes them: columns regrouped, some repeated. -/
def packed (w : FVec Ideal S1024x3376 .f32) : FVec Ideal S1024x3712 .bf16 :=
  truncf .bf16 (concatenate S1024x3712 1 [⟨S1024x512, extractStridedSlice S1024x512 ![0, 0] w slices_S1024x3376_S1024x512_0_0⟩,
    ⟨S1024x512, extractStridedSlice S1024x512 ![0, 512] w slices_S1024x3376_S1024x512_0_512⟩,
    ⟨S1024x512, extractStridedSlice S1024x512 ![0, 1024] w slices_S1024x3376_S1024x512_0_1024⟩,
    ⟨S1024x512, extractStridedSlice S1024x512 ![0, 1544] w slices_S1024x3376_S1024x512_0_1544⟩,
    ⟨S1024x512, extractStridedSlice S1024x512 ![0, 2056] w slices_S1024x3376_S1024x512_0_2056⟩,
    ⟨S1024x512, extractStridedSlice S1024x512 ![0, 2568] w slices_S1024x3376_S1024x512_0_2568⟩,
    ⟨S1024x256, extractStridedSlice S1024x256 ![0, 3080] w slices_S1024x3376_S1024x256_0_3080⟩,
    ⟨S1024x256, keys w⟩, ⟨S1024x24, gates w⟩,
    ⟨S1024x8, extractStridedSlice S1024x8 ![0, 3368] w slices_S1024x3376_S1024x8_0_3368⟩,
    ⟨S1024x96, broadcastInDim S1024x96 ![] bcast_S_S1024x96 (constant S_ .f32 0x00000000#32)⟩]
    concatenates_S1024x512_S1024x512_S1024x512_S1024x512_S1024x512_S1024x512_S1024x256_S1024x256_S1024x24_S1024x8_S1024x96_S1024x3712_d1) bitsLt_bf16_f32

theorem keys_apply (w : FVec Ideal S1024x3376 .f32) (k : Fin 1024) (c : Fin 256) : keys w (ix2 k c) = w (ix2 k ⟨3336 + c.val % 32, by omega⟩) := by
  unfold keys
  pointwise []

theorem gates_apply (w : FVec Ideal S1024x3376 .f32) (k : Fin 1024) (c : Fin 24) : gates w (ix2 k c) = w (ix2 k ⟨1536 + c.val % 8, by omega⟩) := by
  unfold gates
  pointwise []

theorem packed_fq (w : FVec Ideal S1024x3376 .f32) (k : Fin 1024) (c : ℕ) (hc : c < 512) (n : Fin 3712) (hn : n.val = 0 + c) :
    packed w (ix2 k n) = w (ix2 k ⟨0 + c, by omega⟩) := by
  unfold packed
  pointwise []
  rw [dif_pos (by omega)]
  exact congrArg (fun n => w (ix2 k n)) (Fin.ext (by dsimp only; omega))

theorem packed_fk (w : FVec Ideal S1024x3376 .f32) (k : Fin 1024) (c : ℕ) (hc : c < 512) (n : Fin 3712) (hn : n.val = 512 + c) :
    packed w (ix2 k n) = w (ix2 k ⟨512 + c, by omega⟩) := by
  unfold packed
  pointwise []
  rw [dif_neg (by omega), dif_pos (by omega)]
  exact congrArg (fun n => w (ix2 k n)) (Fin.ext (by dsimp only; omega))

theorem packed_fv (w : FVec Ideal S1024x3376 .f32) (k : Fin 1024) (c : ℕ) (hc : c < 512) (n : Fin 3712) (hn : n.val = 1024 + c) :
    packed w (ix2 k n) = w (ix2 k ⟨1024 + c, by omega⟩) := by
  unfold packed
  pointwise []
  rw [dif_neg (by omega), dif_neg (by omega), dif_pos (by omega)]
  exact congrArg (fun n => w (ix2 k n)) (Fin.ext (by dsimp only; omega))

theorem packed_dq (w : FVec Ideal S1024x3376 .f32) (k : Fin 1024) (c : ℕ) (hc : c < 512) (n : Fin 3712) (hn : n.val = 1536 + c) :
    packed w (ix2 k n) = w (ix2 k ⟨1544 + c, by omega⟩) := by
  unfold packed
  pointwise []
  rw [dif_neg (by omega), dif_neg (by omega), dif_neg (by omega), dif_pos (by omega)]
  exact congrArg (fun n => w (ix2 k n)) (Fin.ext (by dsimp only; omega))

theorem packed_dk (w : FVec Ideal S1024x3376 .f32) (k : Fin 1024) (c : ℕ) (hc : c < 512) (n : Fin 3712) (hn : n.val = 2048 + c) :
    packed w (ix2 k n) = w (ix2 k ⟨2056 + c, by omega⟩) := by
  unfold packed
  pointwise []
  rw [dif_neg (by omega), dif_neg (by omega), dif_neg (by omega), dif_neg (by omega), dif_pos (by omega)]
  exact congrArg (fun n => w (ix2 k n)) (Fin.ext (by dsimp only; omega))

theorem packed_dv (w : FVec Ideal S1024x3376 .f32) (k : Fin 1024) (c : ℕ) (hc : c < 512) (n : Fin 3712) (hn : n.val = 2560 + c) :
    packed w (ix2 k n) = w (ix2 k ⟨2568 + c, by omega⟩) := by
  unfold packed
  pointwise []
  rw [dif_neg (by omega), dif_neg (by omega), dif_neg (by omega), dif_neg (by omega), dif_neg (by omega), dif_pos (by omega)]
  exact congrArg (fun n => w (ix2 k n)) (Fin.ext (by dsimp only; omega))

theorem packed_iq (w : FVec Ideal S1024x3376 .f32) (k : Fin 1024) (c : ℕ) (hc : c < 256) (n : Fin 3712) (hn : n.val = 3072 + c) :
    packed w (ix2 k n) = w (ix2 k ⟨3080 + c, by omega⟩) := by
  unfold packed
  pointwise []
  rw [dif_neg (by omega), dif_neg (by omega), dif_neg (by omega), dif_neg (by omega), dif_neg (by omega), dif_neg (by omega), dif_pos (by omega)]
  exact congrArg (fun n => w (ix2 k n)) (Fin.ext (by dsimp only; omega))

theorem packed_ik (w : FVec Ideal S1024x3376 .f32) (k : Fin 1024) (c : ℕ) (hc : c < 32) (n : Fin 3712) (hn : n.val = 3328 + c) :
    packed w (ix2 k n) = w (ix2 k ⟨3336 + c, by omega⟩) := by
  unfold packed
  pointwise []
  rw [dif_neg (by omega), dif_neg (by omega), dif_neg (by omega), dif_neg (by omega), dif_neg (by omega), dif_neg (by omega), dif_neg (by omega), dif_pos (by omega), keys_apply]
  exact congrArg (fun n => w (ix2 k n)) (Fin.ext (by dsimp only; omega))

theorem packed_fg (w : FVec Ideal S1024x3376 .f32) (k : Fin 1024) (c : ℕ) (hc : c < 8) (n : Fin 3712) (hn : n.val = 3584 + c) :
    packed w (ix2 k n) = w (ix2 k ⟨1536 + c, by omega⟩) := by
  unfold packed
  pointwise []
  rw [dif_neg (by omega), dif_neg (by omega), dif_neg (by omega), dif_neg (by omega), dif_neg (by omega), dif_neg (by omega), dif_neg (by omega), dif_neg (by omega), dif_pos (by omega), gates_apply]
  exact congrArg (fun n => w (ix2 k n)) (Fin.ext (by dsimp only; omega))

theorem packed_iw (w : FVec Ideal S1024x3376 .f32) (k : Fin 1024) (c : ℕ) (hc : c < 8) (n : Fin 3712) (hn : n.val = 3608 + c) :
    packed w (ix2 k n) = w (ix2 k ⟨3368 + c, by omega⟩) := by
  unfold packed
  pointwise []
  rw [dif_neg (by omega), dif_neg (by omega), dif_neg (by omega), dif_neg (by omega), dif_neg (by omega), dif_neg (by omega), dif_neg (by omega), dif_neg (by omega), dif_neg (by omega), dif_pos (by omega)]
  exact congrArg (fun n => w (ix2 k n)) (Fin.ext (by dsimp only; omega))

theorem V_x : V m c main_v0 = shapeCast S16384x1024 (m ((c : Thread nD τ).loc main_arg0)) shapeCasts_S4x4096x1024_S16384x1024 := by
  unfold V
  simp only [hostOps0]
  after_results_simp
  rfl

theorem V_w : V m c main_v19 = packed (m ((c : Thread nD τ).loc main_arg1)) := by
  unfold V
  simp only [hostOps0]
  after_results_simp
  rfl

theorem V_c64 : V m c main_v38 = tile32 (Host.cos angle32) (Host.cos angle32) := by
  unfold V
  simp only [hostOps0]
  after_results_simp
  rfl

theorem V_s64 : V m c main_v43 = tile32 (Host.negf (Host.sin angle32)) (Host.sin angle32) := by
  unfold V
  simp only [hostOps0]
  after_results_simp
  rfl

theorem V_c32 : V m c main_v61 = tile16 (Host.cos angle16) (Host.cos angle16) := by
  unfold V
  simp only [hostOps0]
  after_results_simp
  rfl

theorem V_s32 : V m c main_v66 = tile16 (Host.negf (Host.sin angle16)) (Host.sin angle16) := by
  unfold V
  simp only [hostOps0]
  after_results_simp
  rfl

theorem V_b : V m c main_v72 = bias (m ((c : Thread nD τ).loc main_arg2)) := by
  unfold V
  simp only [hostOps0]
  after_results_simp
  rfl

theorem index_x : ∀ t : Fin cfg0.N, win0_0.index t = ![t.val, 0] := (by decide +kernel : ∀ t : Fin grid0.N, _)
theorem index_w : ∀ t : Fin cfg0.N, win0_1.index t = ![0, 0] := (by decide +kernel : ∀ t : Fin grid0.N, _)
theorem index_c64 : ∀ t : Fin cfg0.N, win0_2.index t = ![t.val % 8, 0] := (by decide +kernel : ∀ t : Fin grid0.N, _)
theorem index_s64 : ∀ t : Fin cfg0.N, win0_3.index t = ![t.val % 8, 0] := (by decide +kernel : ∀ t : Fin grid0.N, _)
theorem index_c32 : ∀ t : Fin cfg0.N, win0_4.index t = ![t.val % 8, 0] := (by decide +kernel : ∀ t : Fin grid0.N, _)
theorem index_s32 : ∀ t : Fin cfg0.N, win0_5.index t = ![t.val % 8, 0] := (by decide +kernel : ∀ t : Fin grid0.N, _)
theorem index_b : ∀ t : Fin cfg0.N, win0_6.index t = ![0, 0] := (by decide +kernel : ∀ t : Fin grid0.N, _)

theorem iblk_x (t : Fin cfg0.N) (r : Fin 512) (k : Fin 1024) : (iblk m c 0 t : Vec Ideal S512x1024 .f32) (ix2 r k)
    = m ((c : Thread nD τ).loc main_arg0) (ix3 (bOf t r) (iOf t r) k) := by
  rw [← flat_apply (m ((c : Thread nD τ).loc main_arg0)) shapeCasts_S4x4096x1024_S16384x1024 t r k]
  blk_simp [iblk]
  rw [V_x]
  refine congrArg _ ?_
  unfold nOf
  blk_ext [index_x]

theorem iblk_w (t : Fin cfg0.N) (k : Fin 1024) (n : Fin 3712) : (iblk m c 1 t : Vec Ideal S1024x3712 .bf16) (ix2 k n)
    = packed (m ((c : Thread nD τ).loc main_arg1)) (ix2 k n) := by
  blk_simp [iblk]
  rw [V_w]
  refine congrArg _ ?_
  blk_ext [index_w]

theorem iblk_b (t : Fin cfg0.N) (l : Fin 128) : (iblk m c 6 t : Vec Ideal S1x128 .f32) (ix2 0 l)
    = bias (m ((c : Thread nD τ).loc main_arg2)) (ix2 0 l) := by
  blk_simp [iblk]
  rw [V_b]
  refine congrArg _ ?_
  blk_ext [index_b]

theorem iblk_c64 (t : Fin cfg0.N) (r : Fin 512) (l : Fin 128) : (iblk m c 2 t : Vec Ideal S512x128 .f32) (ix2 r l)
    = tile32 (Host.cos angle32) (Host.cos angle32) (ix2 (iOf t r) l) := by
  blk_simp [iblk]
  rw [V_c64]
  refine congrArg _ ?_
  unfold iOf
  blk_ext [index_c64]

theorem iblk_s64 (t : Fin cfg0.N) (r : Fin 512) (l : Fin 128) : (iblk m c 3 t : Vec Ideal S512x128 .f32) (ix2 r l)
    = tile32 (Host.negf (Host.sin angle32)) (Host.sin angle32) (ix2 (iOf t r) l) := by
  blk_simp [iblk]
  rw [V_s64]
  refine congrArg _ ?_
  unfold iOf
  blk_ext [index_s64]

theorem iblk_c32 (t : Fin cfg0.N) (r : Fin 512) (l : Fin 128) : (iblk m c 4 t : Vec Ideal S512x128 .f32) (ix2 r l)
    = tile16 (Host.cos angle16) (Host.cos angle16) (ix2 (iOf t r) l) := by
  blk_simp [iblk]
  rw [V_c32]
  refine congrArg _ ?_
  unfold iOf
  blk_ext [index_c32]

theorem iblk_s32 (t : Fin cfg0.N) (r : Fin 512) (l : Fin 128) : (iblk m c 5 t : Vec Ideal S512x128 .f32) (ix2 r l)
    = tile16 (Host.negf (Host.sin angle16)) (Host.sin angle16) (ix2 (iOf t r) l) := by
  blk_simp [iblk]
  rw [V_s32]
  refine congrArg _ ?_
  unfold iOf
  blk_ext [index_s32]

end Cert.Kernel3Ideal.Project

end
-- ==== Proof.Project.Blocks.lean ====
/-
  Each block the projection kernel writes is the plain projections' block.
-/
module

public import proofs.«01_k».proof.Proof.Project.Body
public import proofs.«01_k».proof.Proof.Project.Ref
public import proofs.«01_k».proof.Proof.Project.Windows

@[expose] public section

set_option maxRecDepth 16384
set_option maxHeartbeats 1000000

noncomputable section

namespace Cert.Kernel3Ideal.Project

open Cert.Kernel3Ideal Cert.Kernel3Ideal.Gen
open Idealize.ShloMosaic Idealize.ShloMosaic.TcCoe Idealize.ShloMosaic.Tactic Idealize.ShloMosaic.Pointwise
open Idealize.SL Idealize.SL.Sem
open Cert.Reference3Ideal.Project (tok rope64 rope32 logsig)

/-- Both programs turn by the same angles. -/
theorem angle32_eq : angle32 = Cert.Reference3Ideal.Read.val_main_v28 (F := Ideal) := by
  unfold angle32 Cert.Reference3Ideal.Read.val_main_v28 Cert.Reference3Ideal.Read.val_main_v27 Cert.Reference3Ideal.Read.val_main_v26 Cert.Reference3Ideal.Read.val_main_v25 Cert.Reference3Ideal.Read.val_main_v24 Cert.Reference3Ideal.Read.val_main_v23 Cert.Reference3Ideal.Read.val_main_v22 Cert.Reference3Ideal.Read.val_main_v21 Cert.Reference3Ideal.Read.val_main_v20 Cert.Reference3Ideal.Read.val_main_v19 Cert.Reference3Ideal.Read.val_main_v18 Cert.Reference3Ideal.Read.val_main_v17 Cert.Reference3Ideal.Read.val_main_v0 Cert.Reference3Ideal.Read.val_main_cst Cert.Reference3Ideal.Read.val_main_cst_0
  rfl

theorem cosine32_eq (i : Fin 4096) (p : Fin 32) : Host.cos angle32 (ix2 i p) = Cert.Reference3Ideal.Project.cos64 i p := by
  rw [angle32_eq]
  rfl

theorem sine32_eq (i : Fin 4096) (p : Fin 32) : Host.sin angle32 (ix2 i p) = Cert.Reference3Ideal.Project.sin64 i p := by
  rw [angle32_eq]
  rfl

theorem negsine32_eq (i : Fin 4096) (p : Fin 32) : Host.negf (Host.sin angle32) (ix2 i p) = -Cert.Reference3Ideal.Project.sin64 i p := by
  rw [← sine32_eq]
  rfl

/-- The partner of place `p` of a head. -/
def mate64 (p : Fin 64) : Fin 64 := if h : p.val < 32 then ⟨32 + p.val, by omega⟩ else ⟨p.val - 32, by omega⟩

/-- A column times the cosine and its partner times the signed sine, as the halves of a head turn. -/
theorem turned64 (g : Fin 64 → EReal) (i : Fin 4096) (p : Fin 64) (l : Fin 128) (hl : l.val % 64 = p.val) :
    turned (g p) (tile32 (Host.cos angle32) (Host.cos angle32) (ix2 i l)) (g (mate64 p)) (tile32 (Host.negf (Host.sin angle32)) (Host.sin angle32) (ix2 i l))
      = rope64 g i p := by
  rw [tile32_apply, tile32_apply]
  unfold turned rope64 mate64
  by_cases h : p.val < 32
  · have h' : l.val % 64 < 32 := by omega
    have el : (⟨l.val % 64, h'⟩ : Fin 32) = ⟨p.val, h⟩ := Fin.ext hl
    rw [dif_pos h', dif_pos h', dif_pos h, dif_pos h, el, cosine32_eq, negsine32_eq, mul_neg, ← sub_eq_add_neg]
  · have h' : ¬ l.val % 64 < 32 := by omega
    have el : (⟨l.val % 64 - 32, by omega⟩ : Fin 32) = ⟨p.val - 32, by omega⟩ := Fin.ext (by dsimp only; omega)
    have ep : (⟨32 + (p.val - 32), by omega⟩ : Fin 64) = p := Fin.ext (by dsimp only; omega)
    rw [dif_neg h', dif_neg h', dif_neg h, dif_neg h, el, cosine32_eq, sine32_eq, ep]

/-- Both programs turn by the same angles. -/
theorem angle16_eq : angle16 = Cert.Reference3Ideal.Read.val_main_v88 (F := Ideal) := by
  unfold angle16 Cert.Reference3Ideal.Read.val_main_v88 Cert.Reference3Ideal.Read.val_main_v87 Cert.Reference3Ideal.Read.val_main_v86 Cert.Reference3Ideal.Read.val_main_v85 Cert.Reference3Ideal.Read.val_main_v84 Cert.Reference3Ideal.Read.val_main_v83 Cert.Reference3Ideal.Read.val_main_v82 Cert.Reference3Ideal.Read.val_main_v81 Cert.Reference3Ideal.Read.val_main_v80 Cert.Reference3Ideal.Read.val_main_v79 Cert.Reference3Ideal.Read.val_main_v78 Cert.Reference3Ideal.Read.val_main_v77 Cert.Reference3Ideal.Read.val_main_v0 Cert.Reference3Ideal.Read.val_main_cst_3 Cert.Reference3Ideal.Read.val_main_cst_4
  rfl

theorem cosine16_eq (i : Fin 4096) (p : Fin 16) : Host.cos angle16 (ix2 i p) = Cert.Reference3Ideal.Project.cos32 i p := by
  rw [angle16_eq]
  rfl

theorem sine16_eq (i : Fin 4096) (p : Fin 16) : Host.sin angle16 (ix2 i p) = Cert.Reference3Ideal.Project.sin32 i p := by
  rw [angle16_eq]
  rfl

theorem negsine16_eq (i : Fin 4096) (p : Fin 16) : Host.negf (Host.sin angle16) (ix2 i p) = -Cert.Reference3Ideal.Project.sin32 i p := by
  rw [← sine16_eq]
  rfl

/-- The partner of place `p` of a head. -/
def mate32 (p : Fin 32) : Fin 32 := if h : p.val < 16 then ⟨16 + p.val, by omega⟩ else ⟨p.val - 16, by omega⟩

/-- A column times the cosine and its partner times the signed sine, as the halves of a head turn. -/
theorem turned32 (g : Fin 32 → EReal) (i : Fin 4096) (p : Fin 32) (l : Fin 128) (hl : l.val % 32 = p.val) :
    turned (g p) (tile16 (Host.cos angle16) (Host.cos angle16) (ix2 i l)) (g (mate32 p)) (tile16 (Host.negf (Host.sin angle16)) (Host.sin angle16) (ix2 i l))
      = rope32 g i p := by
  rw [tile16_apply, tile16_apply]
  unfold turned rope32 mate32
  by_cases h : p.val < 16
  · have h' : l.val % 32 < 16 := by omega
    have el : (⟨l.val % 32, h'⟩ : Fin 16) = ⟨p.val, h⟩ := Fin.ext hl
    rw [dif_pos h', dif_pos h', dif_pos h, dif_pos h, el, cosine16_eq, negsine16_eq, mul_neg, ← sub_eq_add_neg]
  · have h' : ¬ l.val % 32 < 16 := by omega
    have el : (⟨l.val % 32 - 16, by omega⟩ : Fin 16) = ⟨p.val - 16, by omega⟩ := Fin.ext (by dsimp only; omega)
    have ep : (⟨16 + (p.val - 16), by omega⟩ : Fin 32) = p := Fin.ext (by dsimp only; omega)
    rw [dif_neg h', dif_neg h', dif_neg h, dif_neg h, el, cosine16_eq, sine16_eq, ep]

variable (m : (ℓ : Loc nD τ sig) → Buf (Elt Ideal) ℓ) (c : Dev nD) (t : Fin cfg0.N)

/-- A packed column's product is the product with the column it was packed from. -/
theorem prod_eq (r : Fin 512) (n : Fin 3712) (n' : Fin 3376) (h : ∀ k : Fin 1024, packed (m ((c : Thread nD τ).loc main_arg1)) (ix2 k n) = (m ((c : Thread nD τ).loc main_arg1)) (ix2 k n')) :
    prod (iblk m c 0 t) (iblk m c 1 t) r n = tok (m ((c : Thread nD τ).loc main_arg0)) (m ((c : Thread nD τ).loc main_arg1)) (bOf t r) (iOf t r) n' := by
  unfold prod tok Cert.Reference3Ideal.Project.col
  exact Finset.sum_congr rfl fun k _ => by rw [iblk_x, iblk_w, h k]

theorem val11 (d r : Fin 512) : out0_11 (iblk m c 0 t) (iblk m c 1 t) (iblk m c 2 t) (iblk m c 3 t) (iblk m c 4 t) (iblk m c 5 t) (iblk m c 6 t) (ix2 d r)
    = Cert.Reference3Ideal.Read.val_main_v143 (F := Ideal) (m ((c : Thread nD τ).loc main_arg0)) (m ((c : Thread nD τ).loc main_arg1)) (ix2 d (nOf t r)) := by
  rw [out11_apply, Cert.Reference3Ideal.Project.v143_apply (m ((c : Thread nD τ).loc main_arg0)) (m ((c : Thread nD τ).loc main_arg1)) (bOf t r) d (iOf t r) (nOf t r) (nOf_eq t r)]
  rw [prod_eq m c t r _ ⟨0 + d.val, by omega⟩ fun k => packed_fq _ k d.val d.isLt _ rfl]
  exact congrArg (fun n => tok (m ((c : Thread nD τ).loc main_arg0)) (m ((c : Thread nD τ).loc main_arg1)) (bOf t r) (iOf t r) n * _) (Fin.ext (Nat.zero_add _))

theorem val16 (d r : Fin 512) : out0_16 (iblk m c 0 t) (iblk m c 1 t) (iblk m c 2 t) (iblk m c 3 t) (iblk m c 4 t) (iblk m c 5 t) (iblk m c 6 t) (ix3 0 d r)
    = Cert.Reference3Ideal.Read.val_main_v152 (F := Ideal) (m ((c : Thread nD τ).loc main_arg0)) (m ((c : Thread nD τ).loc main_arg1)) (ix3 (bOf t r) d (iOf t r)) := by
  rw [out16_apply, Cert.Reference3Ideal.Project.v152_apply]
  exact prod_eq m c t r _ ⟨512 + d.val, by omega⟩ fun k => packed_fk _ k d.val d.isLt _ rfl

theorem val17 (d r : Fin 512) : out0_17 (iblk m c 0 t) (iblk m c 1 t) (iblk m c 2 t) (iblk m c 3 t) (iblk m c 4 t) (iblk m c 5 t) (iblk m c 6 t) (ix3 0 d r)
    = Cert.Reference3Ideal.Read.val_main_v153 (F := Ideal) (m ((c : Thread nD τ).loc main_arg0)) (m ((c : Thread nD τ).loc main_arg1)) (ix3 (bOf t r) d (iOf t r)) := by
  rw [out17_apply, Cert.Reference3Ideal.Project.v153_apply]
  exact prod_eq m c t r _ ⟨1024 + d.val, by omega⟩ fun k => packed_fv _ k d.val d.isLt _ rfl

theorem val19 (d r : Fin 512) : out0_19 (iblk m c 0 t) (iblk m c 1 t) (iblk m c 2 t) (iblk m c 3 t) (iblk m c 4 t) (iblk m c 5 t) (iblk m c 6 t) (ix3 0 d r)
    = Cert.Reference3Ideal.Read.val_main_v156 (F := Ideal) (m ((c : Thread nD τ).loc main_arg0)) (m ((c : Thread nD τ).loc main_arg1)) (ix3 (bOf t r) d (iOf t r)) := by
  rw [out19_apply, Cert.Reference3Ideal.Project.v156_apply]
  exact prod_eq m c t r _ ⟨2568 + d.val, by omega⟩ fun k => packed_dv _ k d.val d.isLt _ rfl

theorem val12 (d : Fin 512) (r : Fin 512) : out0_12 (iblk m c 0 t) (iblk m c 1 t) (iblk m c 2 t) (iblk m c 3 t) (iblk m c 4 t) (iblk m c 5 t) (iblk m c 6 t) (ix2 d r)
    = Cert.Reference3Ideal.Read.val_main_v148 (F := Ideal) (m ((c : Thread nD τ).loc main_arg0)) (m ((c : Thread nD τ).loc main_arg1)) (ix2 d (nOf t r)) := by
  have hl : (⟨d.val % 128, by omega⟩ : Fin 128).val % 64 = (⟨d.val % 64, by omega⟩ : Fin 64).val := by dsimp only; omega
  rw [out12_apply _ _ _ _ _ _ _ d r ⟨d.val % 128, by omega⟩ rfl,
    Cert.Reference3Ideal.Project.v148_apply (m ((c : Thread nD τ).loc main_arg0)) (m ((c : Thread nD τ).loc main_arg1)) (bOf t r) (iOf t r) ⟨d.val / 64, by omega⟩ ⟨d.val % 64, by omega⟩ d (by dsimp only; omega) (nOf t r) (nOf_eq t r),
    iblk_c64, iblk_s64, ← turned64 _ (iOf t r) _ _ hl]
  have e1 := prod_eq m c t r ⟨1536 + d.val, by omega⟩ ⟨1544 + (d.val / 64 * 64 + d.val % 64), by omega⟩ fun k => (packed_dq (m ((c : Thread nD τ).loc main_arg1)) k d.val d.isLt _ rfl).trans
    (congrArg (fun n => (m ((c : Thread nD τ).loc main_arg1)) (ix2 k n)) (Fin.ext (by dsimp only; omega)))
  have hm : (pair64 d).val = d.val / 64 * 64 + (mate64 ⟨d.val % 64, by omega⟩).val := by
    unfold pair64 mate64
    by_cases h : d.val % 64 < 32
    · rw [dif_pos h, dif_pos h]
      dsimp only
      omega
    · rw [dif_neg h, dif_neg h]
      dsimp only
      omega
  have e2 := prod_eq m c t r ⟨1536 + (pair64 d).val, by omega⟩ ⟨1544 + (d.val / 64 * 64 + (mate64 ⟨d.val % 64, by omega⟩).val), by omega⟩ fun k => (packed_dq (m ((c : Thread nD τ).loc main_arg1)) k (pair64 d).val (pair64 d).isLt _ rfl).trans
    (congrArg (fun n => (m ((c : Thread nD τ).loc main_arg1)) (ix2 k n)) (Fin.ext (by dsimp only; omega)))
  rw [e1, e2]

theorem val13 (d : Fin 256) (r : Fin 512) : out0_13 (iblk m c 0 t) (iblk m c 1 t) (iblk m c 2 t) (iblk m c 3 t) (iblk m c 4 t) (iblk m c 5 t) (iblk m c 6 t) (ix2 d r)
    = Cert.Reference3Ideal.Read.val_main_v151 (F := Ideal) (m ((c : Thread nD τ).loc main_arg0)) (m ((c : Thread nD τ).loc main_arg1)) (ix2 d (nOf t r)) := by
  have hl : (⟨d.val % 128, by omega⟩ : Fin 128).val % 32 = (⟨d.val % 32, by omega⟩ : Fin 32).val := by dsimp only; omega
  rw [out13_apply _ _ _ _ _ _ _ d r ⟨d.val % 128, by omega⟩ rfl,
    Cert.Reference3Ideal.Project.v151_apply (m ((c : Thread nD τ).loc main_arg0)) (m ((c : Thread nD τ).loc main_arg1)) (bOf t r) (iOf t r) ⟨d.val / 32, by omega⟩ ⟨d.val % 32, by omega⟩ d (by dsimp only; omega) (nOf t r) (nOf_eq t r),
    iblk_c32, iblk_s32, ← turned32 _ (iOf t r) _ _ hl]
  have e1 := prod_eq m c t r ⟨3072 + d.val, by omega⟩ ⟨3080 + (d.val / 32 * 32 + d.val % 32), by omega⟩ fun k => (packed_iq (m ((c : Thread nD τ).loc main_arg1)) k d.val d.isLt _ rfl).trans
    (congrArg (fun n => (m ((c : Thread nD τ).loc main_arg1)) (ix2 k n)) (Fin.ext (by dsimp only; omega)))
  have hm : (pair32 d).val = d.val / 32 * 32 + (mate32 ⟨d.val % 32, by omega⟩).val := by
    unfold pair32 mate32
    by_cases h : d.val % 32 < 16
    · rw [dif_pos h, dif_pos h]
      dsimp only
      omega
    · rw [dif_neg h, dif_neg h]
      dsimp only
      omega
  have e2 := prod_eq m c t r ⟨3072 + (pair32 d).val, by omega⟩ ⟨3080 + (d.val / 32 * 32 + (mate32 ⟨d.val % 32, by omega⟩).val), by omega⟩ fun k => (packed_iq (m ((c : Thread nD τ).loc main_arg1)) k (pair32 d).val (pair32 d).isLt _ rfl).trans
    (congrArg (fun n => (m ((c : Thread nD τ).loc main_arg1)) (ix2 k n)) (Fin.ext (by dsimp only; omega)))
  rw [e1, e2]

theorem val18 (d : Fin 512) (r : Fin 512) : out0_18 (iblk m c 0 t) (iblk m c 1 t) (iblk m c 2 t) (iblk m c 3 t) (iblk m c 4 t) (iblk m c 5 t) (iblk m c 6 t) (ix3 0 d r)
    = Cert.Reference3Ideal.Read.val_main_v155 (F := Ideal) (m ((c : Thread nD τ).loc main_arg0)) (m ((c : Thread nD τ).loc main_arg1)) (ix3 (bOf t r) d (iOf t r)) := by
  have hl : (⟨d.val % 128, by omega⟩ : Fin 128).val % 64 = (⟨d.val % 64, by omega⟩ : Fin 64).val := by dsimp only; omega
  rw [out18_apply _ _ _ _ _ _ _ d r ⟨d.val % 128, by omega⟩ rfl,
    Cert.Reference3Ideal.Project.v155_apply (m ((c : Thread nD τ).loc main_arg0)) (m ((c : Thread nD τ).loc main_arg1)) (bOf t r) (iOf t r) ⟨d.val / 64, by omega⟩ ⟨d.val % 64, by omega⟩ d (by dsimp only; omega),
    iblk_c64, iblk_s64, ← turned64 _ (iOf t r) _ _ hl]
  have e1 := prod_eq m c t r ⟨2048 + d.val, by omega⟩ ⟨2056 + (d.val / 64 * 64 + d.val % 64), by omega⟩ fun k => (packed_dk (m ((c : Thread nD τ).loc main_arg1)) k d.val d.isLt _ rfl).trans
    (congrArg (fun n => (m ((c : Thread nD τ).loc main_arg1)) (ix2 k n)) (Fin.ext (by dsimp only; omega)))
  have hm : (pair64 d).val = d.val / 64 * 64 + (mate64 ⟨d.val % 64, by omega⟩).val := by
    unfold pair64 mate64
    by_cases h : d.val % 64 < 32
    · rw [dif_pos h, dif_pos h]
      dsimp only
      omega
    · rw [dif_neg h, dif_neg h]
      dsimp only
      omega
  have e2 := prod_eq m c t r ⟨2048 + (pair64 d).val, by omega⟩ ⟨2056 + (d.val / 64 * 64 + (mate64 ⟨d.val % 64, by omega⟩).val), by omega⟩ fun k => (packed_dk (m ((c : Thread nD τ).loc main_arg1)) k (pair64 d).val (pair64 d).isLt _ rfl).trans
    (congrArg (fun n => (m ((c : Thread nD τ).loc main_arg1)) (ix2 k n)) (Fin.ext (by dsimp only; omega)))
  rw [e1, e2]

theorem val20 (p : Fin 32) (r : Fin 512) : out0_20 (iblk m c 0 t) (iblk m c 1 t) (iblk m c 2 t) (iblk m c 3 t) (iblk m c 4 t) (iblk m c 5 t) (iblk m c 6 t) (ix3 0 p r)
    = Cert.Reference3Ideal.Read.val_main_v157 (F := Ideal) (m ((c : Thread nD τ).loc main_arg0)) (m ((c : Thread nD τ).loc main_arg1)) (ix3 (bOf t r) p (iOf t r)) := by
  have hl : (⟨p.val, by omega⟩ : Fin 128).val % 32 = p.val := by dsimp only; omega
  rw [out20_apply _ _ _ _ _ _ _ p r ⟨p.val, by omega⟩ rfl ⟨p.val, by omega⟩ (by dsimp only; omega), Cert.Reference3Ideal.Project.v157_apply, iblk_c32, iblk_s32, ← turned32 _ (iOf t r) _ _ hl]
  have e1 := prod_eq m c t r ⟨3328 + p.val, by omega⟩ ⟨3336 + p.val, by omega⟩ fun k => packed_ik (m ((c : Thread nD τ).loc main_arg1)) k p.val p.isLt _ rfl
  have hm : (pair32 ⟨p.val, by omega⟩).val = (mate32 p).val := by
    unfold pair32 mate32
    by_cases h : p.val < 16
    · rw [dif_pos h, dif_pos (by dsimp only; omega)]
      dsimp only
      omega
    · rw [dif_neg h, dif_neg (by dsimp only; omega)]
  have e2 := prod_eq m c t r ⟨3328 + (pair32 ⟨p.val, by omega⟩).val, by omega⟩ ⟨3336 + (mate32 p).val, by omega⟩ fun k => packed_ik (m ((c : Thread nD τ).loc main_arg1)) k (mate32 p).val (mate32 p).isLt _ (by dsimp only; omega)
  rw [e1, e2]

theorem val21 (h : Fin 8) (r : Fin 512) : out0_21 (iblk m c 0 t) (iblk m c 1 t) (iblk m c 2 t) (iblk m c 3 t) (iblk m c 4 t) (iblk m c 5 t) (iblk m c 6 t) (ix3 0 h r)
    = Cert.Reference3Ideal.Read.val_main_v158 (F := Ideal) (m ((c : Thread nD τ).loc main_arg0)) (m ((c : Thread nD τ).loc main_arg1)) (m ((c : Thread nD τ).loc main_arg2)) (ix3 (bOf t r) h (iOf t r)) := by
  rw [out21_apply, small_apply _ _ _ _ _ _ _ r ⟨0 + h.val, by omega⟩ ⟨3584 + h.val, by omega⟩ (by dsimp only; omega), Cert.Reference3Ideal.Project.v158_apply, if_pos (by dsimp only; omega)]
  rw [iblk_b, bias_apply _ h _ rfl, prod_eq m c t r _ ⟨1536 + h.val, by omega⟩ fun k => packed_fg _ k h.val h.isLt _ rfl]
  rfl

theorem val22 (h : Fin 8) (r : Fin 512) : out0_22 (iblk m c 0 t) (iblk m c 1 t) (iblk m c 2 t) (iblk m c 3 t) (iblk m c 4 t) (iblk m c 5 t) (iblk m c 6 t) (ix3 0 h r)
    = Cert.Reference3Ideal.Read.val_main_v159 (F := Ideal) (m ((c : Thread nD τ).loc main_arg0)) (m ((c : Thread nD τ).loc main_arg1)) (ix3 (bOf t r) h (iOf t r)) := by
  rw [out22_apply, small_apply _ _ _ _ _ _ _ r ⟨24 + h.val, by omega⟩ ⟨3608 + h.val, by omega⟩ (by dsimp only; omega), Cert.Reference3Ideal.Project.v159_apply,
    if_neg (by dsimp only; omega), if_pos (by dsimp only; omega)]
  rw [prod_eq m c t r _ ⟨3368 + h.val, by omega⟩ fun k => packed_iw _ k h.val h.isLt _ rfl]

end Cert.Kernel3Ideal.Project

end
-- ==== Proof.Project.Value.lean ====
/-
  The projection kernel's run: each of its results is the plain projections' result.
-/
module

public import proofs.«01_k».proof.Proof.Project.Blocks

@[expose] public section

set_option maxRecDepth 16384
set_option maxHeartbeats 1000000

noncomputable section

namespace Cert.Kernel3Ideal.Project

open Cert.Kernel3Ideal Cert.Kernel3Ideal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The plain result of window 11's array. -/
def ref11 : Vec Ideal S512x16384 .bf16 := Cert.Reference3Ideal.Read.val_main_v143 (F := Ideal) (m ((c : Thread nD τ).loc main_arg0)) (m ((c : Thread nD τ).loc main_arg1))

theorem index11 : ∀ t : Fin cfg0.N, win0_11.index t = ![0, t.val] := (by decide +kernel : ∀ t : Fin grid0.N, _)

theorem final11 : (dats m 0 c).arrAt 11 cfg0.N = ref11 m c := by
  refine (dats m 0 c).arrAt_eq_of_covers 11 _ (by decide +kernel) fun t hf y => ?_
  blk_simp
  rw [after0_11]
  have y0 : (y 0).val < 512 := (y 0).isLt
  have y1 : (y 1).val < 512 := (y 1).isLt
  have hy : (y : S512x512.Idx) = ix2 ⟨(y 0).val, y0⟩ ⟨(y 1).val, y1⟩ := by
    funext a
    match a with
    | ⟨0, _⟩ => rfl
    | ⟨1, _⟩ => rfl
  have he : (win0_11.blk t).view.emb y = ix2 ⟨(y 0).val, y0⟩ (nOf t ⟨(y 1).val, y1⟩) := by
    unfold nOf
    blk_ext [index11]
  exact (congrArg (out0_11 _ _ _ _ _ _ _) hy).trans ((val11 m c t _ _).trans (congrArg (ref11 m c) he).symm)

/-- The plain result of window 12's array. -/
def ref12 : Vec Ideal S512x16384 .bf16 := Cert.Reference3Ideal.Read.val_main_v148 (F := Ideal) (m ((c : Thread nD τ).loc main_arg0)) (m ((c : Thread nD τ).loc main_arg1))

theorem index12 : ∀ t : Fin cfg0.N, win0_12.index t = ![0, t.val] := (by decide +kernel : ∀ t : Fin grid0.N, _)

theorem final12 : (dats m 0 c).arrAt 12 cfg0.N = ref12 m c := by
  refine (dats m 0 c).arrAt_eq_of_covers 12 _ (by decide +kernel) fun t hf y => ?_
  blk_simp
  rw [after0_12]
  have y0 : (y 0).val < 512 := (y 0).isLt
  have y1 : (y 1).val < 512 := (y 1).isLt
  have hy : (y : S512x512.Idx) = ix2 ⟨(y 0).val, y0⟩ ⟨(y 1).val, y1⟩ := by
    funext a
    match a with
    | ⟨0, _⟩ => rfl
    | ⟨1, _⟩ => rfl
  have he : (win0_12.blk t).view.emb y = ix2 ⟨(y 0).val, y0⟩ (nOf t ⟨(y 1).val, y1⟩) := by
    unfold nOf
    blk_ext [index12]
  exact (congrArg (out0_12 _ _ _ _ _ _ _) hy).trans ((val12 m c t _ _).trans (congrArg (ref12 m c) he).symm)

/-- The plain result of window 13's array. -/
def ref13 : Vec Ideal S256x16384 .bf16 := Cert.Reference3Ideal.Read.val_main_v151 (F := Ideal) (m ((c : Thread nD τ).loc main_arg0)) (m ((c : Thread nD τ).loc main_arg1))

theorem index13 : ∀ t : Fin cfg0.N, win0_13.index t = ![0, t.val] := (by decide +kernel : ∀ t : Fin grid0.N, _)

theorem final13 : (dats m 0 c).arrAt 13 cfg0.N = ref13 m c := by
  refine (dats m 0 c).arrAt_eq_of_covers 13 _ (by decide +kernel) fun t hf y => ?_
  blk_simp
  rw [after0_13]
  have y0 : (y 0).val < 256 := (y 0).isLt
  have y1 : (y 1).val < 512 := (y 1).isLt
  have hy : (y : S256x512.Idx) = ix2 ⟨(y 0).val, y0⟩ ⟨(y 1).val, y1⟩ := by
    funext a
    match a with
    | ⟨0, _⟩ => rfl
    | ⟨1, _⟩ => rfl
  have he : (win0_13.blk t).view.emb y = ix2 ⟨(y 0).val, y0⟩ (nOf t ⟨(y 1).val, y1⟩) := by
    unfold nOf
    blk_ext [index13]
  exact (congrArg (out0_13 _ _ _ _ _ _ _) hy).trans ((val13 m c t _ _).trans (congrArg (ref13 m c) he).symm)

/-- The plain result of window 16's array. -/
def ref16 : Vec Ideal S4x512x4096 .f32 := Cert.Reference3Ideal.Read.val_main_v152 (F := Ideal) (m ((c : Thread nD τ).loc main_arg0)) (m ((c : Thread nD τ).loc main_arg1))

theorem index16 : ∀ t : Fin cfg0.N, win0_16.index t = ![t.val / 8, 0, t.val % 8] := (by decide +kernel : ∀ t : Fin grid0.N, _)

theorem final16 : (dats m 0 c).arrAt 16 cfg0.N = ref16 m c := by
  refine (dats m 0 c).arrAt_eq_of_covers 16 _ (by decide +kernel) fun t hf y => ?_
  blk_simp
  rw [after0_16]
  have y0 : (y 0).val < 1 := (y 0).isLt
  have y1 : (y 1).val < 512 := (y 1).isLt
  have y2 : (y 2).val < 512 := (y 2).isLt
  have hy : (y : S1x512x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_16.blk t).view.emb y = ix3 (bOf t ⟨(y 2).val, y2⟩) ⟨(y 1).val, y1⟩ (iOf t ⟨(y 2).val, y2⟩) := by
    unfold bOf iOf
    blk_ext [index16]
  exact (congrArg (out0_16 _ _ _ _ _ _ _) hy).trans ((val16 m c t _ _).trans (congrArg (ref16 m c) he).symm)

/-- The plain result of window 17's array. -/
def ref17 : Vec Ideal S4x512x4096 .f32 := Cert.Reference3Ideal.Read.val_main_v153 (F := Ideal) (m ((c : Thread nD τ).loc main_arg0)) (m ((c : Thread nD τ).loc main_arg1))

theorem index17 : ∀ t : Fin cfg0.N, win0_17.index t = ![t.val / 8, 0, t.val % 8] := (by decide +kernel : ∀ t : Fin grid0.N, _)

theorem final17 : (dats m 0 c).arrAt 17 cfg0.N = ref17 m c := by
  refine (dats m 0 c).arrAt_eq_of_covers 17 _ (by decide +kernel) fun t hf y => ?_
  blk_simp
  rw [after0_17]
  have y0 : (y 0).val < 1 := (y 0).isLt
  have y1 : (y 1).val < 512 := (y 1).isLt
  have y2 : (y 2).val < 512 := (y 2).isLt
  have hy : (y : S1x512x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_17.blk t).view.emb y = ix3 (bOf t ⟨(y 2).val, y2⟩) ⟨(y 1).val, y1⟩ (iOf t ⟨(y 2).val, y2⟩) := by
    unfold bOf iOf
    blk_ext [index17]
  exact (congrArg (out0_17 _ _ _ _ _ _ _) hy).trans ((val17 m c t _ _).trans (congrArg (ref17 m c) he).symm)

/-- The plain result of window 18's array. -/
def ref18 : Vec Ideal S4x512x4096 .f32 := Cert.Reference3Ideal.Read.val_main_v155 (F := Ideal) (m ((c : Thread nD τ).loc main_arg0)) (m ((c : Thread nD τ).loc main_arg1))

theorem index18 : ∀ t : Fin cfg0.N, win0_18.index t = ![t.val / 8, 0, t.val % 8] := (by decide +kernel : ∀ t : Fin grid0.N, _)

theorem final18 : (dats m 0 c).arrAt 18 cfg0.N = ref18 m c := by
  refine (dats m 0 c).arrAt_eq_of_covers 18 _ (by decide +kernel) fun t hf y => ?_
  blk_simp
  rw [after0_18]
  have y0 : (y 0).val < 1 := (y 0).isLt
  have y1 : (y 1).val < 512 := (y 1).isLt
  have y2 : (y 2).val < 512 := (y 2).isLt
  have hy : (y : S1x512x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_18.blk t).view.emb y = ix3 (bOf t ⟨(y 2).val, y2⟩) ⟨(y 1).val, y1⟩ (iOf t ⟨(y 2).val, y2⟩) := by
    unfold bOf iOf
    blk_ext [index18]
  exact (congrArg (out0_18 _ _ _ _ _ _ _) hy).trans ((val18 m c t _ _).trans (congrArg (ref18 m c) he).symm)

/-- The plain result of window 19's array. -/
def ref19 : Vec Ideal S4x512x4096 .f32 := Cert.Reference3Ideal.Read.val_main_v156 (F := Ideal) (m ((c : Thread nD τ).loc main_arg0)) (m ((c : Thread nD τ).loc main_arg1))

theorem index19 : ∀ t : Fin cfg0.N, win0_19.index t = ![t.val / 8, 0, t.val % 8] := (by decide +kernel : ∀ t : Fin grid0.N, _)

theorem final19 : (dats m 0 c).arrAt 19 cfg0.N = ref19 m c := by
  refine (dats m 0 c).arrAt_eq_of_covers 19 _ (by decide +kernel) fun t hf y => ?_
  blk_simp
  rw [after0_19]
  have y0 : (y 0).val < 1 := (y 0).isLt
  have y1 : (y 1).val < 512 := (y 1).isLt
  have y2 : (y 2).val < 512 := (y 2).isLt
  have hy : (y : S1x512x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_19.blk t).view.emb y = ix3 (bOf t ⟨(y 2).val, y2⟩) ⟨(y 1).val, y1⟩ (iOf t ⟨(y 2).val, y2⟩) := by
    unfold bOf iOf
    blk_ext [index19]
  exact (congrArg (out0_19 _ _ _ _ _ _ _) hy).trans ((val19 m c t _ _).trans (congrArg (ref19 m c) he).symm)

/-- The plain result of window 20's array. -/
def ref20 : Vec Ideal S4x32x4096 .f32 := Cert.Reference3Ideal.Read.val_main_v157 (F := Ideal) (m ((c : Thread nD τ).loc main_arg0)) (m ((c : Thread nD τ).loc main_arg1))

theorem index20 : ∀ t : Fin cfg0.N, win0_20.index t = ![t.val / 8, 0, t.val % 8] := (by decide +kernel : ∀ t : Fin grid0.N, _)

theorem final20 : (dats m 0 c).arrAt 20 cfg0.N = ref20 m c := by
  refine (dats m 0 c).arrAt_eq_of_covers 20 _ (by decide +kernel) fun t hf y => ?_
  blk_simp
  rw [after0_20]
  have y0 : (y 0).val < 1 := (y 0).isLt
  have y1 : (y 1).val < 32 := (y 1).isLt
  have y2 : (y 2).val < 512 := (y 2).isLt
  have hy : (y : S1x32x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_20.blk t).view.emb y = ix3 (bOf t ⟨(y 2).val, y2⟩) ⟨(y 1).val, y1⟩ (iOf t ⟨(y 2).val, y2⟩) := by
    unfold bOf iOf
    blk_ext [index20]
  exact (congrArg (out0_20 _ _ _ _ _ _ _) hy).trans ((val20 m c t _ _).trans (congrArg (ref20 m c) he).symm)

/-- The plain result of window 21's array. -/
def ref21 : Vec Ideal S4x8x4096 .f32 := Cert.Reference3Ideal.Read.val_main_v158 (F := Ideal) (m ((c : Thread nD τ).loc main_arg0)) (m ((c : Thread nD τ).loc main_arg1)) (m ((c : Thread nD τ).loc main_arg2))

theorem index21 : ∀ t : Fin cfg0.N, win0_21.index t = ![t.val / 8, 0, t.val % 8] := (by decide +kernel : ∀ t : Fin grid0.N, _)

theorem final21 : (dats m 0 c).arrAt 21 cfg0.N = ref21 m c := by
  refine (dats m 0 c).arrAt_eq_of_covers 21 _ (by decide +kernel) fun t hf y => ?_
  blk_simp
  rw [after0_21]
  have y0 : (y 0).val < 1 := (y 0).isLt
  have y1 : (y 1).val < 8 := (y 1).isLt
  have y2 : (y 2).val < 512 := (y 2).isLt
  have hy : (y : S1x8x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_21.blk t).view.emb y = ix3 (bOf t ⟨(y 2).val, y2⟩) ⟨(y 1).val, y1⟩ (iOf t ⟨(y 2).val, y2⟩) := by
    unfold bOf iOf
    blk_ext [index21]
  exact (congrArg (out0_21 _ _ _ _ _ _ _) hy).trans ((val21 m c t _ _).trans (congrArg (ref21 m c) he).symm)

/-- The plain result of window 22's array. -/
def ref22 : Vec Ideal S4x8x4096 .f32 := Cert.Reference3Ideal.Read.val_main_v159 (F := Ideal) (m ((c : Thread nD τ).loc main_arg0)) (m ((c : Thread nD τ).loc main_arg1))

theorem index22 : ∀ t : Fin cfg0.N, win0_22.index t = ![t.val / 8, 0, t.val % 8] := (by decide +kernel : ∀ t : Fin grid0.N, _)

theorem final22 : (dats m 0 c).arrAt 22 cfg0.N = ref22 m c := by
  refine (dats m 0 c).arrAt_eq_of_covers 22 _ (by decide +kernel) fun t hf y => ?_
  blk_simp
  rw [after0_22]
  have y0 : (y 0).val < 1 := (y 0).isLt
  have y1 : (y 1).val < 8 := (y 1).isLt
  have y2 : (y 2).val < 512 := (y 2).isLt
  have hy : (y : S1x8x512.Idx) = ix3 0 ⟨(y 1).val, y1⟩ ⟨(y 2).val, y2⟩ := by
    funext a
    match a with
    | ⟨0, _⟩ => exact Fin.ext (by show (y 0).val = 0; omega)
    | ⟨1, _⟩ => rfl
    | ⟨2, _⟩ => rfl
  have he : (win0_22.blk t).view.emb y = ix3 (bOf t ⟨(y 2).val, y2⟩) ⟨(y 1).val, y1⟩ (iOf t ⟨(y 2).val, y2⟩) := by
    unfold bOf iOf
    blk_ext [index22]
  exact (congrArg (out0_22 _ _ _ _ _ _ _) hy).trans ((val22 m c t _ _).trans (congrArg (ref22 m c) he).symm)

variable (ρ : Dev nD → PrngReg)

/-- The run: every result is the plain one and the arguments are as launched. -/
theorem run_values : θ_run defs (onTc (τ := τ) (main (F := Ideal))) ⟨m, fun _ => 0, ρ⟩ fun r => ∀ c : Dev nD,
      r.2.mem ((c.tc : Thread nD τ).loc main_v73_4) = ref11 m c
      ∧ r.2.mem ((c.tc : Thread nD τ).loc main_v73_5) = ref12 m c
      ∧ r.2.mem ((c.tc : Thread nD τ).loc main_v73_6) = ref13 m c
      ∧ r.2.mem ((c.tc : Thread nD τ).loc main_v73_9) = ref16 m c
      ∧ r.2.mem ((c.tc : Thread nD τ).loc main_v73_10) = ref17 m c
      ∧ r.2.mem ((c.tc : Thread nD τ).loc main_v73_11) = ref18 m c
      ∧ r.2.mem ((c.tc : Thread nD τ).loc main_v73_12) = ref19 m c
      ∧ r.2.mem ((c.tc : Thread nD τ).loc main_v73_13) = ref20 m c
      ∧ r.2.mem ((c.tc : Thread nD τ).loc main_v73_14) = ref21 m c
      ∧ r.2.mem ((c.tc : Thread nD τ).loc main_v73_15) = ref22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 11).trans (final11 m c),
      ((h c).1 12).trans (final12 m c),
      ((h c).1 13).trans (final13 m c),
      ((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel3Ideal.Project

end
-- ==== Proof.lean ====
/-
  The attention of one layer, the layer's second half and the projections before the mixers: their programs run to the end with their arguments unchanged,
  the named constants change nothing but what they name, and over the extended reals each kernel's result is the plain
  program's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Fox.FrameKernel
public import proofs.«01_k».proof.Proof.Fox.FrameKernelIdeal
public import proofs.«01_k».proof.Proof.Fox.Pre
public import proofs.«01_k».proof.Proof.Fox.Value
public import proofs.«01_k».proof.Proof.Finish.Value
public import proofs.«01_k».proof.Proof.Project.FrameKernel3
public import proofs.«01_k».proof.Proof.Project.Value
public import Idealize.ShloMosaic.Adequacy
public import Idealize.ShloMosaic.Init

@[expose] public section

noncomputable section

namespace Cert.Proof

open Idealize.ShloMosaic Idealize.SL.Sem

/-- The plain attention runs to the end, its arguments unchanged; it names no counter. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- From equal arguments whose entries are finite, the kernel and the plain attention end with equal results. -/
theorem attention_eq : Cert.algebraic_KernelIdeal_ReferenceIdeal_pre_finite_args := fun m g m' g' hp ha =>
  ⟨fun c => Cert.KernelIdeal.Fox.refBuf m c,
    Cert.KernelIdeal.Fox.kernel_run m g fun c => Cert.KernelIdeal.Fox.reals_of _ _ _ _ (hp c),
    (θ_run _ _ _).mono (fun r h c => ⟨by
        refine (h c).1.trans ((Cert.ReferenceIdeal.Read.val_main_v32_eq m' c).trans ?_)
        rw [(ha c).1, (ha c).2.1, (ha c).2.2.1, (ha c).2.2.2]
        rfl, (h c).2⟩) (Cert.ReferenceIdeal.Value.run (F := Ideal) m' g')⟩

/-- The plain second half of the layer runs to the end, its arguments unchanged; it names no counter. -/
theorem frame_reference2 : Cert.quiescent_Reference2Ideal := fun m g _ =>
  (θ_run _ _ _).mono (fun r h => ⟨fun c => (h c).2, sem_eq_zero_of_no_sems (by decide) r.2⟩)
    (Cert.Reference2Ideal.Value.run (F := Ideal) m g)

/-- The plain second half of the layer is a function of its arguments. -/
theorem plain_congr {x0 y0 : FVec Ideal Cert.Reference2Ideal.S4x4096x1024 .f32} {x1 y1 : FVec Ideal Cert.Reference2Ideal.S4x4096x512 .bf16} {x2 y2 : FVec Ideal Cert.Reference2Ideal.S4x4096x512 .bf16} {x3 y3 : FVec Ideal Cert.Reference2Ideal.S4x4096x256 .f32} {x4 y4 : FVec Ideal Cert.Reference2Ideal.S1024x1024 .f32} {x5 y5 : FVec Ideal Cert.Reference2Ideal.S1024 .f32} {x6 y6 : FVec Ideal Cert.Reference2Ideal.S1024 .f32} {x7 y7 : FVec Ideal Cert.Reference2Ideal.S1024x4096 .f32} {x8 y8 : FVec Ideal Cert.Reference2Ideal.S4096x1024 .f32} {x9 y9 : FVec Ideal Cert.Reference2Ideal.S1024 .f32} {x10 y10 : FVec Ideal Cert.Reference2Ideal.S1024 .f32} {x11 y11 : FVec Ideal Cert.Reference2Ideal.S256x1024 .f32} {x12 y12 : FVec Ideal Cert.Reference2Ideal.S1024x1024 .f32} {x13 y13 : FVec Ideal Cert.Reference2Ideal.S1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    Cert.Reference2Ideal.Read.val_main_v74 (F := Ideal) x0 x1 x2 x3 x4 x5 x6 x7 x8 x9 x10 x11 x12 x13 = Cert.Reference2Ideal.Read.val_main_v74 (F := Ideal) y0 y1 y2 y3 y4 y5 y6 y7 y8 y9 y10 y11 y12 y13 := by
  rw [h0, h1, h2, h3, h4, h5, h6, h7, h8, h9, h10, h11, h12, h13]

/-- From equal arguments, the kernel of the layer's second half and the plain program end with equal results. -/
theorem finish_eq : Cert.algebraic_Kernel2Ideal_Reference2Ideal := fun m g m' g' _ ha =>
  ⟨fun c => Cert.Kernel2Ideal.Finish.refBuf m c,
    (θ_run _ _ _).mono (fun r h c => ⟨(h c).1.trans (Cert.Kernel2Ideal.Finish.final m c), (h c).2⟩)
      (Cert.Kernel2Ideal.Value.run_blocks (F := Ideal) m g),
    (θ_run _ _ _).mono (fun r h c => ⟨by
        refine (h c).1.trans ((Cert.Reference2Ideal.Read.val_main_v74_eq _).trans ?_)
        obtain ⟨a0, a1, a2, a3, a4, a5, a6, a7, a8, a9, a10, a11, a12, a13⟩ := ha c
        exact plain_congr a0 a1 a2 a3 a4 a5 a6 a7 a8 a9 a10 a11 a12 a13, (h c).2⟩) (Cert.Reference2Ideal.Value.run (F := Ideal) m' g')⟩

/-- A function of the tokens and the weights, at equal arguments. -/
theorem weights_congr {α β γ : Type} (f : α → β → γ) {x y : α} {w v : β} (hx : x = y) (hw : w = v) : f x w = f y v := by
  rw [hx, hw]

/-- The plain forget gates, at equal arguments. -/
theorem gates_congr {x y : FVec Ideal Cert.Reference3Ideal.S4x4096x1024 .f32} {w v : FVec Ideal Cert.Reference3Ideal.S1024x3376 .f32}
    {b a : FVec Ideal Cert.Reference3Ideal.S8 .f32} (hx : x = y) (hw : w = v) (hb : b = a) :
    Cert.Reference3Ideal.Read.val_main_v158 (F := Ideal) x w b = Cert.Reference3Ideal.Read.val_main_v158 (F := Ideal) y v a := by
  rw [hx, hw, hb]

/-- The plain projections run to the end, their arguments unchanged; they name no counter. -/
theorem frame_reference3 : Cert.quiescent_Reference3Ideal := fun m g _ =>
  (θ_run _ _ _).mono (fun r h => ⟨fun c => (h c).2.2.2.2.2.2.2.2.2.2, sem_eq_zero_of_no_sems (by decide) r.2⟩)
    (Cert.Reference3Ideal.Value.run (F := Ideal) m g)

/-- From equal arguments, the projection kernel and the plain projections end with equal results. -/
theorem project_eq : Cert.algebraic_Kernel3Ideal_Reference3Ideal := fun m g m' g' _ ha =>
  ⟨fun c => Cert.Kernel3Ideal.Project.ref11 m c,
    fun c => Cert.Kernel3Ideal.Project.ref12 m c,
    fun c => Cert.Kernel3Ideal.Project.ref13 m c,
    fun c => Cert.Kernel3Ideal.Project.ref16 m c,
    fun c => Cert.Kernel3Ideal.Project.ref17 m c,
    fun c => Cert.Kernel3Ideal.Project.ref18 m c,
    fun c => Cert.Kernel3Ideal.Project.ref19 m c,
    fun c => Cert.Kernel3Ideal.Project.ref20 m c,
    fun c => Cert.Kernel3Ideal.Project.ref21 m c,
    fun c => Cert.Kernel3Ideal.Project.ref22 m c,
    Cert.Kernel3Ideal.Project.run_values m g,
    (θ_run _ _ _).mono (fun r h c => by
        obtain ⟨a0, a1, a2⟩ := ha c
        obtain ⟨h143, h148, h151, h152, h153, h155, h156, h157, h158, h159, hargs⟩ := h c
        exact ⟨h143.trans ((Cert.Reference3Ideal.Read.val_main_v143_eq _).trans (weights_congr (Cert.Reference3Ideal.Read.val_main_v143 (F := Ideal)) a0 a1)),
          h148.trans ((Cert.Reference3Ideal.Read.val_main_v148_eq _).trans (weights_congr (Cert.Reference3Ideal.Read.val_main_v148 (F := Ideal)) a0 a1)),
          h151.trans ((Cert.Reference3Ideal.Read.val_main_v151_eq _).trans (weights_congr (Cert.Reference3Ideal.Read.val_main_v151 (F := Ideal)) a0 a1)),
          h152.trans ((Cert.Reference3Ideal.Read.val_main_v152_eq _).trans (weights_congr (Cert.Reference3Ideal.Read.val_main_v152 (F := Ideal)) a0 a1)),
          h153.trans ((Cert.Reference3Ideal.Read.val_main_v153_eq _).trans (weights_congr (Cert.Reference3Ideal.Read.val_main_v153 (F := Ideal)) a0 a1)),
          h155.trans ((Cert.Reference3Ideal.Read.val_main_v155_eq _).trans (weights_congr (Cert.Reference3Ideal.Read.val_main_v155 (F := Ideal)) a0 a1)),
          h156.trans ((Cert.Reference3Ideal.Read.val_main_v156_eq _).trans (weights_congr (Cert.Reference3Ideal.Read.val_main_v156 (F := Ideal)) a0 a1)),
          h157.trans ((Cert.Reference3Ideal.Read.val_main_v157_eq _).trans (weights_congr (Cert.Reference3Ideal.Read.val_main_v157 (F := Ideal)) a0 a1)),
          h158.trans ((Cert.Reference3Ideal.Read.val_main_v158_eq _).trans (gates_congr a0 a1 a2)),
          h159.trans ((Cert.Reference3Ideal.Read.val_main_v159_eq _).trans (weights_congr (Cert.Reference3Ideal.Read.val_main_v159 (F := Ideal)) a0 a1)),
          hargs⟩)
      (Cert.Reference3Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.KernelIdeal.Fox.preFacts,
  fun m g _ => Cert.Kernel.Fox.frame_quiescent m g,
  fun m g _ => Cert.KernelIdeal.Fox.frame_quiescent m g,
  fun m g _ => Cert.KernelIdeal.Fox.frame_quiescent m g,
  frame_reference,
  fun m g _ => frame_reference m g trivial,
  fun m g _ => Cert.Kernel2.Gen.frame m g,
  fun m g _ => Cert.Kernel2Ideal.Gen.frame m g,
  frame_reference2,
  fun m g _ => Cert.Kernel3.Project.frame m g,
  fun m g _ => Cert.Kernel3Ideal.Project.frame m g,
  frame_reference3,
  ⟨IdealRules.named_const.statement Cert.KernelIdeal.κ "log2e" .f32 0x3FB8AA3B#32 _ rfl,
    IdealRules.named_const.statement Cert.KernelIdeal.κ "mask" .f32 0xF149F2CA#32 ⊥ rfl⟩,
  attention_eq,
  trivial,
  finish_eq,
  trivial,
  project_eq⟩

end Cert.Proof

end
